-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x10x10x3x85 : Shape := ⟨5, ![1, 10, 10, 3, 85]⟩
abbrev S1x20x20x3x85 : Shape := ⟨5, ![1, 20, 20, 3, 85]⟩
abbrev S1x40x40x3x85 : Shape := ⟨5, ![1, 40, 40, 3, 85]⟩
abbrev S6x8x800 : Shape := ⟨3, ![6, 8, 800]⟩
abbrev S300x85 : Shape := ⟨2, ![300, 85]⟩
abbrev S1200x85 : Shape := ⟨2, ![1200, 85]⟩
abbrev S4800x85 : Shape := ⟨2, ![4800, 85]⟩
abbrev S6300x85 : Shape := ⟨2, ![6300, 85]⟩
abbrev S_ : Shape := ⟨0, ![]⟩
abbrev S6400x85 : Shape := ⟨2, ![6400, 85]⟩
abbrev S85x6400 : Shape := ⟨2, ![85, 6400]⟩
abbrev S85x8x800 : Shape := ⟨3, ![85, 8, 800]⟩
abbrev S100x4 : Shape := ⟨2, ![100, 4]⟩
abbrev S100x1 : Shape := ⟨2, ![100, 1]⟩
abbrev S1x1 : Shape := ⟨2, ![1, 1]⟩
abbrev S1x8x800 : Shape := ⟨3, ![1, 8, 800]⟩
abbrev S8x800 : Shape := ⟨2, ![8, 800]⟩
abbrev S1 : Shape := ⟨1, ![1]⟩
abbrev S1x1x1 : Shape := ⟨3, ![1, 1, 1]⟩
abbrev S1x4 : Shape := ⟨2, ![1, 4]⟩
abbrev S1x100x4 : Shape := ⟨3, ![1, 100, 4]⟩
abbrev S100 : Shape := ⟨1, ![100]⟩
abbrev S1x100 : Shape := ⟨2, ![1, 100]⟩

abbrev nBuf : Space → Nat
  | .hbm => 24
  | .vmem => 6
  | .smem => 0
  | _ => 0

abbrev bufTy : (tb : Table) → Fin (tcTables nBuf tb) → BufTy
  | .hbm, ⟨0, _⟩ => ⟨S1x10x10x3x85, .f32⟩
  | .hbm, ⟨1, _⟩ => ⟨S1x20x20x3x85, .f32⟩
  | .hbm, ⟨2, _⟩ => ⟨S1x40x40x3x85, .f32⟩
  | .hbm, ⟨3, _⟩ => ⟨S6x8x800, .f32⟩
  | .hbm, ⟨4, _⟩ => ⟨S300x85, .f32⟩
  | .hbm, ⟨5, _⟩ => ⟨S1200x85, .f32⟩
  | .hbm, ⟨6, _⟩ => ⟨S4800x85, .f32⟩
  | .hbm, ⟨7, _⟩ => ⟨S6300x85, .f32⟩
  | .hbm, ⟨8, _⟩ => ⟨S_, .i32⟩
  | .hbm, ⟨9, _⟩ => ⟨S_, .f32⟩
  | .hbm, ⟨10, _⟩ => ⟨S6400x85, .f32⟩
  | .hbm, ⟨11, _⟩ => ⟨S85x6400, .f32⟩
  | .hbm, ⟨12, _⟩ => ⟨S85x8x800, .f32⟩
  | .hbm, ⟨13, _⟩ => ⟨S100x4, .f32⟩
  | .hbm, ⟨14, _⟩ => ⟨S100x1, .f32⟩
  | .hbm, ⟨15, _⟩ => ⟨S100x1, .f32⟩
  | .hbm, ⟨16, _⟩ => ⟨S1x1, .i32⟩
  | .hbm, ⟨17, _⟩ => ⟨S1x100x4, .f32⟩
  | .hbm, ⟨18, _⟩ => ⟨S100, .f32⟩
  | .hbm, ⟨19, _⟩ => ⟨S1x100, .f32⟩
  | .hbm, ⟨20, _⟩ => ⟨S100, .f32⟩
  | .hbm, ⟨21, _⟩ => ⟨S100, .i32⟩
  | .hbm, ⟨22, _⟩ => ⟨S1x100, .i32⟩
  | .hbm, ⟨23, _⟩ => ⟨S1, .i32⟩
  | .local _ .vmem, ⟨0, _⟩ => ⟨S85x8x800, .f32⟩
  | .local _ .vmem, ⟨1, _⟩ => ⟨S6x8x800, .f32⟩
  | .local _ .vmem, ⟨2, _⟩ => ⟨S100x4, .f32⟩
  | .local _ .vmem, ⟨3, _⟩ => ⟨S100x1, .f32⟩
  | .local _ .vmem, ⟨4, _⟩ => ⟨S100x1, .f32⟩
  | .local _ .vmem, ⟨5, _⟩ => ⟨S1x1, .i32⟩
  | _, _ => ⟨S1x10x10x3x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_286 : BitVec 32 := 0#32
  let c100_i32 : BitVec 32 := 100#32
  let v557 : BitVec 32 := Scalar.addi c0_i32_286 c100_i32
  let c1_i32 : BitVec 32 := 1#32
  ⟨c0_i32_286, v557, c1_i32⟩
def k0_off1 (k0_t1 : Fin k0_t1_loop.trips) : Fin 2 → Nat :=
  let c0_i32_286 : BitVec 32 := 0#32
  let c1_i32 : BitVec 32 := 1#32
  let arg6 : BitVec 32 := Scf.iv c0_i32_286 c1_i32 k0_t1
  let v659 : Index := Scalar.indexCast arg6
  let c0_315 : Index := 0#32
  ![v659.toNat, 0]
def k0_off2 (k0_t1 : Fin k0_t1_loop.trips) : Fin 2 → Nat :=
  let c0_i32_286 : BitVec 32 := 0#32
  let c1_i32 : BitVec 32 := 1#32
  let arg6 : BitVec 32 := Scf.iv c0_i32_286 c1_i32 k0_t1
  let v663 : Index := Scalar.indexCast arg6
  let c0_317 : Index := 0#32
  ![v663.toNat, 0]
abbrev stage0_0 : Fin 1 → Memref sig .tc .vmem S85x8x800 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x8x800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S100x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S100x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S100x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x10x10x3x85 : Shape := ⟨5, ![1, 10, 10, 3, 85]⟩
abbrev S1x20x20x3x85 : Shape := ⟨5, ![1, 20, 20, 3, 85]⟩
abbrev S1x40x40x3x85 : Shape := ⟨5, ![1, 40, 40, 3, 85]⟩
abbrev S3x2 : Shape := ⟨2, ![3, 2]⟩
abbrev S2 : Shape := ⟨1, ![2]⟩
abbrev S1x10x10x3x2 : Shape := ⟨5, ![1, 10, 10, 3, 2]⟩
abbrev S1x10x10x3x1 : Shape := ⟨5, ![1, 10, 10, 3, 1]⟩
abbrev S1x10x10x3x80 : Shape := ⟨5, ![1, 10, 10, 3, 80]⟩
abbrev S1x20x20x3x2 : Shape := ⟨5, ![1, 20, 20, 3, 2]⟩
abbrev S1x20x20x3x1 : Shape := ⟨5, ![1, 20, 20, 3, 1]⟩
abbrev S1x20x20x3x80 : Shape := ⟨5, ![1, 20, 20, 3, 80]⟩
abbrev S1x40x40x3x2 : Shape := ⟨5, ![1, 40, 40, 3, 2]⟩
abbrev S1x40x40x3x1 : Shape := ⟨5, ![1, 40, 40, 3, 1]⟩
abbrev S1x40x40x3x80 : Shape := ⟨5, ![1, 40, 40, 3, 80]⟩
abbrev S1x1x1x3x2 : Shape := ⟨5, ![1, 1, 1, 3, 2]⟩
abbrev S10 : Shape := ⟨1, ![10]⟩
abbrev S10x10 : Shape := ⟨2, ![10, 10]⟩
abbrev S10x10x1 : Shape := ⟨3, ![10, 10, 1]⟩
abbrev S10x10x2 : Shape := ⟨3, ![10, 10, 2]⟩
abbrev S10x10x1x2 : Shape := ⟨4, ![10, 10, 1, 2]⟩
abbrev S1x10x10x1x2 : Shape := ⟨5, ![1, 10, 10, 1, 2]⟩
abbrev S1x1x1x1x2 : Shape := ⟨5, ![1, 1, 1, 1, 2]⟩
abbrev S_ : Shape := ⟨0, ![]⟩
abbrev S1x10x10x3x4 : Shape := ⟨5, ![1, 10, 10, 3, 4]⟩
abbrev S20 : Shape := ⟨1, ![20]⟩
abbrev S20x20 : Shape := ⟨2, ![20, 20]⟩
abbrev S20x20x1 : Shape := ⟨3, ![20, 20, 1]⟩
abbrev S20x20x2 : Shape := ⟨3, ![20, 20, 2]⟩
abbrev S20x20x1x2 : Shape := ⟨4, ![20, 20, 1, 2]⟩
abbrev S1x20x20x1x2 : Shape := ⟨5, ![1, 20, 20, 1, 2]⟩
abbrev S1x20x20x3x4 : Shape := ⟨5, ![1, 20, 20, 3, 4]⟩
abbrev S40 : Shape := ⟨1, ![40]⟩
abbrev S40x40 : Shape := ⟨2, ![40, 40]⟩
abbrev S40x40x1 : Shape := ⟨3, ![40, 40, 1]⟩
abbrev S40x40x2 : Shape := ⟨3, ![40, 40, 2]⟩
abbrev S40x40x1x2 : Shape := ⟨4, ![40, 40, 1, 2]⟩
abbrev S1x40x40x1x2 : Shape := ⟨5, ![1, 40, 40, 1, 2]⟩
abbrev S1x40x40x3x4 : Shape := ⟨5, ![1, 40, 40, 3, 4]⟩
abbrev S1x300x4 : Shape := ⟨3, ![1, 300, 4]⟩
abbrev S1x1200x4 : Shape := ⟨3, ![1, 1200, 4]⟩
abbrev S1x4800x4 : Shape := ⟨3, ![1, 4800, 4]⟩
abbrev S1x6300x4 : Shape := ⟨3, ![1, 6300, 4]⟩
abbrev S1x300x1 : Shape := ⟨3, ![1, 300, 1]⟩
abbrev S1x1200x1 : Shape := ⟨3, ![1, 1200, 1]⟩
abbrev S1x4800x1 : Shape := ⟨3, ![1, 4800, 1]⟩
abbrev S1x6300x1 : Shape := ⟨3, ![1, 6300, 1]⟩
abbrev S1x300x80 : Shape := ⟨3, ![1, 300, 80]⟩
abbrev S1x1200x80 : Shape := ⟨3, ![1, 1200, 80]⟩
abbrev S1x4800x80 : Shape := ⟨3, ![1, 4800, 80]⟩
abbrev S1x6300x80 : Shape := ⟨3, ![1, 6300, 80]⟩
abbrev S6300x80 : Shape := ⟨2, ![6300, 80]⟩
abbrev S6300 : Shape := ⟨1, ![6300]⟩
abbrev S1x1x6300 : Shape := ⟨3, ![1, 1, 6300]⟩
abbrev S1x6300x6300 : Shape := ⟨3, ![1, 6300, 6300]⟩
abbrev S6300x6300 : Shape := ⟨2, ![6300, 6300]⟩
abbrev S6300x4 : Shape := ⟨2, ![6300, 4]⟩
abbrev S6300x1 : Shape := ⟨2, ![6300, 1]⟩
abbrev S100x4 : Shape := ⟨2, ![100, 4]⟩
abbrev S100 : Shape := ⟨1, ![100]⟩
abbrev S1 : Shape := ⟨1, ![1]⟩
abbrev S1x4 : Shape := ⟨2, ![1, 4]⟩
abbrev S4 : Shape := ⟨1, ![4]⟩
abbrev S100x1 : Shape := ⟨2, ![100, 1]⟩
abbrev S1x100x4 : Shape := ⟨3, ![1, 100, 4]⟩
abbrev S1x100 : Shape := ⟨2, ![1, 100]⟩

abbrev nBuf : Space → Nat
  | .hbm => 347
  | .vmem => 0
  | .smem => 0
  | _ => 0

abbrev hbmTy0_0 (i : Nat) : BufTy := match i % 128 with
  | 0 => ⟨S1x10x10x3x85, .f32⟩
  | 1 => ⟨S1x20x20x3x85, .f32⟩
  | 2 => ⟨S1x40x40x3x85, .f32⟩
  | 3 => ⟨S3x2, .f32⟩
  | 4 => ⟨S2, .f32⟩
  | 5 => ⟨S3x2, .f32⟩
  | 6 => ⟨S2, .f32⟩
  | 7 => ⟨S3x2, .f32⟩
  | 8 => ⟨S2, .f32⟩
  | 9 => ⟨S1x10x10x3x2, .f32⟩
  | 10 => ⟨S1x10x10x3x2, .f32⟩
  | 11 => ⟨S1x10x10x3x1, .f32⟩
  | 12 => ⟨S1x10x10x3x80, .f32⟩
  | 13 => ⟨S1x20x20x3x2, .f32⟩
  | 14 => ⟨S1x20x20x3x2, .f32⟩
  | 15 => ⟨S1x20x20x3x1, .f32⟩
  | 16 => ⟨S1x20x20x3x80, .f32⟩
  | 17 => ⟨S1x40x40x3x2, .f32⟩
  | 18 => ⟨S1x40x40x3x2, .f32⟩
  | 19 => ⟨S1x40x40x3x1, .f32⟩
  | 20 => ⟨S1x40x40x3x80, .f32⟩
  | 21 => ⟨S1x10x10x3x2, .f32⟩
  | 22 => ⟨S1x1x1x3x2, .f32⟩
  | 23 => ⟨S1x10x10x3x2, .f32⟩
  | 24 => ⟨S1x10x10x3x2, .f32⟩
  | 25 => ⟨S10, .i32⟩
  | 26 => ⟨S10, .i32⟩
  | 27 => ⟨S10x10, .i32⟩
  | 28 => ⟨S10x10, .i32⟩
  | 29 => ⟨S10x10x1, .i32⟩
  | 30 => ⟨S10x10x1, .i32⟩
  | 31 => ⟨S10x10x2, .i32⟩
  | 32 => ⟨S10x10x1x2, .i32⟩
  | 33 => ⟨S10x10x1x2, .f32⟩
  | 34 => ⟨S1x10x10x1x2, .f32⟩
  | 35 => ⟨S1x10x10x3x2, .f32⟩
  | 36 => ⟨S1x10x10x3x2, .f32⟩
  | 37 => ⟨S1x1x1x1x2, .f32⟩
  | 38 => ⟨S1x10x10x3x2, .f32⟩
  | 39 => ⟨S1x10x10x3x2, .f32⟩
  | 40 => ⟨S_, .f32⟩
  | 41 => ⟨S1x10x10x3x2, .f32⟩
  | 42 => ⟨S1x10x10x3x2, .f32⟩
  | 43 => ⟨S1x10x10x3x2, .f32⟩
  | 44 => ⟨S_, .f32⟩
  | 45 => ⟨S1x10x10x3x2, .f32⟩
  | 46 => ⟨S1x10x10x3x2, .f32⟩
  | 47 => ⟨S1x10x10x3x2, .f32⟩
  | 48 => ⟨S1x10x10x3x4, .f32⟩
  | 49 => ⟨S1x20x20x3x2, .f32⟩
  | 50 => ⟨S1x1x1x3x2, .f32⟩
  | 51 => ⟨S1x20x20x3x2, .f32⟩
  | 52 => ⟨S1x20x20x3x2, .f32⟩
  | 53 => ⟨S20, .i32⟩
  | 54 => ⟨S20, .i32⟩
  | 55 => ⟨S20x20, .i32⟩
  | 56 => ⟨S20x20, .i32⟩
  | 57 => ⟨S20x20x1, .i32⟩
  | 58 => ⟨S20x20x1, .i32⟩
  | 59 => ⟨S20x20x2, .i32⟩
  | 60 => ⟨S20x20x1x2, .i32⟩
  | 61 => ⟨S20x20x1x2, .f32⟩
  | 62 => ⟨S1x20x20x1x2, .f32⟩
  | 63 => ⟨S1x20x20x3x2, .f32⟩
  | 64 => ⟨S1x20x20x3x2, .f32⟩
  | 65 => ⟨S1x1x1x1x2, .f32⟩
  | 66 => ⟨S1x20x20x3x2, .f32⟩
  | 67 => ⟨S1x20x20x3x2, .f32⟩
  | 68 => ⟨S_, .f32⟩
  | 69 => ⟨S1x20x20x3x2, .f32⟩
  | 70 => ⟨S1x20x20x3x2, .f32⟩
  | 71 => ⟨S1x20x20x3x2, .f32⟩
  | 72 => ⟨S_, .f32⟩
  | 73 => ⟨S1x20x20x3x2, .f32⟩
  | 74 => ⟨S1x20x20x3x2, .f32⟩
  | 75 => ⟨S1x20x20x3x2, .f32⟩
  | 76 => ⟨S1x20x20x3x4, .f32⟩
  | 77 => ⟨S1x40x40x3x2, .f32⟩
  | 78 => ⟨S1x1x1x3x2, .f32⟩
  | 79 => ⟨S1x40x40x3x2, .f32⟩
  | 80 => ⟨S1x40x40x3x2, .f32⟩
  | 81 => ⟨S40, .i32⟩
  | 82 => ⟨S40, .i32⟩
  | 83 => ⟨S40x40, .i32⟩
  | 84 => ⟨S40x40, .i32⟩
  | 85 => ⟨S40x40x1, .i32⟩
  | 86 => ⟨S40x40x1, .i32⟩
  | 87 => ⟨S40x40x2, .i32⟩
  | 88 => ⟨S40x40x1x2, .i32⟩
  | 89 => ⟨S40x40x1x2, .f32⟩
  | 90 => ⟨S1x40x40x1x2, .f32⟩
  | 91 => ⟨S1x40x40x3x2, .f32⟩
  | 92 => ⟨S1x40x40x3x2, .f32⟩
  | 93 => ⟨S1x1x1x1x2, .f32⟩
  | 94 => ⟨S1x40x40x3x2, .f32⟩
  | 95 => ⟨S1x40x40x3x2, .f32⟩
  | 96 => ⟨S_, .f32⟩
  | 97 => ⟨S1x40x40x3x2, .f32⟩
  | 98 => ⟨S1x40x40x3x2, .f32⟩
  | 99 => ⟨S1x40x40x3x2, .f32⟩
  | 100 => ⟨S_, .f32⟩
  | 101 => ⟨S1x40x40x3x2, .f32⟩
  | 102 => ⟨S1x40x40x3x2, .f32⟩
  | 103 => ⟨S1x40x40x3x2, .f32⟩
  | 104 => ⟨S1x40x40x3x4, .f32⟩
  | 105 => ⟨S1x300x4, .f32⟩
  | 106 => ⟨S1x1200x4, .f32⟩
  | 107 => ⟨S1x4800x4, .f32⟩
  | 108 => ⟨S1x6300x4, .f32⟩
  | 109 => ⟨S1x300x1, .f32⟩
  | 110 => ⟨S1x1200x1, .f32⟩
  | 111 => ⟨S1x4800x1, .f32⟩
  | 112 => ⟨S1x6300x1, .f32⟩
  | 113 => ⟨S1x300x80, .f32⟩
  | 114 => ⟨S1x1200x80, .f32⟩
  | 115 => ⟨S1x4800x80, .f32⟩
  | 116 => ⟨S1x6300x80, .f32⟩
  | 117 => ⟨S6300x80, .f32⟩
  | 118 => ⟨S6300x80, .i32⟩
  | 119 => ⟨S_, .f32⟩
  | 120 => ⟨S_, .i32⟩
  | 121 => ⟨S6300, .f32⟩
  | 122 => ⟨S6300, .i32⟩
  | 123 => ⟨S_, .f32⟩
  | 124 => ⟨S6300, .f32⟩
  | 125 => ⟨S1x1x6300, .f32⟩
  | 126 => ⟨S1x6300x6300, .f32⟩
  | 127 => ⟨S1x6300x6300, .f32⟩
  | _ => ⟨S1x10x10x3x85, .f32⟩

abbrev hbmTy0_1 (i : Nat) : BufTy := match i % 128 with
  | 0 => ⟨S1x6300x6300, .f32⟩
  | 1 => ⟨S6300x6300, .f32⟩
  | 2 => ⟨S_, .f32⟩
  | 3 => ⟨S6300, .f32⟩
  | 4 => ⟨S6300x4, .f32⟩
  | 5 => ⟨S6300x1, .f32⟩
  | 6 => ⟨S6300, .f32⟩
  | 7 => ⟨S6300x1, .f32⟩
  | 8 => ⟨S6300, .f32⟩
  | 9 => ⟨S6300, .f32⟩
  | 10 => ⟨S_, .f32⟩
  | 11 => ⟨S6300, .f32⟩
  | 12 => ⟨S6300, .f32⟩
  | 13 => ⟨S6300x1, .f32⟩
  | 14 => ⟨S6300, .f32⟩
  | 15 => ⟨S6300x1, .f32⟩
  | 16 => ⟨S6300, .f32⟩
  | 17 => ⟨S6300, .f32⟩
  | 18 => ⟨S_, .f32⟩
  | 19 => ⟨S6300, .f32⟩
  | 20 => ⟨S6300, .f32⟩
  | 21 => ⟨S6300, .f32⟩
  | 22 => ⟨S_, .f32⟩
  | 23 => ⟨S6300, .f32⟩
  | 24 => ⟨S6300, .i1⟩
  | 25 => ⟨S_, .f32⟩
  | 26 => ⟨S_, .f32⟩
  | 27 => ⟨S6300, .f32⟩
  | 28 => ⟨S6300, .f32⟩
  | 29 => ⟨S_, .f32⟩
  | 30 => ⟨S100x4, .f32⟩
  | 31 => ⟨S_, .f32⟩
  | 32 => ⟨S100, .f32⟩
  | 33 => ⟨S_, .i32⟩
  | 34 => ⟨S100, .i32⟩
  | 35 => ⟨S_, .i32⟩
  | 36 => ⟨S_, .i32⟩
  | 37 => ⟨S_, .i32⟩
  | 38 => ⟨S6300x4, .f32⟩
  | 39 => ⟨S6300, .f32⟩
  | 40 => ⟨S_, .i32⟩
  | 41 => ⟨S_, .i32⟩
  | 42 => ⟨S6300, .f32⟩
  | 43 => ⟨S100x4, .f32⟩
  | 44 => ⟨S100, .f32⟩
  | 45 => ⟨S100, .i32⟩
  | 46 => ⟨S_, .i32⟩
  | 47 => ⟨S_, .i32⟩
  | 48 => ⟨S_, .i1⟩
  | 49 => ⟨S_, .i32⟩
  | 50 => ⟨S_, .i32⟩
  | 51 => ⟨S6300, .i32⟩
  | 52 => ⟨S_, .f32⟩
  | 53 => ⟨S_, .i32⟩
  | 54 => ⟨S_, .f32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S1, .f32⟩
  | 62 => ⟨S_, .f32⟩
  | 63 => ⟨S_, .f32⟩
  | 64 => ⟨S_, .i1⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S1x4, .f32⟩
  | 79 => ⟨S4, .f32⟩
  | 80 => ⟨S1, .f32⟩
  | 81 => ⟨S_, .f32⟩
  | 82 => ⟨S6300x1, .f32⟩
  | 83 => ⟨S6300, .f32⟩
  | 84 => ⟨S6300, .f32⟩
  | 85 => ⟨S6300, .f32⟩
  | 86 => ⟨S1, .f32⟩
  | 87 => ⟨S_, .f32⟩
  | 88 => ⟨S6300x1, .f32⟩
  | 89 => ⟨S6300, .f32⟩
  | 90 => ⟨S6300, .f32⟩
  | 91 => ⟨S6300, .f32⟩
  | 92 => ⟨S1, .f32⟩
  | 93 => ⟨S_, .f32⟩
  | 94 => ⟨S6300x1, .f32⟩
  | 95 => ⟨S6300, .f32⟩
  | 96 => ⟨S6300, .f32⟩
  | 97 => ⟨S6300, .f32⟩
  | 98 => ⟨S1, .f32⟩
  | 99 => ⟨S_, .f32⟩
  | 100 => ⟨S6300x1, .f32⟩
  | 101 => ⟨S6300, .f32⟩
  | 102 => ⟨S6300, .f32⟩
  | 103 => ⟨S6300, .f32⟩
  | 104 => ⟨S6300, .f32⟩
  | 105 => ⟨S_, .f32⟩
  | 106 => ⟨S6300, .f32⟩
  | 107 => ⟨S6300, .f32⟩
  | 108 => ⟨S6300, .f32⟩
  | 109 => ⟨S_, .f32⟩
  | 110 => ⟨S6300, .f32⟩
  | 111 => ⟨S6300, .f32⟩
  | 112 => ⟨S6300, .f32⟩
  | 113 => ⟨S1, .f32⟩
  | 114 => ⟨S_, .f32⟩
  | 115 => ⟨S1, .f32⟩
  | 116 => ⟨S_, .f32⟩
  | 117 => ⟨S_, .f32⟩
  | 118 => ⟨S_, .f32⟩
  | 119 => ⟨S_, .f32⟩
  | 120 => ⟨S1, .f32⟩
  | 121 => ⟨S_, .f32⟩
  | 122 => ⟨S1, .f32⟩
  | 123 => ⟨S_, .f32⟩
  | 124 => ⟨S_, .f32⟩
  | 125 => ⟨S_, .f32⟩
  | 126 => ⟨S_, .f32⟩
  | 127 => ⟨S_, .f32⟩
  | _ => ⟨S1x10x10x3x85, .f32⟩

abbrev hbmTy0_2 (i : Nat) : BufTy := match i % 128 with
  | 0 => ⟨S6300, .f32⟩
  | 1 => ⟨S6300, .f32⟩
  | 2 => ⟨S6300, .f32⟩
  | 3 => ⟨S_, .f32⟩
  | 4 => ⟨S6300, .f32⟩
  | 5 => ⟨S6300, .i1⟩
  | 6 => ⟨S_, .f32⟩
  | 7 => ⟨S_, .f32⟩
  | 8 => ⟨S6300, .f32⟩
  | 9 => ⟨S6300, .f32⟩
  | 10 => ⟨S_, .f32⟩
  | 11 => ⟨S6300, .f32⟩
  | 12 => ⟨S6300, .i1⟩
  | 13 => ⟨S6300, .f32⟩
  | 14 => ⟨S_, .f32⟩
  | 15 => ⟨S_, .f32⟩
  | 16 => ⟨S6300, .f32⟩
  | 17 => ⟨S6300, .f32⟩
  | 18 => ⟨S_, .f32⟩
  | 19 => ⟨S6300, .f32⟩
  | 20 => ⟨S6300, .i1⟩
  | 21 => ⟨S_, .f32⟩
  | 22 => ⟨S_, .f32⟩
  | 23 => ⟨S6300, .f32⟩
  | 24 => ⟨S6300, .f32⟩
  | 25 => ⟨S_, .i32⟩
  | 26 => ⟨S_, .i1⟩
  | 27 => ⟨S_, .i32⟩
  | 28 => ⟨S_, .i32⟩
  | 29 => ⟨S_, .i32⟩
  | 30 => ⟨S1, .i32⟩
  | 31 => ⟨S_, .f32⟩
  | 32 => ⟨S6300, .f32⟩
  | 33 => ⟨S_, .f32⟩
  | 34 => ⟨S4, .f32⟩
  | 35 => ⟨S4, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S1, .i32⟩
  | 43 => ⟨S100x4, .f32⟩
  | 44 => ⟨S_, .f32⟩
  | 45 => ⟨S_, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S1, .i32⟩
  | 53 => ⟨S100, .f32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S1, .i32⟩
  | 63 => ⟨S100, .i32⟩
  | 64 => ⟨S_, .i32⟩
  | 65 => ⟨S_, .i32⟩
  | 66 => ⟨S_, .i32⟩
  | 67 => ⟨S_, .i32⟩
  | 68 => ⟨S_, .i32⟩
  | 69 => ⟨S100, .i32⟩
  | 70 => ⟨S100, .i1⟩
  | 71 => ⟨S_, .i32⟩
  | 72 => ⟨S100, .i32⟩
  | 73 => ⟨S100, .i32⟩
  | 74 => ⟨S_, .i32⟩
  | 75 => ⟨S100, .i32⟩
  | 76 => ⟨S100, .i1⟩
  | 77 => ⟨S_, .i32⟩
  | 78 => ⟨S100, .i32⟩
  | 79 => ⟨S100, .i32⟩
  | 80 => ⟨S100, .i32⟩
  | 81 => ⟨S100x1, .i32⟩
  | 82 => ⟨S100, .i32⟩
  | 83 => ⟨S_, .i32⟩
  | 84 => ⟨S_, .i32⟩
  | 85 => ⟨S100, .i32⟩
  | 86 => ⟨S100, .i32⟩
  | 87 => ⟨S1x100x4, .f32⟩
  | 88 => ⟨S1x100, .f32⟩
  | 89 => ⟨S1x100, .i32⟩
  | 90 => ⟨S1, .i32⟩
  | _ => ⟨S1x10x10x3x85, .f32⟩

abbrev hbmTy (i : Nat) : BufTy := match i / 128 with
  | 0 => hbmTy0_0 i
  | 1 => hbmTy0_1 i
  | 2 => hbmTy0_2 i
  | _ => ⟨S1x10x10x3x85, .f32⟩

abbrev bufTy : (tb : Table) → Fin (tcTables nBuf tb) → BufTy
  | .hbm, ⟨i, _⟩ => hbmTy i
  | _, _ => ⟨S1x10x10x3x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_cst_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_7 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_8 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_9 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst_10 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_call0_v0 : Ref sig .tc := ⟨.hbm, 118, rfl⟩
abbrev main_call0_cst : Ref sig .tc := ⟨.hbm, 119, rfl⟩
abbrev main_call0_c : Ref sig .tc := ⟨.hbm, 120, rfl⟩
abbrev main_call0_v1_0 : Ref sig .tc := ⟨.hbm, 121, rfl⟩
abbrev main_v103 : Ref sig .tc := ⟨.hbm, 122, rfl⟩
abbrev main_cst_11 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_12 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_13 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_14 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_cst_15 : Ref sig .tc := ⟨.hbm, 150, rfl⟩
abbrev main_v127 : Ref sig .tc := ⟨.hbm, 151, rfl⟩
abbrev main_v128 : Ref sig .tc := ⟨.hbm, 152, rfl⟩
abbrev main_cst_16 : Ref sig .tc := ⟨.hbm, 153, rfl⟩
abbrev main_call1_v0 : Ref sig .tc := ⟨.hbm, 154, rfl⟩
abbrev main_call1_v1 : Ref sig .tc := ⟨.hbm, 155, rfl⟩
abbrev main_v129 : Ref sig .tc := ⟨.hbm, 156, rfl⟩
abbrev main_cst_17 : Ref sig .tc := ⟨.hbm, 157, rfl⟩
abbrev main_v130 : Ref sig .tc := ⟨.hbm, 158, rfl⟩
abbrev main_cst_18 : Ref sig .tc := ⟨.hbm, 159, rfl⟩
abbrev main_v131 : Ref sig .tc := ⟨.hbm, 160, rfl⟩
abbrev main_c : Ref sig .tc := ⟨.hbm, 161, rfl⟩
abbrev main_v132 : Ref sig .tc := ⟨.hbm, 162, rfl⟩
abbrev main_c_19 : Ref sig .tc := ⟨.hbm, 163, rfl⟩
abbrev main_c_20 : Ref sig .tc := ⟨.hbm, 164, rfl⟩
abbrev main_c_21 : Ref sig .tc := ⟨.hbm, 165, rfl⟩
abbrev main_v133_0 : Ref sig .tc := ⟨.hbm, 166, rfl⟩
abbrev main_v133_1 : Ref sig .tc := ⟨.hbm, 167, rfl⟩
abbrev main_v133_2 : Ref sig .tc := ⟨.hbm, 168, rfl⟩
abbrev main_v133_3 : Ref sig .tc := ⟨.hbm, 169, rfl⟩
abbrev main_v133_4 : Ref sig .tc := ⟨.hbm, 170, rfl⟩
abbrev main_v133_5 : Ref sig .tc := ⟨.hbm, 171, rfl⟩
abbrev main_v133_6 : Ref sig .tc := ⟨.hbm, 172, rfl⟩
abbrev main_v133_7 : Ref sig .tc := ⟨.hbm, 173, rfl⟩
abbrev main_v133_8 : Ref sig .tc := ⟨.hbm, 174, rfl⟩
abbrev main_while0c_c_35 : Ref sig .tc := ⟨.hbm, 175, rfl⟩
abbrev main_while0c_v150 : Ref sig .tc := ⟨.hbm, 176, rfl⟩
abbrev main_while0b_c_35 : Ref sig .tc := ⟨.hbm, 177, rfl⟩
abbrev main_while0b_v150 : Ref sig .tc := ⟨.hbm, 178, rfl⟩
abbrev main_while0b_call2_v0 : Ref sig .tc := ⟨.hbm, 179, rfl⟩
abbrev main_while0b_call2_cst : Ref sig .tc := ⟨.hbm, 180, rfl⟩
abbrev main_while0b_call2_c : Ref sig .tc := ⟨.hbm, 181, rfl⟩
abbrev main_while0b_call2_v1_0 : Ref sig .tc := ⟨.hbm, 182, rfl⟩
abbrev main_while0b_v151 : Ref sig .tc := ⟨.hbm, 183, rfl⟩
abbrev main_while0b_c_36 : Ref sig .tc := ⟨.hbm, 184, rfl⟩
abbrev main_while0b_v152 : Ref sig .tc := ⟨.hbm, 185, rfl⟩
abbrev main_while0b_c_37 : Ref sig .tc := ⟨.hbm, 186, rfl⟩
abbrev main_while0b_v153 : Ref sig .tc := ⟨.hbm, 187, rfl⟩
abbrev main_while0b_v154 : Ref sig .tc := ⟨.hbm, 188, rfl⟩
abbrev main_while0b_v155 : Ref sig .tc := ⟨.hbm, 189, rfl⟩
abbrev main_while0b_v156 : Ref sig .tc := ⟨.hbm, 190, rfl⟩
abbrev main_while0b_cst_38 : Ref sig .tc := ⟨.hbm, 191, rfl⟩
abbrev main_while0b_v157 : Ref sig .tc := ⟨.hbm, 192, rfl⟩
abbrev main_while0b_c_39 : Ref sig .tc := ⟨.hbm, 193, rfl⟩
abbrev main_while0b_v158 : Ref sig .tc := ⟨.hbm, 194, rfl⟩
abbrev main_while0b_c_40 : Ref sig .tc := ⟨.hbm, 195, rfl⟩
abbrev main_while0b_v159 : Ref sig .tc := ⟨.hbm, 196, rfl⟩
abbrev main_while0b_v160 : Ref sig .tc := ⟨.hbm, 197, rfl⟩
abbrev main_while0b_c_41 : Ref sig .tc := ⟨.hbm, 198, rfl⟩
abbrev main_while0b_c_42 : Ref sig .tc := ⟨.hbm, 199, rfl⟩
abbrev main_while0b_v161 : Ref sig .tc := ⟨.hbm, 200, rfl⟩
abbrev main_while0b_c_43 : Ref sig .tc := ⟨.hbm, 201, rfl⟩
abbrev main_while0b_c_44 : Ref sig .tc := ⟨.hbm, 202, rfl⟩
abbrev main_while0b_v162 : Ref sig .tc := ⟨.hbm, 203, rfl⟩
abbrev main_while0b_c_45 : Ref sig .tc := ⟨.hbm, 204, rfl⟩
abbrev main_while0b_v163 : Ref sig .tc := ⟨.hbm, 205, rfl⟩
abbrev main_while0b_v164 : Ref sig .tc := ⟨.hbm, 206, rfl⟩
abbrev main_while0b_v165 : Ref sig .tc := ⟨.hbm, 207, rfl⟩
abbrev main_while0b_v166 : Ref sig .tc := ⟨.hbm, 208, rfl⟩
abbrev main_while0b_v167 : Ref sig .tc := ⟨.hbm, 209, rfl⟩
abbrev main_while0b_v168 : Ref sig .tc := ⟨.hbm, 210, rfl⟩
abbrev main_while0b_v169 : Ref sig .tc := ⟨.hbm, 211, rfl⟩
abbrev main_while0b_v170 : Ref sig .tc := ⟨.hbm, 212, rfl⟩
abbrev main_while0b_v171 : Ref sig .tc := ⟨.hbm, 213, rfl⟩
abbrev main_while0b_v172 : Ref sig .tc := ⟨.hbm, 214, rfl⟩
abbrev main_while0b_v173 : Ref sig .tc := ⟨.hbm, 215, rfl⟩
abbrev main_while0b_v174 : Ref sig .tc := ⟨.hbm, 216, rfl⟩
abbrev main_while0b_v175 : Ref sig .tc := ⟨.hbm, 217, rfl⟩
abbrev main_while0b_v176 : Ref sig .tc := ⟨.hbm, 218, rfl⟩
abbrev main_while0b_v177 : Ref sig .tc := ⟨.hbm, 219, rfl⟩
abbrev main_while0b_v178 : Ref sig .tc := ⟨.hbm, 220, rfl⟩
abbrev main_while0b_v179 : Ref sig .tc := ⟨.hbm, 221, rfl⟩
abbrev main_while0b_v180 : Ref sig .tc := ⟨.hbm, 222, rfl⟩
abbrev main_while0b_v181 : Ref sig .tc := ⟨.hbm, 223, rfl⟩
abbrev main_while0b_v182 : Ref sig .tc := ⟨.hbm, 224, rfl⟩
abbrev main_while0b_v183 : Ref sig .tc := ⟨.hbm, 225, rfl⟩
abbrev main_while0b_v184 : Ref sig .tc := ⟨.hbm, 226, rfl⟩
abbrev main_while0b_v185 : Ref sig .tc := ⟨.hbm, 227, rfl⟩
abbrev main_while0b_v186 : Ref sig .tc := ⟨.hbm, 228, rfl⟩
abbrev main_while0b_v187 : Ref sig .tc := ⟨.hbm, 229, rfl⟩
abbrev main_while0b_v188 : Ref sig .tc := ⟨.hbm, 230, rfl⟩
abbrev main_while0b_v189 : Ref sig .tc := ⟨.hbm, 231, rfl⟩
abbrev main_while0b_v190 : Ref sig .tc := ⟨.hbm, 232, rfl⟩
abbrev main_while0b_cst_46 : Ref sig .tc := ⟨.hbm, 233, rfl⟩
abbrev main_while0b_v191 : Ref sig .tc := ⟨.hbm, 234, rfl⟩
abbrev main_while0b_v192 : Ref sig .tc := ⟨.hbm, 235, rfl⟩
abbrev main_while0b_v193 : Ref sig .tc := ⟨.hbm, 236, rfl⟩
abbrev main_while0b_cst_47 : Ref sig .tc := ⟨.hbm, 237, rfl⟩
abbrev main_while0b_v194 : Ref sig .tc := ⟨.hbm, 238, rfl⟩
abbrev main_while0b_v195 : Ref sig .tc := ⟨.hbm, 239, rfl⟩
abbrev main_while0b_v196 : Ref sig .tc := ⟨.hbm, 240, rfl⟩
abbrev main_while0b_v197 : Ref sig .tc := ⟨.hbm, 241, rfl⟩
abbrev main_while0b_v198 : Ref sig .tc := ⟨.hbm, 242, rfl⟩
abbrev main_while0b_v199 : Ref sig .tc := ⟨.hbm, 243, rfl⟩
abbrev main_while0b_v200 : Ref sig .tc := ⟨.hbm, 244, rfl⟩
abbrev main_while0b_v201 : Ref sig .tc := ⟨.hbm, 245, rfl⟩
abbrev main_while0b_cst_48 : Ref sig .tc := ⟨.hbm, 246, rfl⟩
abbrev main_while0b_v202 : Ref sig .tc := ⟨.hbm, 247, rfl⟩
abbrev main_while0b_v203 : Ref sig .tc := ⟨.hbm, 248, rfl⟩
abbrev main_while0b_v204 : Ref sig .tc := ⟨.hbm, 249, rfl⟩
abbrev main_while0b_v205 : Ref sig .tc := ⟨.hbm, 250, rfl⟩
abbrev main_while0b_v206 : Ref sig .tc := ⟨.hbm, 251, rfl⟩
abbrev main_while0b_v207 : Ref sig .tc := ⟨.hbm, 252, rfl⟩
abbrev main_while0b_cst_49 : Ref sig .tc := ⟨.hbm, 253, rfl⟩
abbrev main_while0b_v208 : Ref sig .tc := ⟨.hbm, 254, rfl⟩
abbrev main_while0b_v209 : Ref sig .tc := ⟨.hbm, 255, rfl⟩
abbrev main_while0b_v210 : Ref sig .tc := ⟨.hbm, 256, rfl⟩
abbrev main_while0b_v211 : Ref sig .tc := ⟨.hbm, 257, rfl⟩
abbrev main_while0b_v212 : Ref sig .tc := ⟨.hbm, 258, rfl⟩
abbrev main_while0b_cst_50 : Ref sig .tc := ⟨.hbm, 259, rfl⟩
abbrev main_while0b_v213 : Ref sig .tc := ⟨.hbm, 260, rfl⟩
abbrev main_while0b_v214 : Ref sig .tc := ⟨.hbm, 261, rfl⟩
abbrev main_while0b_cst_51 : Ref sig .tc := ⟨.hbm, 262, rfl⟩
abbrev main_while0b_call3_v0 : Ref sig .tc := ⟨.hbm, 263, rfl⟩
abbrev main_while0b_call3_v1 : Ref sig .tc := ⟨.hbm, 264, rfl⟩
abbrev main_while0b_v215 : Ref sig .tc := ⟨.hbm, 265, rfl⟩
abbrev main_while0b_cst_52 : Ref sig .tc := ⟨.hbm, 266, rfl⟩
abbrev main_while0b_v216 : Ref sig .tc := ⟨.hbm, 267, rfl⟩
abbrev main_while0b_v217 : Ref sig .tc := ⟨.hbm, 268, rfl⟩
abbrev main_while0b_v218 : Ref sig .tc := ⟨.hbm, 269, rfl⟩
abbrev main_while0b_cst_53 : Ref sig .tc := ⟨.hbm, 270, rfl⟩
abbrev main_while0b_call4_v0 : Ref sig .tc := ⟨.hbm, 271, rfl⟩
abbrev main_while0b_call4_v1 : Ref sig .tc := ⟨.hbm, 272, rfl⟩
abbrev main_while0b_v219 : Ref sig .tc := ⟨.hbm, 273, rfl⟩
abbrev main_while0b_cst_54 : Ref sig .tc := ⟨.hbm, 274, rfl⟩
abbrev main_while0b_v220 : Ref sig .tc := ⟨.hbm, 275, rfl⟩
abbrev main_while0b_v221 : Ref sig .tc := ⟨.hbm, 276, rfl⟩
abbrev main_while0b_cst_55 : Ref sig .tc := ⟨.hbm, 277, rfl⟩
abbrev main_while0b_call5_v0 : Ref sig .tc := ⟨.hbm, 278, rfl⟩
abbrev main_while0b_call5_v1 : Ref sig .tc := ⟨.hbm, 279, rfl⟩
abbrev main_while0b_v222 : Ref sig .tc := ⟨.hbm, 280, rfl⟩
abbrev main_while0b_c_56 : Ref sig .tc := ⟨.hbm, 281, rfl⟩
abbrev main_while0b_v223 : Ref sig .tc := ⟨.hbm, 282, rfl⟩
abbrev main_while0b_c_57 : Ref sig .tc := ⟨.hbm, 283, rfl⟩
abbrev main_while0b_v224 : Ref sig .tc := ⟨.hbm, 284, rfl⟩
abbrev main_while0b_v225 : Ref sig .tc := ⟨.hbm, 285, rfl⟩
abbrev main_while0b_v226 : Ref sig .tc := ⟨.hbm, 286, rfl⟩
abbrev main_while0b_cst_58 : Ref sig .tc := ⟨.hbm, 287, rfl⟩
abbrev main_while0b_v227 : Ref sig .tc := ⟨.hbm, 288, rfl⟩
abbrev main_while0b_cst_59 : Ref sig .tc := ⟨.hbm, 289, rfl⟩
abbrev main_while0b_v228 : Ref sig .tc := ⟨.hbm, 290, rfl⟩
abbrev main_while0b_v229 : Ref sig .tc := ⟨.hbm, 291, rfl⟩
abbrev main_while0b_c_60 : Ref sig .tc := ⟨.hbm, 292, rfl⟩
abbrev main_while0b_v230 : Ref sig .tc := ⟨.hbm, 293, rfl⟩
abbrev main_while0b_c_61 : Ref sig .tc := ⟨.hbm, 294, rfl⟩
abbrev main_while0b_v231 : Ref sig .tc := ⟨.hbm, 295, rfl⟩
abbrev main_while0b_v232 : Ref sig .tc := ⟨.hbm, 296, rfl⟩
abbrev main_while0b_v233 : Ref sig .tc := ⟨.hbm, 297, rfl⟩
abbrev main_while0b_v234 : Ref sig .tc := ⟨.hbm, 298, rfl⟩
abbrev main_while0b_v235 : Ref sig .tc := ⟨.hbm, 299, rfl⟩
abbrev main_while0b_cst_62 : Ref sig .tc := ⟨.hbm, 300, rfl⟩
abbrev main_while0b_v236 : Ref sig .tc := ⟨.hbm, 301, rfl⟩
abbrev main_while0b_c_63 : Ref sig .tc := ⟨.hbm, 302, rfl⟩
abbrev main_while0b_v237 : Ref sig .tc := ⟨.hbm, 303, rfl⟩
abbrev main_while0b_c_64 : Ref sig .tc := ⟨.hbm, 304, rfl⟩
abbrev main_while0b_v238 : Ref sig .tc := ⟨.hbm, 305, rfl⟩
abbrev main_while0b_v239 : Ref sig .tc := ⟨.hbm, 306, rfl⟩
abbrev main_while0b_v240 : Ref sig .tc := ⟨.hbm, 307, rfl⟩
abbrev main_while0b_v241 : Ref sig .tc := ⟨.hbm, 308, rfl⟩
abbrev main_while0b_v242 : Ref sig .tc := ⟨.hbm, 309, rfl⟩
abbrev main_while0b_c_65 : Ref sig .tc := ⟨.hbm, 310, rfl⟩
abbrev main_while0b_v243 : Ref sig .tc := ⟨.hbm, 311, rfl⟩
abbrev main_while0b_c_66 : Ref sig .tc := ⟨.hbm, 312, rfl⟩
abbrev main_while0b_v244 : Ref sig .tc := ⟨.hbm, 313, rfl⟩
abbrev main_while0b_c_67 : Ref sig .tc := ⟨.hbm, 314, rfl⟩
abbrev main_while0b_v245 : Ref sig .tc := ⟨.hbm, 315, rfl⟩
abbrev main_while0b_v246 : Ref sig .tc := ⟨.hbm, 316, rfl⟩
abbrev main_while0b_v247 : Ref sig .tc := ⟨.hbm, 317, rfl⟩
abbrev main_while0b_v248 : Ref sig .tc := ⟨.hbm, 318, rfl⟩
abbrev main_while0b_v249 : Ref sig .tc := ⟨.hbm, 319, rfl⟩
abbrev main_while0b_v250 : Ref sig .tc := ⟨.hbm, 320, rfl⟩
abbrev main_while0b_v251 : Ref sig .tc := ⟨.hbm, 321, rfl⟩
abbrev main_while0b_c_68 : Ref sig .tc := ⟨.hbm, 322, rfl⟩
abbrev main_while0b_v252 : Ref sig .tc := ⟨.hbm, 323, rfl⟩
abbrev main_c_22 : Ref sig .tc := ⟨.hbm, 324, rfl⟩
abbrev main_v134 : Ref sig .tc := ⟨.hbm, 325, rfl⟩
abbrev main_v135 : Ref sig .tc := ⟨.hbm, 326, rfl⟩
abbrev main_c_23 : Ref sig .tc := ⟨.hbm, 327, rfl⟩
abbrev main_v136 : Ref sig .tc := ⟨.hbm, 328, rfl⟩
abbrev main_v137 : Ref sig .tc := ⟨.hbm, 329, rfl⟩
abbrev main_c_24 : Ref sig .tc := ⟨.hbm, 330, rfl⟩
abbrev main_v138 : Ref sig .tc := ⟨.hbm, 331, rfl⟩
abbrev main_v139 : Ref sig .tc := ⟨.hbm, 332, rfl⟩
abbrev main_c_25 : Ref sig .tc := ⟨.hbm, 333, rfl⟩
abbrev main_v140 : Ref sig .tc := ⟨.hbm, 334, rfl⟩
abbrev main_v141 : Ref sig .tc := ⟨.hbm, 335, rfl⟩
abbrev main_v142 : Ref sig .tc := ⟨.hbm, 336, rfl⟩
abbrev main_v143 : Ref sig .tc := ⟨.hbm, 337, rfl⟩
abbrev main_v144 : Ref sig .tc := ⟨.hbm, 338, rfl⟩
abbrev main_c_26 : Ref sig .tc := ⟨.hbm, 339, rfl⟩
abbrev main_call9_v0 : Ref sig .tc := ⟨.hbm, 340, rfl⟩
abbrev main_call9_v1 : Ref sig .tc := ⟨.hbm, 341, rfl⟩
abbrev main_v145 : Ref sig .tc := ⟨.hbm, 342, rfl⟩
abbrev main_v146 : Ref sig .tc := ⟨.hbm, 343, rfl⟩
abbrev main_v147 : Ref sig .tc := ⟨.hbm, 344, rfl⟩
abbrev main_v148 : Ref sig .tc := ⟨.hbm, 345, rfl⟩
abbrev main_v149 : Ref sig .tc := ⟨.hbm, 346, rfl⟩

abbrev nD : Nat := 1
abbrev τ : Topo := Topo.v7x

variable {F : FTy → Type} [FloatOps F]

abbrev main_while0_count : Scf.Loop 32 := ⟨0#32, 100#32, 1#32⟩
-- ==== Proof.RefOps.lean ====
/-
  The reference's host operations as lists: what runs before its loop, in one trip of the loop, and after the loop,
  each module-local function's operations written out where it is called.
-/
module

public import proofs.«01_k».proof.Defs
public import proofs.«01_k».proof.Proof.Gen.ReferenceIdeal
public import Idealize.ShloMosaic.Lib.StableHlo.RunLoop
public import Idealize.ShloMosaic.Lib.Pipeline.Regions

@[expose] public section

set_option maxRecDepth 16384

noncomputable section

namespace Cert.Proof.Ref

open Cert.ReferenceIdeal Cert.ReferenceIdeal.Gen
open Idealize.ShloMosaic Idealize.ShloMosaic.TcCoe Idealize.SL.Sem

variable {F : FTy → Type} [FloatOps F]

/-- The operations of the first window before the loop: the slices of the arguments and the first scale. -/
abbrev preA : List (HloOp τ sig (Elt F)) :=
  [ StableHlo.nullary main_cst (fun i => FloatOps.ofBits .f32 (lit0 (S3x2.rowMajor i))),
    StableHlo.nullary main_cst_0 (constant S2 .f32 0x41200000#32),
    StableHlo.nullary main_cst_1 (fun i => FloatOps.ofBits .f32 (lit1 (S3x2.rowMajor i))),
    StableHlo.nullary main_cst_2 (constant S2 .f32 0x41A00000#32),
    StableHlo.nullary main_cst_3 (fun i => FloatOps.ofBits .f32 (lit2 (S3x2.rowMajor i))),
    StableHlo.nullary main_cst_4 (constant S2 .f32 0x42200000#32),
    StableHlo.unary main_arg0 main_v0 ((extractStridedSlice S1x10x10x3x2 ![0, 0, 0, 0, 0] · slices_S1x10x10x3x85_S1x10x10x3x2_0_0_0_0_0) : (⟨S1x10x10x3x85, .f32⟩ : BufTy).Contents (Elt F) → (⟨S1x10x10x3x2, .f32⟩ : BufTy).Contents (Elt F)),
    StableHlo.unary main_arg0 main_v1 ((extractStridedSlice S1x10x10x3x2 ![0, 0, 0, 0, 2] · slices_S1x10x10x3x85_S1x10x10x3x2_0_0_0_0_2) : (⟨S1x10x10x3x85, .f32⟩ : BufTy).Contents (Elt F) → (⟨S1x10x10x3x2, .f32⟩ : BufTy).Contents (Elt F)),
    StableHlo.unary main_arg0 main_v2 ((extractStridedSlice S1x10x10x3x1 ![0, 0, 0, 0, 4] · slices_S1x10x10x3x85_S1x10x10x3x1_0_0_0_0_4) : (⟨S1x10x10x3x85, .f32⟩ : BufTy).Contents (Elt F) → (⟨S1x10x10x3x1, .f32⟩ : BufTy).Contents (Elt F)),
    StableHlo.unary main_arg0 main_v3 ((extractStridedSlice S1x10x10x3x80 ![0, 0, 0, 0, 5] · slices_S1x10x10x3x85_S1x10x10x3x80_0_0_0_0_5) : (⟨S1x10x10x3x85, .f32⟩ : BufTy).Contents (Elt F) → (⟨S1x10x10x3x80, .f32⟩ : BufTy).Contents (Elt F)),
    StableHlo.unary main_arg1 main_v4 ((extractStridedSlice S1x20x20x3x2 ![0, 0, 0, 0, 0] · slices_S1x20x20x3x85_S1x20x20x3x2_0_0_0_0_0) : (⟨S1x20x20x3x85, .f32⟩ : BufTy).Contents (Elt F) → (⟨S1x20x20x3x2, .f32⟩ : BufTy).Contents (Elt F)),
    StableHlo.unary main_arg1 main_v5 ((extractStridedSlice S1x20x20x3x2 ![0, 0, 0, 0, 2] · slices_S1x20x20x3x85_S1x20x20x3x2_0_0_0_0_2) : (⟨S1x20x20x3x85, .f32⟩ : BufTy).Contents (Elt F) → (⟨S1x20x20x3x2, .f32⟩ : BufTy).Contents (Elt F)),
    StableHlo.unary main_arg1 main_v6 ((extractStridedSlice S1x20x20x3x1 ![0, 0, 0, 0, 4] · slices_S1x20x20x3x85_S1x20x20x3x1_0_0_0_0_4) : (⟨S1x20x20x3x85, .f32⟩ : BufTy).Contents (Elt F) → (⟨S1x20x20x3x1, .f32⟩ : BufTy).Contents (Elt F)),
    StableHlo.unary main_arg1 main_v7 ((extractStridedSlice S1x20x20x3x80 ![0, 0, 0, 0, 5] · slices_S1x20x20x3x85_S1x20x20x3x80_0_0_0_0_5) : (⟨S1x20x20x3x85, .f32⟩ : BufTy).Contents (Elt F) → (⟨S1x20x20x3x80, .f32⟩ : BufTy).Contents (Elt F)),
    StableHlo.unary main_arg2 main_v8 ((extractStridedSlice S1x40x40x3x2 ![0, 0, 0, 0, 0] · slices_S1x40x40x3x85_S1x40x40x3x2_0_0_0_0_0) : (⟨S1x40x40x3x85, .f32⟩ : BufTy).Contents (Elt F) → (⟨S1x40x40x3x2, .f32⟩ : BufTy).Contents (Elt F)),
    StableHlo.unary main_arg2 main_v9 ((extractStridedSlice S1x40x40x3x2 ![0, 0, 0, 0, 2] · slices_S1x40x40x3x85_S1x40x40x3x2_0_0_0_0_2) : (⟨S1x40x40x3x85, .f32⟩ : BufTy).Contents (Elt F) → (⟨S1x40x40x3x2, .f32⟩ : BufTy).Contents (Elt F)),
    StableHlo.unary main_arg2 main_v10 ((extractStridedSlice S1x40x40x3x1 ![0, 0, 0, 0, 4] · slices_S1x40x40x3x85_S1x40x40x3x1_0_0_0_0_4) : (⟨S1x40x40x3x85, .f32⟩ : BufTy).Contents (Elt F) → (⟨S1x40x40x3x1, .f32⟩ : BufTy).Contents (Elt F)),
    StableHlo.unary main_arg2 main_v11 ((extractStridedSlice S1x40x40x3x80 ![0, 0, 0, 0, 5] · slices_S1x40x40x3x85_S1x40x40x3x80_0_0_0_0_5) : (⟨S1x40x40x3x85, .f32⟩ : BufTy).Contents (Elt F) → (⟨S1x40x40x3x80, .f32⟩ : BufTy).Contents (Elt F)),
    StableHlo.unary main_v1 main_v12 (Host.exp : (⟨S1x10x10x3x2, .f32⟩ : BufTy).Contents (Elt F) → (⟨S1x10x10x3x2, .f32⟩ : BufTy).Contents (Elt F)),
    StableHlo.unary main_cst main_v13 (broadcastInDim S1x1x1x3x2 ![3, 4] bcast_S3x2_S1x1x1x3x2_3_4 : (⟨S3x2, .f32⟩ : BufTy).Contents (Elt F) → (⟨S1x1x1x3x2, .f32⟩ : BufTy).Contents (Elt F)),
    StableHlo.unary main_v13 main_v14 (broadcastInDim S1x10x10x3x2 ![0, 1, 2, 3, 4] bcast_S1x1x1x3x2_S1x10x10x3x2_0_1_2_3_4 : (⟨S1x1x1x3x2, .f32⟩ : BufTy).Contents (Elt F) → (⟨S1x10x10x3x2, .f32⟩ : BufTy).Contents (Elt F)),
    StableHlo.binary main_v12 main_v14 main_v15 (mulf : (⟨S1x10x10x3x2, .f32⟩ : BufTy).Contents (Elt F) → (⟨S1x10x10x3x2, .f32⟩ : BufTy).Contents (Elt F) → (⟨S1x10x10x3x2, .f32⟩ : BufTy).Contents (Elt F)),
    StableHlo.nullary main_v16 (iotaInDim S10 32 0),
    StableHlo.nullary main_v17 (iotaInDim S10 32 0),
    StableHlo.unary main_v17 main_v18 (broadcastInDim S10x10 ![0] bcast_S10_S10x10_0 : (⟨S10, .i32⟩ : BufTy).Contents (Elt F) → (⟨S10x10, .i32⟩ : BufTy).Contents (Elt F)),
    StableHlo.unary main_v16 main_v19 (broadcastInDim S10x10 ![1] bcast_S10_S10x10_1 : (⟨S10, .i32⟩ : BufTy).Contents (Elt F) → (⟨S10x10, .i32⟩ : BufTy).Contents (Elt F)),
    StableHlo.unary main_v19 main_v20 (broadcastInDim S10x10x1 ![0, 1] bcast_S10x10_S10x10x1_0_1 : (⟨S10x10, .i32⟩ : BufTy).Contents (Elt F) → (⟨S10x10x1, .i32⟩ : BufTy).Contents (Elt F)),
    StableHlo.unary main_v18 main_v21 (broadcastInDim S10x10x1 ![0, 1] bcast_S10x10_S10x10x1_0_1 : (⟨S10x10, .i32⟩ : BufTy).Contents (Elt F) → (⟨S10x10x1, .i32⟩ : BufTy).Contents (Elt F)),
    StableHlo.binary main_v20 main_v21 main_v22 ((fun a b => concatenate S10x10x2 2 [⟨S10x10x1, a⟩, ⟨S10x10x1, b⟩] concatenates_S10x10x1_S10x10x1_S10x10x2_d2) : (⟨S10x10x1, .i32⟩ : BufTy).Contents (Elt F) → (⟨S10x10x1, .i32⟩ : BufTy).Contents (Elt F) → (⟨S10x10x2, .i32⟩ : BufTy).Contents (Elt F)),
    StableHlo.unary main_v22 main_v23 (broadcastInDim S10x10x1x2 ![0, 1, 3] bcast_S10x10x2_S10x10x1x2_0_1_3 : (⟨S10x10x2, .i32⟩ : BufTy).Contents (Elt F) → (⟨S10x10x1x2, .i32⟩ : BufTy).Contents (Elt F)),
    StableHlo.unary main_v23 main_v24 (sitofp .f32 : (⟨S10x10x1x2, .i32⟩ : BufTy).Contents (Elt F) → (⟨S10x10x1x2, .f32⟩ : BufTy).Contents (Elt F)),
    StableHlo.unary main_v24 main_v25 (broadcastInDim S1x10x10x1x2 ![1, 2, 3, 4] bcast_S10x10x1x2_S1x10x10x1x2_1_2_3_4 : (⟨S10x10x1x2, .f32⟩ : BufTy).Contents (Elt F) → (⟨S1x10x10x1x2, .f32⟩ : BufTy).Contents (Elt F)),
    StableHlo.unary main_v25 main_v26 (broadcastInDim S1x10x10x3x2 ![0, 1, 2, 3, 4] bcast_S1x10x10x1x2_S1x10x10x3x2_0_1_2_3_4 : (⟨S1x10x10x1x2, .f32⟩ : BufTy).Contents (Elt F) → (⟨S1x10x10x3x2, .f32⟩ : BufTy).Contents (Elt F)),
    StableHlo.binary main_v0 main_v26 main_v27 (addf : (⟨S1x10x10x3x2, .f32⟩ : BufTy).Contents (Elt F) → (⟨S1x10x10x3x2, .f32⟩ : BufTy).Contents (Elt F) → (⟨S1x10x10x3x2, .f32⟩ : BufTy).Contents (Elt F)),
    StableHlo.unary main_cst_0 main_v28 (broadcastInDim S1x1x1x1x2 ![4] bcast_S2_S1x1x1x1x2_4 : (⟨S2, .f32⟩ : BufTy).Contents (Elt F) → (⟨S1x1x1x1x2, .f32⟩ : BufTy).Contents (Elt F)),
    StableHlo.unary main_v28 main_v29 (broadcastInDim S1x10x10x3x2 ![0, 1, 2, 3, 4] bcast_S1x1x1x1x2_S1x10x10x3x2_0_1_2_3_4 : (⟨S1x1x1x1x2, .f32⟩ : BufTy).Contents (Elt F) → (⟨S1x10x10x3x2, .f32⟩ : BufTy).Contents (Elt F)),
    StableHlo.binary main_v27 main_v29 main_v30 (Host.divf : (⟨S1x10x10x3x2, .f32⟩ : BufTy).Contents (Elt F) → (⟨S1x10x10x3x2, .f32⟩ : BufTy).Contents (Elt F) → (⟨S1x10x10x3x2, .f32⟩ : BufTy).Contents (Elt F)),
    StableHlo.nullary main_cst_5 (constant S_ .f32 0x40000000#32),
    StableHlo.unary main_cst_5 main_v31 (broadcastInDim S1x10x10x3x2 ![] bcast_S_S1x10x10x3x2 : (⟨S_, .f32⟩ : BufTy).Contents (Elt F) → (⟨S1x10x10x3x2, .f32⟩ : BufTy).Contents (Elt F)),
    StableHlo.binary main_v15 main_v31 main_v32 (Host.divf : (⟨S1x10x10x3x2, .f32⟩ : BufTy).Contents (Elt F) → (⟨S1x10x10x3x2, .f32⟩ : BufTy).Contents (Elt F) → (⟨S1x10x10x3x2, .f32⟩ : BufTy).Contents (Elt F)),
    StableHlo.binary main_v30 main_v32 main_v33 (subf : (⟨S1x10x10x3x2, .f32⟩ : BufTy).Contents (Elt F) → (⟨S1x10x10x3x2, .f32⟩ : BufTy).Contents (Elt F) → (⟨S1x10x10x3x2, .f32⟩ : BufTy).Contents (Elt F)),
    StableHlo.nullary main_cst_6 (constant S_ .f32 0x40000000#32),
    StableHlo.unary main_cst_6 main_v34 (broadcastInDim S1x10x10x3x2 ![] bcast_S_S1x10x10x3x2 : (⟨S_, .f32⟩ : BufTy).Contents (Elt F) → (⟨S1x10x10x3x2, .f32⟩ : BufTy).Contents (Elt F)),
    StableHlo.binary main_v15 main_v34 main_v35 (Host.divf : (⟨S1x10x10x3x2, .f32⟩ : BufTy).Contents (Elt F) → (⟨S1x10x10x3x2, .f32⟩ : BufTy).Contents (Elt F) → (⟨S1x10x10x3x2, .f32⟩ : BufTy).Contents (Elt F)),
    StableHlo.binary main_v30 main_v35 main_v36 (addf : (⟨S1x10x10x3x2, .f32⟩ : BufTy).Contents (Elt F) → (⟨S1x10x10x3x2, .f32⟩ : BufTy).Contents (Elt F) → (⟨S1x10x10x3x2, .f32⟩ : BufTy).Contents (Elt F)),
    StableHlo.binary main_v33 main_v36 main_v37 ((fun a b => concatenate S1x10x10x3x4 4 [⟨S1x10x10x3x2, a⟩, ⟨S1x10x10x3x2, b⟩] concatenates_S1x10x10x3x2_S1x10x10x3x2_S1x10x10x3x4_d4) : (⟨S1x10x10x3x2, .f32⟩ : BufTy).Contents (Elt F) → (⟨S1x10x10x3x2, .f32⟩ : BufTy).Contents (Elt F) → (⟨S1x10x10x3x4, .f32⟩ : BufTy).Contents (Elt F)),
    StableHlo.unary main_v5 main_v38 (Host.exp : (⟨S1x20x20x3x2, .f32⟩ : BufTy).Contents (Elt F) → (⟨S1x20x20x3x2, .f32⟩ : BufTy).Contents (Elt F)),
    StableHlo.unary main_cst_1 main_v39 (broadcastInDim S1x1x1x3x2 ![3, 4] bcast_S3x2_S1x1x1x3x2_3_4 : (⟨S3x2, .f32⟩ : BufTy).Contents (Elt F) → (⟨S1x1x1x3x2, .f32⟩ : BufTy).Contents (Elt F)),
    StableHlo.unary main_v39 main_v40 (broadcastInDim S1x20x20x3x2 ![0, 1, 2, 3, 4] bcast_S1x1x1x3x2_S1x20x20x3x2_0_1_2_3_4 : (⟨S1x1x1x3x2, .f32⟩ : BufTy).Contents (Elt F) → (⟨S1x20x20x3x2, .f32⟩ : BufTy).Contents (Elt F)),
    StableHlo.binary main_v38 main_v40 main_v41 (mulf : (⟨S1x20x20x3x2, .f32⟩ : BufTy).Contents (Elt F) → (⟨S1x20x20x3x2, .f32⟩ : BufTy).Contents (Elt F) → (⟨S1x20x20x3x2, .f32⟩ : BufTy).Contents (Elt F)),
    StableHlo.nullary main_v42 (iotaInDim S20 32 0),
    StableHlo.nullary main_v43 (iotaInDim S20 32 0),
    StableHlo.unary main_v43 main_v44 (broadcastInDim S20x20 ![0] bcast_S20_S20x20_0 : (⟨S20, .i32⟩ : BufTy).Contents (Elt F) → (⟨S20x20, .i32⟩ : BufTy).Contents (Elt F)),
    StableHlo.unary main_v42 main_v45 (broadcastInDim S20x20 ![1] bcast_S20_S20x20_1 : (⟨S20, .i32⟩ : BufTy).Contents (Elt F) → (⟨S20x20, .i32⟩ : BufTy).Contents (Elt F)),
    StableHlo.unary main_v45 main_v46 (broadcastInDim S20x20x1 ![0, 1] bcast_S20x20_S20x20x1_0_1 : (⟨S20x20, .i32⟩ : BufTy).Contents (Elt F) → (⟨S20x20x1, .i32⟩ : BufTy).Contents (Elt F)),
    StableHlo.unary main_v44 main_v47 (broadcastInDim S20x20x1 ![0, 1] bcast_S20x20_S20x20x1_0_1 : (⟨S20x20, .i32⟩ : BufTy).Contents (Elt F) → (⟨S20x20x1, .i32⟩ : BufTy).Contents (Elt F)),
    StableHlo.binary main_v46 main_v47 main_v48 ((fun a b => concatenate S20x20x2 2 [⟨S20x20x1, a⟩, ⟨S20x20x1, b⟩] concatenates_S20x20x1_S20x20x1_S20x20x2_d2) : (⟨S20x20x1, .i32⟩ : BufTy).Contents (Elt F) → (⟨S20x20x1, .i32⟩ : BufTy).Contents (Elt F) → (⟨S20x20x2, .i32⟩ : BufTy).Contents (Elt F)),
    StableHlo.unary main_v48 main_v49 (broadcastInDim S20x20x1x2 ![0, 1, 3] bcast_S20x20x2_S20x20x1x2_0_1_3 : (⟨S20x20x2, .i32⟩ : BufTy).Contents (Elt F) → (⟨S20x20x1x2, .i32⟩ : BufTy).Contents (Elt F)),
    StableHlo.unary main_v49 main_v50 (sitofp .f32 : (⟨S20x20x1x2, .i32⟩ : BufTy).Contents (Elt F) → (⟨S20x20x1x2, .f32⟩ : BufTy).Contents (Elt F)),
    StableHlo.unary main_v50 main_v51 (broadcastInDim S1x20x20x1x2 ![1, 2, 3, 4] bcast_S20x20x1x2_S1x20x20x1x2_1_2_3_4 : (⟨S20x20x1x2, .f32⟩ : BufTy).Contents (Elt F) → (⟨S1x20x20x1x2, .f32⟩ : BufTy).Contents (Elt F)) ]
/-- Each of them touches buffers of the main core only. -/
theorem preA_sub : ((preA : List (HloOp τ sig (Elt F)))).Forall fun op => op.bufs ⊆ StableHlo.tcRefs τ sig :=
  ⟨StableHlo.nullary_bufs_sub .., StableHlo.nullary_bufs_sub .., StableHlo.nullary_bufs_sub .., StableHlo.nullary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub ..⟩

/-- The operations of the second window before the loop: the other two scales and the joined arrays. -/
abbrev preB : List (HloOp τ sig (Elt F)) :=
  [ StableHlo.unary main_v51 main_v52 (broadcastInDim S1x20x20x3x2 ![0, 1, 2, 3, 4] bcast_S1x20x20x1x2_S1x20x20x3x2_0_1_2_3_4 : (⟨S1x20x20x1x2, .f32⟩ : BufTy).Contents (Elt F) → (⟨S1x20x20x3x2, .f32⟩ : BufTy).Contents (Elt F)),
    StableHlo.binary main_v4 main_v52 main_v53 (addf : (⟨S1x20x20x3x2, .f32⟩ : BufTy).Contents (Elt F) → (⟨S1x20x20x3x2, .f32⟩ : BufTy).Contents (Elt F) → (⟨S1x20x20x3x2, .f32⟩ : BufTy).Contents (Elt F)),
    StableHlo.unary main_cst_2 main_v54 (broadcastInDim S1x1x1x1x2 ![4] bcast_S2_S1x1x1x1x2_4 : (⟨S2, .f32⟩ : BufTy).Contents (Elt F) → (⟨S1x1x1x1x2, .f32⟩ : BufTy).Contents (Elt F)),
    StableHlo.unary main_v54 main_v55 (broadcastInDim S1x20x20x3x2 ![0, 1, 2, 3, 4] bcast_S1x1x1x1x2_S1x20x20x3x2_0_1_2_3_4 : (⟨S1x1x1x1x2, .f32⟩ : BufTy).Contents (Elt F) → (⟨S1x20x20x3x2, .f32⟩ : BufTy).Contents (Elt F)),
    StableHlo.binary main_v53 main_v55 main_v56 (Host.divf : (⟨S1x20x20x3x2, .f32⟩ : BufTy).Contents (Elt F) → (⟨S1x20x20x3x2, .f32⟩ : BufTy).Contents (Elt F) → (⟨S1x20x20x3x2, .f32⟩ : BufTy).Contents (Elt F)),
    StableHlo.nullary main_cst_7 (constant S_ .f32 0x40000000#32),
    StableHlo.unary main_cst_7 main_v57 (broadcastInDim S1x20x20x3x2 ![] bcast_S_S1x20x20x3x2 : (⟨S_, .f32⟩ : BufTy).Contents (Elt F) → (⟨S1x20x20x3x2, .f32⟩ : BufTy).Contents (Elt F)),
    StableHlo.binary main_v41 main_v57 main_v58 (Host.divf : (⟨S1x20x20x3x2, .f32⟩ : BufTy).Contents (Elt F) → (⟨S1x20x20x3x2, .f32⟩ : BufTy).Contents (Elt F) → (⟨S1x20x20x3x2, .f32⟩ : BufTy).Contents (Elt F)),
    StableHlo.binary main_v56 main_v58 main_v59 (subf : (⟨S1x20x20x3x2, .f32⟩ : BufTy).Contents (Elt F) → (⟨S1x20x20x3x2, .f32⟩ : BufTy).Contents (Elt F) → (⟨S1x20x20x3x2, .f32⟩ : BufTy).Contents (Elt F)),
    StableHlo.nullary main_cst_8 (constant S_ .f32 0x40000000#32),
    StableHlo.unary main_cst_8 main_v60 (broadcastInDim S1x20x20x3x2 ![] bcast_S_S1x20x20x3x2 : (⟨S_, .f32⟩ : BufTy).Contents (Elt F) → (⟨S1x20x20x3x2, .f32⟩ : BufTy).Contents (Elt F)),
    StableHlo.binary main_v41 main_v60 main_v61 (Host.divf : (⟨S1x20x20x3x2, .f32⟩ : BufTy).Contents (Elt F) → (⟨S1x20x20x3x2, .f32⟩ : BufTy).Contents (Elt F) → (⟨S1x20x20x3x2, .f32⟩ : BufTy).Contents (Elt F)),
    StableHlo.binary main_v56 main_v61 main_v62 (addf : (⟨S1x20x20x3x2, .f32⟩ : BufTy).Contents (Elt F) → (⟨S1x20x20x3x2, .f32⟩ : BufTy).Contents (Elt F) → (⟨S1x20x20x3x2, .f32⟩ : BufTy).Contents (Elt F)),
    StableHlo.binary main_v59 main_v62 main_v63 ((fun a b => concatenate S1x20x20x3x4 4 [⟨S1x20x20x3x2, a⟩, ⟨S1x20x20x3x2, b⟩] concatenates_S1x20x20x3x2_S1x20x20x3x2_S1x20x20x3x4_d4) : (⟨S1x20x20x3x2, .f32⟩ : BufTy).Contents (Elt F) → (⟨S1x20x20x3x2, .f32⟩ : BufTy).Contents (Elt F) → (⟨S1x20x20x3x4, .f32⟩ : BufTy).Contents (Elt F)),
    StableHlo.unary main_v9 main_v64 (Host.exp : (⟨S1x40x40x3x2, .f32⟩ : BufTy).Contents (Elt F) → (⟨S1x40x40x3x2, .f32⟩ : BufTy).Contents (Elt F)),
    StableHlo.unary main_cst_3 main_v65 (broadcastInDim S1x1x1x3x2 ![3, 4] bcast_S3x2_S1x1x1x3x2_3_4 : (⟨S3x2, .f32⟩ : BufTy).Contents (Elt F) → (⟨S1x1x1x3x2, .f32⟩ : BufTy).Contents (Elt F)),
    StableHlo.unary main_v65 main_v66 (broadcastInDim S1x40x40x3x2 ![0, 1, 2, 3, 4] bcast_S1x1x1x3x2_S1x40x40x3x2_0_1_2_3_4 : (⟨S1x1x1x3x2, .f32⟩ : BufTy).Contents (Elt F) → (⟨S1x40x40x3x2, .f32⟩ : BufTy).Contents (Elt F)),
    StableHlo.binary main_v64 main_v66 main_v67 (mulf : (⟨S1x40x40x3x2, .f32⟩ : BufTy).Contents (Elt F) → (⟨S1x40x40x3x2, .f32⟩ : BufTy).Contents (Elt F) → (⟨S1x40x40x3x2, .f32⟩ : BufTy).Contents (Elt F)),
    StableHlo.nullary main_v68 (iotaInDim S40 32 0),
    StableHlo.nullary main_v69 (iotaInDim S40 32 0),
    StableHlo.unary main_v69 main_v70 (broadcastInDim S40x40 ![0] bcast_S40_S40x40_0 : (⟨S40, .i32⟩ : BufTy).Contents (Elt F) → (⟨S40x40, .i32⟩ : BufTy).Contents (Elt F)),
    StableHlo.unary main_v68 main_v71 (broadcastInDim S40x40 ![1] bcast_S40_S40x40_1 : (⟨S40, .i32⟩ : BufTy).Contents (Elt F) → (⟨S40x40, .i32⟩ : BufTy).Contents (Elt F)),
    StableHlo.unary main_v71 main_v72 (broadcastInDim S40x40x1 ![0, 1] bcast_S40x40_S40x40x1_0_1 : (⟨S40x40, .i32⟩ : BufTy).Contents (Elt F) → (⟨S40x40x1, .i32⟩ : BufTy).Contents (Elt F)),
    StableHlo.unary main_v70 main_v73 (broadcastInDim S40x40x1 ![0, 1] bcast_S40x40_S40x40x1_0_1 : (⟨S40x40, .i32⟩ : BufTy).Contents (Elt F) → (⟨S40x40x1, .i32⟩ : BufTy).Contents (Elt F)),
    StableHlo.binary main_v72 main_v73 main_v74 ((fun a b => concatenate S40x40x2 2 [⟨S40x40x1, a⟩, ⟨S40x40x1, b⟩] concatenates_S40x40x1_S40x40x1_S40x40x2_d2) : (⟨S40x40x1, .i32⟩ : BufTy).Contents (Elt F) → (⟨S40x40x1, .i32⟩ : BufTy).Contents (Elt F) → (⟨S40x40x2, .i32⟩ : BufTy).Contents (Elt F)),
    StableHlo.unary main_v74 main_v75 (broadcastInDim S40x40x1x2 ![0, 1, 3] bcast_S40x40x2_S40x40x1x2_0_1_3 : (⟨S40x40x2, .i32⟩ : BufTy).Contents (Elt F) → (⟨S40x40x1x2, .i32⟩ : BufTy).Contents (Elt F)),
    StableHlo.unary main_v75 main_v76 (sitofp .f32 : (⟨S40x40x1x2, .i32⟩ : BufTy).Contents (Elt F) → (⟨S40x40x1x2, .f32⟩ : BufTy).Contents (Elt F)),
    StableHlo.unary main_v76 main_v77 (broadcastInDim S1x40x40x1x2 ![1, 2, 3, 4] bcast_S40x40x1x2_S1x40x40x1x2_1_2_3_4 : (⟨S40x40x1x2, .f32⟩ : BufTy).Contents (Elt F) → (⟨S1x40x40x1x2, .f32⟩ : BufTy).Contents (Elt F)),
    StableHlo.unary main_v77 main_v78 (broadcastInDim S1x40x40x3x2 ![0, 1, 2, 3, 4] bcast_S1x40x40x1x2_S1x40x40x3x2_0_1_2_3_4 : (⟨S1x40x40x1x2, .f32⟩ : BufTy).Contents (Elt F) → (⟨S1x40x40x3x2, .f32⟩ : BufTy).Contents (Elt F)),
    StableHlo.binary main_v8 main_v78 main_v79 (addf : (⟨S1x40x40x3x2, .f32⟩ : BufTy).Contents (Elt F) → (⟨S1x40x40x3x2, .f32⟩ : BufTy).Contents (Elt F) → (⟨S1x40x40x3x2, .f32⟩ : BufTy).Contents (Elt F)),
    StableHlo.unary main_cst_4 main_v80 (broadcastInDim S1x1x1x1x2 ![4] bcast_S2_S1x1x1x1x2_4 : (⟨S2, .f32⟩ : BufTy).Contents (Elt F) → (⟨S1x1x1x1x2, .f32⟩ : BufTy).Contents (Elt F)),
    StableHlo.unary main_v80 main_v81 (broadcastInDim S1x40x40x3x2 ![0, 1, 2, 3, 4] bcast_S1x1x1x1x2_S1x40x40x3x2_0_1_2_3_4 : (⟨S1x1x1x1x2, .f32⟩ : BufTy).Contents (Elt F) → (⟨S1x40x40x3x2, .f32⟩ : BufTy).Contents (Elt F)),
    StableHlo.binary main_v79 main_v81 main_v82 (Host.divf : (⟨S1x40x40x3x2, .f32⟩ : BufTy).Contents (Elt F) → (⟨S1x40x40x3x2, .f32⟩ : BufTy).Contents (Elt F) → (⟨S1x40x40x3x2, .f32⟩ : BufTy).Contents (Elt F)),
    StableHlo.nullary main_cst_9 (constant S_ .f32 0x40000000#32),
    StableHlo.unary main_cst_9 main_v83 (broadcastInDim S1x40x40x3x2 ![] bcast_S_S1x40x40x3x2 : (⟨S_, .f32⟩ : BufTy).Contents (Elt F) → (⟨S1x40x40x3x2, .f32⟩ : BufTy).Contents (Elt F)),
    StableHlo.binary main_v67 main_v83 main_v84 (Host.divf : (⟨S1x40x40x3x2, .f32⟩ : BufTy).Contents (Elt F) → (⟨S1x40x40x3x2, .f32⟩ : BufTy).Contents (Elt F) → (⟨S1x40x40x3x2, .f32⟩ : BufTy).Contents (Elt F)),
    StableHlo.binary main_v82 main_v84 main_v85 (subf : (⟨S1x40x40x3x2, .f32⟩ : BufTy).Contents (Elt F) → (⟨S1x40x40x3x2, .f32⟩ : BufTy).Contents (Elt F) → (⟨S1x40x40x3x2, .f32⟩ : BufTy).Contents (Elt F)),
    StableHlo.nullary main_cst_10 (constant S_ .f32 0x40000000#32),
    StableHlo.unary main_cst_10 main_v86 (broadcastInDim S1x40x40x3x2 ![] bcast_S_S1x40x40x3x2 : (⟨S_, .f32⟩ : BufTy).Contents (Elt F) → (⟨S1x40x40x3x2, .f32⟩ : BufTy).Contents (Elt F)),
    StableHlo.binary main_v67 main_v86 main_v87 (Host.divf : (⟨S1x40x40x3x2, .f32⟩ : BufTy).Contents (Elt F) → (⟨S1x40x40x3x2, .f32⟩ : BufTy).Contents (Elt F) → (⟨S1x40x40x3x2, .f32⟩ : BufTy).Contents (Elt F)),
    StableHlo.binary main_v82 main_v87 main_v88 (addf : (⟨S1x40x40x3x2, .f32⟩ : BufTy).Contents (Elt F) → (⟨S1x40x40x3x2, .f32⟩ : BufTy).Contents (Elt F) → (⟨S1x40x40x3x2, .f32⟩ : BufTy).Contents (Elt F)),
    StableHlo.binary main_v85 main_v88 main_v89 ((fun a b => concatenate S1x40x40x3x4 4 [⟨S1x40x40x3x2, a⟩, ⟨S1x40x40x3x2, b⟩] concatenates_S1x40x40x3x2_S1x40x40x3x2_S1x40x40x3x4_d4) : (⟨S1x40x40x3x2, .f32⟩ : BufTy).Contents (Elt F) → (⟨S1x40x40x3x2, .f32⟩ : BufTy).Contents (Elt F) → (⟨S1x40x40x3x4, .f32⟩ : BufTy).Contents (Elt F)),
    StableHlo.reshape main_v37 main_v90 (rfl : (.f32 : EltTy) = .f32) shapeCasts_S1x10x10x3x4_S1x300x4,
    StableHlo.reshape main_v63 main_v91 (rfl : (.f32 : EltTy) = .f32) shapeCasts_S1x20x20x3x4_S1x1200x4,
    StableHlo.reshape main_v89 main_v92 (rfl : (.f32 : EltTy) = .f32) shapeCasts_S1x40x40x3x4_S1x4800x4,
    StableHlo.nary ![main_v90, main_v91, main_v92] main_v93 (fun u => (concatenate S1x6300x4 1 [⟨S1x300x4, (u 0 : (⟨S1x300x4, .f32⟩ : BufTy).Contents (Elt F))⟩, ⟨S1x1200x4, (u 1 : (⟨S1x1200x4, .f32⟩ : BufTy).Contents (Elt F))⟩, ⟨S1x4800x4, (u 2 : (⟨S1x4800x4, .f32⟩ : BufTy).Contents (Elt F))⟩] concatenates_S1x300x4_S1x1200x4_S1x4800x4_S1x6300x4_d1 : (⟨S1x6300x4, .f32⟩ : BufTy).Contents (Elt F))),
    StableHlo.reshape main_v2 main_v94 (rfl : (.f32 : EltTy) = .f32) shapeCasts_S1x10x10x3x1_S1x300x1,
    StableHlo.reshape main_v6 main_v95 (rfl : (.f32 : EltTy) = .f32) shapeCasts_S1x20x20x3x1_S1x1200x1,
    StableHlo.reshape main_v10 main_v96 (rfl : (.f32 : EltTy) = .f32) shapeCasts_S1x40x40x3x1_S1x4800x1,
    StableHlo.nary ![main_v94, main_v95, main_v96] main_v97 (fun u => (concatenate S1x6300x1 1 [⟨S1x300x1, (u 0 : (⟨S1x300x1, .f32⟩ : BufTy).Contents (Elt F))⟩, ⟨S1x1200x1, (u 1 : (⟨S1x1200x1, .f32⟩ : BufTy).Contents (Elt F))⟩, ⟨S1x4800x1, (u 2 : (⟨S1x4800x1, .f32⟩ : BufTy).Contents (Elt F))⟩] concatenates_S1x300x1_S1x1200x1_S1x4800x1_S1x6300x1_d1 : (⟨S1x6300x1, .f32⟩ : BufTy).Contents (Elt F))),
    StableHlo.reshape main_v3 main_v98 (rfl : (.f32 : EltTy) = .f32) shapeCasts_S1x10x10x3x80_S1x300x80,
    StableHlo.reshape main_v7 main_v99 (rfl : (.f32 : EltTy) = .f32) shapeCasts_S1x20x20x3x80_S1x1200x80,
    StableHlo.reshape main_v11 main_v100 (rfl : (.f32 : EltTy) = .f32) shapeCasts_S1x40x40x3x80_S1x4800x80,
    StableHlo.nary ![main_v98, main_v99, main_v100] main_v101 (fun u => (concatenate S1x6300x80 1 [⟨S1x300x80, (u 0 : (⟨S1x300x80, .f32⟩ : BufTy).Contents (Elt F))⟩, ⟨S1x1200x80, (u 1 : (⟨S1x1200x80, .f32⟩ : BufTy).Contents (Elt F))⟩, ⟨S1x4800x80, (u 2 : (⟨S1x4800x80, .f32⟩ : BufTy).Contents (Elt F))⟩] concatenates_S1x300x80_S1x1200x80_S1x4800x80_S1x6300x80_d1 : (⟨S1x6300x80, .f32⟩ : BufTy).Contents (Elt F))),
    StableHlo.reshape main_v101 main_v102 (rfl : (.f32 : EltTy) = .f32) shapeCasts_S1x6300x80_S6300x80,
    StableHlo.TRef.nullary main_call0.v0 (iotaInDim S6300x80 32 1),
    StableHlo.TRef.nullary main_call0.cst (constant S_ .f32 0xFF800000#32),
    StableHlo.TRef.nullary main_call0.c (constantI S_ 32 0#32),
    StableHlo.TRef.quaternary (.of main_v102) main_call0.v0 main_call0.cst main_call0.c main_call0.v1_0 (fun x y u v j => (Host.argReduce reducer_argmax_f32_i32 x y u v reducesTo_S6300x80_S6300_d1 h_S_ j).1),
    StableHlo.TRef.quaternary (.of main_v102) main_call0.v0 main_call0.cst main_call0.c main_call0.v1_1 (fun x y u v j => (Host.argReduce reducer_argmax_f32_i32 x y u v reducesTo_S6300x80_S6300_d1 h_S_ j).2),
    StableHlo.nullary main_cst_11 (constant S_ .f32 0xFF800000#32),
    StableHlo.binary main_v102 main_cst_11 main_v104 ((fun x v => Host.reduce FloatOps.maximumf x v reducesTo_S6300x80_S6300_d1 h_S_) : (⟨S6300x80, .f32⟩ : BufTy).Contents (Elt F) → (⟨S_, .f32⟩ : BufTy).Contents (Elt F) → (⟨S6300, .f32⟩ : BufTy).Contents (Elt F)),
    StableHlo.unary main_v104 main_v105 (broadcastInDim S1x1x6300 ![2] bcast_S6300_S1x1x6300_2 : (⟨S6300, .f32⟩ : BufTy).Contents (Elt F) → (⟨S1x1x6300, .f32⟩ : BufTy).Contents (Elt F)),
    StableHlo.unary main_v97 main_v106 (broadcastInDim S1x6300x6300 ![0, 1, 2] bcast_S1x6300x1_S1x6300x6300_0_1_2 : (⟨S1x6300x1, .f32⟩ : BufTy).Contents (Elt F) → (⟨S1x6300x6300, .f32⟩ : BufTy).Contents (Elt F)) ]
/-- Each of them touches buffers of the main core only. -/
theorem preB_sub : ((preB : List (HloOp τ sig (Elt F)))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.reshape_bufs_sub .., StableHlo.reshape_bufs_sub .., StableHlo.reshape_bufs_sub .., StableHlo.nary_bufs_sub .., StableHlo.reshape_bufs_sub .., StableHlo.reshape_bufs_sub .., StableHlo.reshape_bufs_sub .., StableHlo.nary_bufs_sub .., StableHlo.reshape_bufs_sub .., StableHlo.reshape_bufs_sub .., StableHlo.reshape_bufs_sub .., StableHlo.nary_bufs_sub .., StableHlo.reshape_bufs_sub .., StableHlo.nullary_bufs_sub .., StableHlo.nullary_bufs_sub .., StableHlo.nullary_bufs_sub .., StableHlo.quaternary_bufs_sub .., StableHlo.quaternary_bufs_sub .., StableHlo.nullary_bufs_sub .., StableHlo.binary_bufs_sub .., StableHlo.unary_bufs_sub .., StableHlo.unary_bufs_sub ..⟩

/-- The operations of the last window before the loop: the scores, the areas and the initial carry. -/
abbrev preC : List (HloOp τ sig (Elt F)) :=
  [ StableHlo.unary main_v105 main_v107 (broadcastInDim S1x6300x6300 ![0, 1, 2] bcast_S1x1x6300_S1x6300x6300_0_1_2 : (⟨S1x1x6300, .f32⟩ : BufTy).Contents (Elt F) → (⟨S1x6300x6300, .f32⟩ : BufTy).Contents (Elt F)),
    StableHlo.binary main_v106 main_v107 main_v108 (mulf : (⟨S1x6300x6300, .f32⟩ : BufTy).Contents (Elt F) → (⟨S1x6300x6300, .f32⟩ : BufTy).Contents (Elt F) → (⟨S1x6300x6300, .f32⟩ : BufTy).Contents (Elt F)),
    StableHlo.reshape main_v108 main_v109 (rfl : (.f32 : EltTy) = .f32) shapeCasts_S1x6300x6300_S6300x6300,
    StableHlo.nullary main_cst_12 (constant S_ .f32 0xFF800000#32),
    StableHlo.binary main_v109 main_cst_12 main_v110 ((fun x v => Host.reduce FloatOps.maximumf x v reducesTo_S6300x6300_S6300_d1 h_S_) : (⟨S6300x6300, .f32⟩ : BufTy).Contents (Elt F) → (⟨S_, .f32⟩ : BufTy).Contents (Elt F) → (⟨S6300, .f32⟩ : BufTy).Contents (Elt F)),
    StableHlo.reshape main_v93 main_v111 (rfl : (.f32 : EltTy) = .f32) shapeCasts_S1x6300x4_S6300x4,
    StableHlo.unary main_v111 main_v112 ((extractStridedSlice S6300x1 ![0, 2] · slices_S6300x4_S6300x1_0_2) : (⟨S6300x4, .f32⟩ : BufTy).Contents (Elt F) → (⟨S6300x1, .f32⟩ : BufTy).Contents (Elt F)),
    StableHlo.reshape main_v112 main_v113 (rfl : (.f32 : EltTy) = .f32) shapeCasts_S6300x1_S6300,
    StableHlo.unary main_v111 main_v114 ((extractStridedSlice S6300x1 ![0, 0] · slices_S6300x4_S6300x1_0_0) : (⟨S6300x4, .f32⟩ : BufTy).Contents (Elt F) → (⟨S6300x1, .f32⟩ : BufTy).Contents (Elt F)),
    StableHlo.reshape main_v114 main_v115 (rfl : (.f32 : EltTy) = .f32) shapeCasts_S6300x1_S6300,
    StableHlo.binary main_v113 main_v115 main_v116 (subf : (⟨S6300, .f32⟩ : BufTy).Contents (Elt F) → (⟨S6300, .f32⟩ : BufTy).Contents (Elt F) → (⟨S6300, .f32⟩ : BufTy).Contents (Elt F)),
    StableHlo.nullary main_cst_13 (constant S_ .f32 0x00000000#32),
    StableHlo.unary main_cst_13 main_v117 (broadcastInDim S6300 ![] bcast_S_S6300 : (⟨S_, .f32⟩ : BufTy).Contents (Elt F) → (⟨S6300, .f32⟩ : BufTy).Contents (Elt F)),
    StableHlo.binary main_v116 main_v117 main_v118 (maximumf : (⟨S6300, .f32⟩ : BufTy).Contents (Elt F) → (⟨S6300, .f32⟩ : BufTy).Contents (Elt F) → (⟨S6300, .f32⟩ : BufTy).Contents (Elt F)),
    StableHlo.unary main_v111 main_v119 ((extractStridedSlice S6300x1 ![0, 3] · slices_S6300x4_S6300x1_0_3) : (⟨S6300x4, .f32⟩ : BufTy).Contents (Elt F) → (⟨S6300x1, .f32⟩ : BufTy).Contents (Elt F)),
    StableHlo.reshape main_v119 main_v120 (rfl : (.f32 : EltTy) = .f32) shapeCasts_S6300x1_S6300,
    StableHlo.unary main_v111 main_v121 ((extractStridedSlice S6300x1 ![0, 1] · slices_S6300x4_S6300x1_0_1) : (⟨S6300x4, .f32⟩ : BufTy).Contents (Elt F) → (⟨S6300x1, .f32⟩ : BufTy).Contents (Elt F)),
    StableHlo.reshape main_v121 main_v122 (rfl : (.f32 : EltTy) = .f32) shapeCasts_S6300x1_S6300,
    StableHlo.binary main_v120 main_v122 main_v123 (subf : (⟨S6300, .f32⟩ : BufTy).Contents (Elt F) → (⟨S6300, .f32⟩ : BufTy).Contents (Elt F) → (⟨S6300, .f32⟩ : BufTy).Contents (Elt F)),
    StableHlo.nullary main_cst_14 (constant S_ .f32 0x00000000#32),
    StableHlo.unary main_cst_14 main_v124 (broadcastInDim S6300 ![] bcast_S_S6300 : (⟨S_, .f32⟩ : BufTy).Contents (Elt F) → (⟨S6300, .f32⟩ : BufTy).Contents (Elt F)),
    StableHlo.binary main_v123 main_v124 main_v125 (maximumf : (⟨S6300, .f32⟩ : BufTy).Contents (Elt F) → (⟨S6300, .f32⟩ : BufTy).Contents (Elt F) → (⟨S6300, .f32⟩ : BufTy).Contents (Elt F)),
    StableHlo.binary main_v118 main_v125 main_v126 (mulf : (⟨S6300, .f32⟩ : BufTy).Contents (Elt F) → (⟨S6300, .f32⟩ : BufTy).Contents (Elt F) → (⟨S6300, .f32⟩ : BufTy).Contents (Elt F)),
    StableHlo.nullary main_cst_15 (constant S_ .f32 0x00000000#32),
    StableHlo.unary main_cst_15 main_v127 (broadcastInDim S6300 ![] bcast_S_S6300 : (⟨S_, .f32⟩ : BufTy).Contents (Elt F) → (⟨S6300, .f32⟩ : BufTy).Contents (Elt F)),
    StableHlo.binary main_v110 main_v127 main_v128 (cmpf .ogt : (⟨S6300, .f32⟩ : BufTy).Contents (Elt F) → (⟨S6300, .f32⟩ : BufTy).Contents (Elt F) → (⟨S6300, .i1⟩ : BufTy).Contents (Elt F)),
    StableHlo.nullary main_cst_16 (constant S_ .f32 0xD01502F9#32),
    StableHlo.TRef.unary (.of main_cst_16) main_call1.v0 id,
    StableHlo.TRef.unary main_call1.v0 main_call1.v1 (broadcastInDim S6300 ![] bcast_S_S6300),
    StableHlo.TRef.ternary (.of main_v128) (.of main_v110) main_call1.v1 main_call1.v2 select,
    StableHlo.nullary main_cst_17 (constant S_ .f32 0x00000000#32),
    StableHlo.unary main_cst_17 main_v130 (broadcastInDim S100x4 ![] bcast_S_S100x4 : (⟨S_, .f32⟩ : BufTy).Contents (Elt F) → (⟨S100x4, .f32⟩ : BufTy).Contents (Elt F)),
    StableHlo.nullary main_cst_18 (constant S_ .f32 0x00000000#32),
    StableHlo.unary main_cst_18 main_v131 (broadcastInDim S100 ![] bcast_S_S100 : (⟨S_, .f32⟩ : BufTy).Contents (Elt F) → (⟨S100, .f32⟩ : BufTy).Contents (Elt F)),
    StableHlo.nullary main_c (constantI S_ 32 0#32),
    StableHlo.unary main_c main_v132 (broadcastInDim S100 ![] bcast_S_S100 : (⟨S_, .i32⟩ : BufTy).Contents (Elt F) → (⟨S100, .i32⟩ : BufTy).Contents (Elt F)),
    StableHlo.nullary main_c_19 (constantI S_ 32 0#32),
    StableHlo.nullary main_c_20 (constantI S_ 32 0#32),
    StableHlo.nullary main_c_21 (constantI S_ 32 0#32),
    StableHlo.unary main_v111 main_v133_0 id,
    StableHlo.unary main_v126 main_v133_1 id,
    StableHlo.unary main_c_21 main_v133_2 id,
    StableHlo.unary main_c_19 main_v133_3 id,
    StableHlo.unary main_v129 main_v133_4 id,
    StableHlo.unary main_v130 main_v133_5 id,
    StableHlo.unary main_v131 main_v133_6 id,
    StableHlo.unary main_v132 main_v133_7 id,
    StableHlo.unary main_c_20 main_v133_8 id ]
/-- Each of them touches buffers of the main core only. -/
theorem preC_sub : ((preC : List (HloOp τ sig (Elt F)))).Forall fun op => op.bufs ⊆ StableHlo.tcRefs τ sig :=
  ⟨StableHlo.unary_bufs_sub .., StableHlo.binary_bufs_sub .., StableHlo.reshape_bufs_sub .., StableHlo.nullary_bufs_sub .., StableHlo.binary_bufs_sub .., StableHlo.reshape_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The first operations of one trip: the first maximum, its box, the intersection. -/
abbrev bodyA : List (HloOp τ sig (Elt F)) :=
  [ StableHlo.nullary main_while0b_c_35 (constantI S_ 32 1#32),
    StableHlo.binary main_v133_3 main_while0b_c_35 main_while0b_v150 (addi : (⟨S_, .i32⟩ : BufTy).Contents (Elt F) → (⟨S_, .i32⟩ : BufTy).Contents (Elt F) → (⟨S_, .i32⟩ : BufTy).Contents (Elt F)),
    StableHlo.TRef.nullary main_while0b_call2.v0 (iotaInDim S6300 32 0),
    StableHlo.TRef.nullary main_while0b_call2.cst (constant S_ .f32 0xFF800000#32),
    StableHlo.TRef.nullary main_while0b_call2.c (constantI S_ 32 0#32),
    StableHlo.TRef.quaternary (.of main_v133_4) main_while0b_call2.v0 main_while0b_call2.cst main_while0b_call2.c main_while0b_call2.v1_0 (fun x y u v j => (Host.argReduce reducer_argmax_f32_i32 x y u v reducesTo_S6300_S_d0 h_S_ j).1),
    StableHlo.TRef.quaternary (.of main_v133_4) main_while0b_call2.v0 main_while0b_call2.cst main_while0b_call2.c main_while0b_call2.v1_1 (fun x y u v j => (Host.argReduce reducer_argmax_f32_i32 x y u v reducesTo_S6300_S_d0 h_S_ j).2),
    StableHlo.nullary main_while0b_c_36 (constantI S_ 32 0#32),
    StableHlo.binary main_while0b_v151 main_while0b_c_36 main_while0b_v152 (cmpi .slt : (⟨S_, .i32⟩ : BufTy).Contents (Elt F) → (⟨S_, .i32⟩ : BufTy).Contents (Elt F) → (⟨S_, .i1⟩ : BufTy).Contents (Elt F)),
    StableHlo.nullary main_while0b_c_37 (constantI S_ 32 6300#32),
    StableHlo.binary main_while0b_v151 main_while0b_c_37 main_while0b_v153 (addi : (⟨S_, .i32⟩ : BufTy).Contents (Elt F) → (⟨S_, .i32⟩ : BufTy).Contents (Elt F) → (⟨S_, .i32⟩ : BufTy).Contents (Elt F)),
    StableHlo.ternary main_while0b_v152 main_while0b_v153 main_while0b_v151 main_while0b_v154 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v133_4 ![main_while0b_v154] ⟨S_, .i32⟩ main_while0b_v155 ((fun x i => Host.dynamicSlice S1 x (fun k => (i k (Shape.Idx.first h_S_)).toInt) sliceFits_S6300_S1) : (⟨S6300, .f32⟩ : BufTy).Contents (Elt F) → (Fin 1 → (⟨S_, .i32⟩ : BufTy).Contents (Elt F)) → (⟨S1, .f32⟩ : BufTy).Contents (Elt F)),
    StableHlo.reshape main_while0b_v155 main_while0b_v156 (rfl : (.f32 : EltTy) = .f32) shapeCasts_S1_S_,
    StableHlo.nullary main_while0b_cst_38 (constant S_ .f32 0xCF9502F9#32),
    StableHlo.binary main_while0b_v156 main_while0b_cst_38 main_while0b_v157 (cmpf .ogt : (⟨S_, .f32⟩ : BufTy).Contents (Elt F) → (⟨S_, .f32⟩ : BufTy).Contents (Elt F) → (⟨S_, .i1⟩ : BufTy).Contents (Elt F)),
    StableHlo.nullary main_while0b_c_39 (constantI S_ 32 0#32),
    StableHlo.binary main_while0b_v151 main_while0b_c_39 main_while0b_v158 (cmpi .slt : (⟨S_, .i32⟩ : BufTy).Contents (Elt F) → (⟨S_, .i32⟩ : BufTy).Contents (Elt F) → (⟨S_, .i1⟩ : BufTy).Contents (Elt F)),
    StableHlo.nullary main_while0b_c_40 (constantI S_ 32 6300#32),
    StableHlo.binary main_while0b_v151 main_while0b_c_40 main_while0b_v159 (addi : (⟨S_, .i32⟩ : BufTy).Contents (Elt F) → (⟨S_, .i32⟩ : BufTy).Contents (Elt F) → (⟨S_, .i32⟩ : BufTy).Contents (Elt F)),
    StableHlo.ternary main_while0b_v158 main_while0b_v159 main_while0b_v151 main_while0b_v160 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_41 (constantI S_ 32 0#32),
    StableHlo.nullary main_while0b_c_42 (constantI S_ 32 0#32),
    StableHlo.binary main_while0b_c_41 main_while0b_c_42 main_while0b_v161 (cmpi .slt : (⟨S_, .i32⟩ : BufTy).Contents (Elt F) → (⟨S_, .i32⟩ : BufTy).Contents (Elt F) → (⟨S_, .i1⟩ : BufTy).Contents (Elt F)),
    StableHlo.nullary main_while0b_c_43 (constantI S_ 32 0#32),
    StableHlo.nullary main_while0b_c_44 (constantI S_ 32 4#32),
    StableHlo.binary main_while0b_c_43 main_while0b_c_44 main_while0b_v162 (addi : (⟨S_, .i32⟩ : BufTy).Contents (Elt F) → (⟨S_, .i32⟩ : BufTy).Contents (Elt F) → (⟨S_, .i32⟩ : BufTy).Contents (Elt F)),
    StableHlo.nullary main_while0b_c_45 (constantI S_ 32 0#32),
    StableHlo.ternary main_while0b_v161 main_while0b_v162 main_while0b_c_45 main_while0b_v163 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v133_0 ![main_while0b_v160, main_while0b_v163] ⟨S_, .i32⟩ main_while0b_v164 ((fun x i => Host.dynamicSlice S1x4 x (fun k => (i k (Shape.Idx.first h_S_)).toInt) sliceFits_S6300x4_S1x4) : (⟨S6300x4, .f32⟩ : BufTy).Contents (Elt F) → (Fin 2 → (⟨S_, .i32⟩ : BufTy).Contents (Elt F)) → (⟨S1x4, .f32⟩ : BufTy).Contents (Elt F)),
    StableHlo.reshape main_while0b_v164 main_while0b_v165 (rfl : (.f32 : EltTy) = .f32) shapeCasts_S1x4_S4,
    StableHlo.unary main_while0b_v165 main_while0b_v166 ((extractStridedSlice S1 ![0] · slices_S4_S1_0) : (⟨S4, .f32⟩ : BufTy).Contents (Elt F) → (⟨S1, .f32⟩ : BufTy).Contents (Elt F)),
    StableHlo.reshape main_while0b_v166 main_while0b_v167 (rfl : (.f32 : EltTy) = .f32) shapeCasts_S1_S_,
    StableHlo.unary main_v133_0 main_while0b_v168 ((extractStridedSlice S6300x1 ![0, 0] · slices_S6300x4_S6300x1_0_0) : (⟨S6300x4, .f32⟩ : BufTy).Contents (Elt F) → (⟨S6300x1, .f32⟩ : BufTy).Contents (Elt F)),
    StableHlo.reshape main_while0b_v168 main_while0b_v169 (rfl : (.f32 : EltTy) = .f32) shapeCasts_S6300x1_S6300,
    StableHlo.unary main_while0b_v167 main_while0b_v170 (broadcastInDim S6300 ![] bcast_S_S6300 : (⟨S_, .f32⟩ : BufTy).Contents (Elt F) → (⟨S6300, .f32⟩ : BufTy).Contents (Elt F)),
    StableHlo.binary main_while0b_v170 main_while0b_v169 main_while0b_v171 (maximumf : (⟨S6300, .f32⟩ : BufTy).Contents (Elt F) → (⟨S6300, .f32⟩ : BufTy).Contents (Elt F) → (⟨S6300, .f32⟩ : BufTy).Contents (Elt F)),
    StableHlo.unary main_while0b_v165 main_while0b_v172 ((extractStridedSlice S1 ![1] · slices_S4_S1_1) : (⟨S4, .f32⟩ : BufTy).Contents (Elt F) → (⟨S1, .f32⟩ : BufTy).Contents (Elt F)),
    StableHlo.reshape main_while0b_v172 main_while0b_v173 (rfl : (.f32 : EltTy) = .f32) shapeCasts_S1_S_,
    StableHlo.unary main_v133_0 main_while0b_v174 ((extractStridedSlice S6300x1 ![0, 1] · slices_S6300x4_S6300x1_0_1) : (⟨S6300x4, .f32⟩ : BufTy).Contents (Elt F) → (⟨S6300x1, .f32⟩ : BufTy).Contents (Elt F)),
    StableHlo.reshape main_while0b_v174 main_while0b_v175 (rfl : (.f32 : EltTy) = .f32) shapeCasts_S6300x1_S6300,
    StableHlo.unary main_while0b_v173 main_while0b_v176 (broadcastInDim S6300 ![] bcast_S_S6300 : (⟨S_, .f32⟩ : BufTy).Contents (Elt F) → (⟨S6300, .f32⟩ : BufTy).Contents (Elt F)),
    StableHlo.binary main_while0b_v176 main_while0b_v175 main_while0b_v177 (maximumf : (⟨S6300, .f32⟩ : BufTy).Contents (Elt F) → (⟨S6300, .f32⟩ : BufTy).Contents (Elt F) → (⟨S6300, .f32⟩ : BufTy).Contents (Elt F)),
    StableHlo.unary main_while0b_v165 main_while0b_v178 ((extractStridedSlice S1 ![2] · slices_S4_S1_2) : (⟨S4, .f32⟩ : BufTy).Contents (Elt F) → (⟨S1, .f32⟩ : BufTy).Contents (Elt F)),
    StableHlo.reshape main_while0b_v178 main_while0b_v179 (rfl : (.f32 : EltTy) = .f32) shapeCasts_S1_S_,
    StableHlo.unary main_v133_0 main_while0b_v180 ((extractStridedSlice S6300x1 ![0, 2] · slices_S6300x4_S6300x1_0_2) : (⟨S6300x4, .f32⟩ : BufTy).Contents (Elt F) → (⟨S6300x1, .f32⟩ : BufTy).Contents (Elt F)),
    StableHlo.reshape main_while0b_v180 main_while0b_v181 (rfl : (.f32 : EltTy) = .f32) shapeCasts_S6300x1_S6300,
    StableHlo.unary main_while0b_v179 main_while0b_v182 (broadcastInDim S6300 ![] bcast_S_S6300 : (⟨S_, .f32⟩ : BufTy).Contents (Elt F) → (⟨S6300, .f32⟩ : BufTy).Contents (Elt F)),
    StableHlo.binary main_while0b_v182 main_while0b_v181 main_while0b_v183 (minimumf : (⟨S6300, .f32⟩ : BufTy).Contents (Elt F) → (⟨S6300, .f32⟩ : BufTy).Contents (Elt F) → (⟨S6300, .f32⟩ : BufTy).Contents (Elt F)),
    StableHlo.unary main_while0b_v165 main_while0b_v184 ((extractStridedSlice S1 ![3] · slices_S4_S1_3) : (⟨S4, .f32⟩ : BufTy).Contents (Elt F) → (⟨S1, .f32⟩ : BufTy).Contents (Elt F)),
    StableHlo.reshape main_while0b_v184 main_while0b_v185 (rfl : (.f32 : EltTy) = .f32) shapeCasts_S1_S_,
    StableHlo.unary main_v133_0 main_while0b_v186 ((extractStridedSlice S6300x1 ![0, 3] · slices_S6300x4_S6300x1_0_3) : (⟨S6300x4, .f32⟩ : BufTy).Contents (Elt F) → (⟨S6300x1, .f32⟩ : BufTy).Contents (Elt F)),
    StableHlo.reshape main_while0b_v186 main_while0b_v187 (rfl : (.f32 : EltTy) = .f32) shapeCasts_S6300x1_S6300,
    StableHlo.unary main_while0b_v185 main_while0b_v188 (broadcastInDim S6300 ![] bcast_S_S6300 : (⟨S_, .f32⟩ : BufTy).Contents (Elt F) → (⟨S6300, .f32⟩ : BufTy).Contents (Elt F)),
    StableHlo.binary main_while0b_v188 main_while0b_v187 main_while0b_v189 (minimumf : (⟨S6300, .f32⟩ : BufTy).Contents (Elt F) → (⟨S6300, .f32⟩ : BufTy).Contents (Elt F) → (⟨S6300, .f32⟩ : BufTy).Contents (Elt F)),
    StableHlo.binary main_while0b_v183 main_while0b_v171 main_while0b_v190 (subf : (⟨S6300, .f32⟩ : BufTy).Contents (Elt F) → (⟨S6300, .f32⟩ : BufTy).Contents (Elt F) → (⟨S6300, .f32⟩ : BufTy).Contents (Elt F)),
    StableHlo.nullary main_while0b_cst_46 (constant S_ .f32 0x00000000#32),
    StableHlo.unary main_while0b_cst_46 main_while0b_v191 (broadcastInDim S6300 ![] bcast_S_S6300 : (⟨S_, .f32⟩ : BufTy).Contents (Elt F) → (⟨S6300, .f32⟩ : BufTy).Contents (Elt F)),
    StableHlo.binary main_while0b_v190 main_while0b_v191 main_while0b_v192 (maximumf : (⟨S6300, .f32⟩ : BufTy).Contents (Elt F) → (⟨S6300, .f32⟩ : BufTy).Contents (Elt F) → (⟨S6300, .f32⟩ : BufTy).Contents (Elt F)),
    StableHlo.binary main_while0b_v189 main_while0b_v177 main_while0b_v193 (subf : (⟨S6300, .f32⟩ : BufTy).Contents (Elt F) → (⟨S6300, .f32⟩ : BufTy).Contents (Elt F) → (⟨S6300, .f32⟩ : BufTy).Contents (Elt F)),
    StableHlo.nullary main_while0b_cst_47 (constant S_ .f32 0x00000000#32),
    StableHlo.unary main_while0b_cst_47 main_while0b_v194 (broadcastInDim S6300 ![] bcast_S_S6300 : (⟨S_, .f32⟩ : BufTy).Contents (Elt F) → (⟨S6300, .f32⟩ : BufTy).Contents (Elt F)),
    StableHlo.binary main_while0b_v193 main_while0b_v194 main_while0b_v195 (maximumf : (⟨S6300, .f32⟩ : BufTy).Contents (Elt F) → (⟨S6300, .f32⟩ : BufTy).Contents (Elt F) → (⟨S6300, .f32⟩ : BufTy).Contents (Elt F)),
    StableHlo.binary main_while0b_v192 main_while0b_v195 main_while0b_v196 (mulf : (⟨S6300, .f32⟩ : BufTy).Contents (Elt F) → (⟨S6300, .f32⟩ : BufTy).Contents (Elt F) → (⟨S6300, .f32⟩ : BufTy).Contents (Elt F)) ]
/-- Each of them touches buffers of the main core only. -/
theorem bodyA_sub : ((bodyA : List (HloOp τ sig (Elt F)))).Forall fun op => op.bufs ⊆ StableHlo.tcRefs τ sig :=
  ⟨StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩

/-- The next operations of one trip: the overlap ratio, the suppressed scores, the stored row. -/
abbrev bodyB : List (HloOp τ sig (Elt F)) :=
  [ StableHlo.unary main_while0b_v165 main_while0b_v197 ((extractStridedSlice S1 ![2] · slices_S4_S1_2) : (⟨S4, .f32⟩ : BufTy).Contents (Elt F) → (⟨S1, .f32⟩ : BufTy).Contents (Elt F)),
    StableHlo.reshape main_while0b_v197 main_while0b_v198 (rfl : (.f32 : EltTy) = .f32) shapeCasts_S1_S_,
    StableHlo.unary main_while0b_v165 main_while0b_v199 ((extractStridedSlice S1 ![0] · slices_S4_S1_0) : (⟨S4, .f32⟩ : BufTy).Contents (Elt F) → (⟨S1, .f32⟩ : BufTy).Contents (Elt F)),
    StableHlo.reshape main_while0b_v199 main_while0b_v200 (rfl : (.f32 : EltTy) = .f32) shapeCasts_S1_S_,
    StableHlo.binary main_while0b_v198 main_while0b_v200 main_while0b_v201 (subf : (⟨S_, .f32⟩ : BufTy).Contents (Elt F) → (⟨S_, .f32⟩ : BufTy).Contents (Elt F) → (⟨S_, .f32⟩ : BufTy).Contents (Elt F)),
    StableHlo.nullary main_while0b_cst_48 (constant S_ .f32 0x00000000#32),
    StableHlo.binary main_while0b_v201 main_while0b_cst_48 main_while0b_v202 (maximumf : (⟨S_, .f32⟩ : BufTy).Contents (Elt F) → (⟨S_, .f32⟩ : BufTy).Contents (Elt F) → (⟨S_, .f32⟩ : BufTy).Contents (Elt F)),
    StableHlo.unary main_while0b_v165 main_while0b_v203 ((extractStridedSlice S1 ![3] · slices_S4_S1_3) : (⟨S4, .f32⟩ : BufTy).Contents (Elt F) → (⟨S1, .f32⟩ : BufTy).Contents (Elt F)),
    StableHlo.reshape main_while0b_v203 main_while0b_v204 (rfl : (.f32 : EltTy) = .f32) shapeCasts_S1_S_,
    StableHlo.unary main_while0b_v165 main_while0b_v205 ((extractStridedSlice S1 ![1] · slices_S4_S1_1) : (⟨S4, .f32⟩ : BufTy).Contents (Elt F) → (⟨S1, .f32⟩ : BufTy).Contents (Elt F)),
    StableHlo.reshape main_while0b_v205 main_while0b_v206 (rfl : (.f32 : EltTy) = .f32) shapeCasts_S1_S_,
    StableHlo.binary main_while0b_v204 main_while0b_v206 main_while0b_v207 (subf : (⟨S_, .f32⟩ : BufTy).Contents (Elt F) → (⟨S_, .f32⟩ : BufTy).Contents (Elt F) → (⟨S_, .f32⟩ : BufTy).Contents (Elt F)),
    StableHlo.nullary main_while0b_cst_49 (constant S_ .f32 0x00000000#32),
    StableHlo.binary main_while0b_v207 main_while0b_cst_49 main_while0b_v208 (maximumf : (⟨S_, .f32⟩ : BufTy).Contents (Elt F) → (⟨S_, .f32⟩ : BufTy).Contents (Elt F) → (⟨S_, .f32⟩ : BufTy).Contents (Elt F)),
    StableHlo.binary main_while0b_v202 main_while0b_v208 main_while0b_v209 (mulf : (⟨S_, .f32⟩ : BufTy).Contents (Elt F) → (⟨S_, .f32⟩ : BufTy).Contents (Elt F) → (⟨S_, .f32⟩ : BufTy).Contents (Elt F)),
    StableHlo.unary main_while0b_v209 main_while0b_v210 (broadcastInDim S6300 ![] bcast_S_S6300 : (⟨S_, .f32⟩ : BufTy).Contents (Elt F) → (⟨S6300, .f32⟩ : BufTy).Contents (Elt F)),
    StableHlo.binary main_while0b_v210 main_v133_1 main_while0b_v211 (addf : (⟨S6300, .f32⟩ : BufTy).Contents (Elt F) → (⟨S6300, .f32⟩ : BufTy).Contents (Elt F) → (⟨S6300, .f32⟩ : BufTy).Contents (Elt F)),
    StableHlo.binary main_while0b_v211 main_while0b_v196 main_while0b_v212 (subf : (⟨S6300, .f32⟩ : BufTy).Contents (Elt F) → (⟨S6300, .f32⟩ : BufTy).Contents (Elt F) → (⟨S6300, .f32⟩ : BufTy).Contents (Elt F)),
    StableHlo.nullary main_while0b_cst_50 (constant S_ .f32 0x00000000#32),
    StableHlo.unary main_while0b_cst_50 main_while0b_v213 (broadcastInDim S6300 ![] bcast_S_S6300 : (⟨S_, .f32⟩ : BufTy).Contents (Elt F) → (⟨S6300, .f32⟩ : BufTy).Contents (Elt F)),
    StableHlo.binary main_while0b_v212 main_while0b_v213 main_while0b_v214 (cmpf .ogt : (⟨S6300, .f32⟩ : BufTy).Contents (Elt F) → (⟨S6300, .f32⟩ : BufTy).Contents (Elt F) → (⟨S6300, .i1⟩ : BufTy).Contents (Elt F)),
    StableHlo.nullary main_while0b_cst_51 (constant S_ .f32 0x3F800000#32),
    StableHlo.TRef.unary (.of main_while0b_cst_51) main_while0b_call3.v0 id,
    StableHlo.TRef.unary main_while0b_call3.v0 main_while0b_call3.v1 (broadcastInDim S6300 ![] bcast_S_S6300),
    StableHlo.TRef.ternary (.of main_while0b_v214) (.of main_while0b_v212) main_while0b_call3.v1 main_while0b_call3.v2 select,
    StableHlo.nullary main_while0b_cst_52 (constant S_ .f32 0x00000000#32),
    StableHlo.unary main_while0b_cst_52 main_while0b_v216 (broadcastInDim S6300 ![] bcast_S_S6300 : (⟨S_, .f32⟩ : BufTy).Contents (Elt F) → (⟨S6300, .f32⟩ : BufTy).Contents (Elt F)),
    StableHlo.binary main_while0b_v212 main_while0b_v216 main_while0b_v217 (cmpf .ogt : (⟨S6300, .f32⟩ : BufTy).Contents (Elt F) → (⟨S6300, .f32⟩ : BufTy).Contents (Elt F) → (⟨S6300, .i1⟩ : BufTy).Contents (Elt F)),
    StableHlo.binary main_while0b_v196 main_while0b_v215 main_while0b_v218 (Host.divf : (⟨S6300, .f32⟩ : BufTy).Contents (Elt F) → (⟨S6300, .f32⟩ : BufTy).Contents (Elt F) → (⟨S6300, .f32⟩ : BufTy).Contents (Elt F)),
    StableHlo.nullary main_while0b_cst_53 (constant S_ .f32 0x00000000#32),
    StableHlo.TRef.unary (.of main_while0b_cst_53) main_while0b_call4.v0 id,
    StableHlo.TRef.unary main_while0b_call4.v0 main_while0b_call4.v1 (broadcastInDim S6300 ![] bcast_S_S6300),
    StableHlo.TRef.ternary (.of main_while0b_v217) (.of main_while0b_v218) main_while0b_call4.v1 main_while0b_call4.v2 select,
    StableHlo.nullary main_while0b_cst_54 (constant S_ .f32 0x3F000000#32),
    StableHlo.unary main_while0b_cst_54 main_while0b_v220 (broadcastInDim S6300 ![] bcast_S_S6300 : (⟨S_, .f32⟩ : BufTy).Contents (Elt F) → (⟨S6300, .f32⟩ : BufTy).Contents (Elt F)),
    StableHlo.binary main_while0b_v219 main_while0b_v220 main_while0b_v221 (cmpf .ogt : (⟨S6300, .f32⟩ : BufTy).Contents (Elt F) → (⟨S6300, .f32⟩ : BufTy).Contents (Elt F) → (⟨S6300, .i1⟩ : BufTy).Contents (Elt F)),
    StableHlo.nullary main_while0b_cst_55 (constant S_ .f32 0xD01502F9#32),
    StableHlo.TRef.unary (.of main_while0b_cst_55) main_while0b_call5.v0 id,
    StableHlo.TRef.unary main_while0b_call5.v0 main_while0b_call5.v1 (broadcastInDim S6300 ![] bcast_S_S6300),
    StableHlo.TRef.ternary (.of main_while0b_v221) main_while0b_call5.v1 (.of main_v133_4) main_while0b_call5.v2 select,
    StableHlo.nullary main_while0b_c_56 (constantI S_ 32 0#32),
    StableHlo.binary main_while0b_v151 main_while0b_c_56 main_while0b_v223 (cmpi .slt : (⟨S_, .i32⟩ : BufTy).Contents (Elt F) → (⟨S_, .i32⟩ : BufTy).Contents (Elt F) → (⟨S_, .i1⟩ : BufTy).Contents (Elt F)),
    StableHlo.nullary main_while0b_c_57 (constantI S_ 32 6300#32),
    StableHlo.binary main_while0b_v151 main_while0b_c_57 main_while0b_v224 (addi : (⟨S_, .i32⟩ : BufTy).Contents (Elt F) → (⟨S_, .i32⟩ : BufTy).Contents (Elt F) → (⟨S_, .i32⟩ : BufTy).Contents (Elt F)),
    StableHlo.ternary main_while0b_v223 main_while0b_v224 main_while0b_v151 main_while0b_v225 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v225 main_while0b_v226 (broadcastInDim S1 ![] bcast_S_S1 : (⟨S_, .i32⟩ : BufTy).Contents (Elt F) → (⟨S1, .i32⟩ : BufTy).Contents (Elt F)),
    StableHlo.nullary main_while0b_cst_58 (constant S_ .f32 0xD01502F9#32),
    StableHlo.ternary main_while0b_v222 main_while0b_v226 main_while0b_cst_58 main_while0b_v227 ((fun x i u => Host.scatter scatter_S6300_S1_S__n_0_0_0 (fun _ b => b) x i u) : (⟨S6300, .f32⟩ : BufTy).Contents (Elt F) → (⟨S1, .i32⟩ : BufTy).Contents (Elt F) → (⟨S_, .f32⟩ : BufTy).Contents (Elt F) → (⟨S6300, .f32⟩ : BufTy).Contents (Elt F)),
    StableHlo.nullary main_while0b_cst_59 (constant S_ .f32 0x00000000#32),
    StableHlo.unary main_while0b_cst_59 main_while0b_v228 (broadcastInDim S4 ![] bcast_S_S4 : (⟨S_, .f32⟩ : BufTy).Contents (Elt F) → (⟨S4, .f32⟩ : BufTy).Contents (Elt F)),
    StableHlo.TRef.ternary (.of main_while0b_v157) (.of main_while0b_v165) (.of main_while0b_v228) main_while0b_call6.v0 (fun p a b => select (broadcastInDim S4 ![] bcast_S_S4 p) a b),
    StableHlo.nullary main_while0b_c_60 (constantI S_ 32 0#32),
    StableHlo.binary main_v133_3 main_while0b_c_60 main_while0b_v230 (cmpi .slt : (⟨S_, .i32⟩ : BufTy).Contents (Elt F) → (⟨S_, .i32⟩ : BufTy).Contents (Elt F) → (⟨S_, .i1⟩ : BufTy).Contents (Elt F)),
    StableHlo.nullary main_while0b_c_61 (constantI S_ 32 100#32),
    StableHlo.binary main_v133_3 main_while0b_c_61 main_while0b_v231 (addi : (⟨S_, .i32⟩ : BufTy).Contents (Elt F) → (⟨S_, .i32⟩ : BufTy).Contents (Elt F) → (⟨S_, .i32⟩ : BufTy).Contents (Elt F)),
    StableHlo.ternary main_while0b_v230 main_while0b_v231 main_v133_3 main_while0b_v232 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v232 main_while0b_v233 (id : (⟨S_, .i32⟩ : BufTy).Contents (Elt F) → (⟨S_, .i32⟩ : BufTy).Contents (Elt F)),
    StableHlo.unary main_while0b_v233 main_while0b_v234 (broadcastInDim S1 ![] bcast_S_S1 : (⟨S_, .i32⟩ : BufTy).Contents (Elt F) → (⟨S1, .i32⟩ : BufTy).Contents (Elt F)),
    StableHlo.ternary main_v133_5 main_while0b_v234 main_while0b_v229 main_while0b_v235 ((fun x i u => Host.scatter scatter_S100x4_S1_S4_0_0_0_0 (fun _ b => b) x i u) : (⟨S100x4, .f32⟩ : BufTy).Contents (Elt F) → (⟨S1, .i32⟩ : BufTy).Contents (Elt F) → (⟨S4, .f32⟩ : BufTy).Contents (Elt F) → (⟨S100x4, .f32⟩ : BufTy).Contents (Elt F)),
    StableHlo.nullary main_while0b_cst_62 (constant S_ .f32 0x00000000#32),
    StableHlo.TRef.ternary (.of main_while0b_v157) (.of main_while0b_v156) (.of main_while0b_cst_62) main_while0b_call7.v0 select,
    StableHlo.nullary main_while0b_c_63 (constantI S_ 32 0#32),
    StableHlo.binary main_v133_3 main_while0b_c_63 main_while0b_v237 (cmpi .slt : (⟨S_, .i32⟩ : BufTy).Contents (Elt F) → (⟨S_, .i32⟩ : BufTy).Contents (Elt F) → (⟨S_, .i1⟩ : BufTy).Contents (Elt F)),
    StableHlo.nullary main_while0b_c_64 (constantI S_ 32 100#32),
    StableHlo.binary main_v133_3 main_while0b_c_64 main_while0b_v238 (addi : (⟨S_, .i32⟩ : BufTy).Contents (Elt F) → (⟨S_, .i32⟩ : BufTy).Contents (Elt F) → (⟨S_, .i32⟩ : BufTy).Contents (Elt F)),
    StableHlo.ternary main_while0b_v237 main_while0b_v238 main_v133_3 main_while0b_v239 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
/-- Each of them touches buffers of the main core only. -/
theorem bodyB_sub : ((bodyB : List (HloOp τ sig (Elt F)))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub .., StableHlo.nullary_bufs_sub .., StableHlo.unary_bufs_sub .., StableHlo.ternary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.nullary_bufs_sub .., StableHlo.ternary_bufs_sub .., StableHlo.nullary_bufs_sub .., StableHlo.binary_bufs_sub .., StableHlo.nullary_bufs_sub .., StableHlo.binary_bufs_sub .., StableHlo.ternary_bufs_sub ..⟩

/-- The last operations of one trip: the stored score and index, the count, the carry written back. -/
abbrev bodyC : List (HloOp τ sig (Elt F)) :=
  [ StableHlo.unary main_while0b_v239 main_while0b_v240 (id : (⟨S_, .i32⟩ : BufTy).Contents (Elt F) → (⟨S_, .i32⟩ : BufTy).Contents (Elt F)),
    StableHlo.unary main_while0b_v240 main_while0b_v241 (broadcastInDim S1 ![] bcast_S_S1 : (⟨S_, .i32⟩ : BufTy).Contents (Elt F) → (⟨S1, .i32⟩ : BufTy).Contents (Elt F)),
    StableHlo.ternary main_v133_6 main_while0b_v241 main_while0b_v236 main_while0b_v242 ((fun x i u => Host.scatter scatter_S100_S1_S__n_0_0_0 (fun _ b => b) x i u) : (⟨S100, .f32⟩ : BufTy).Contents (Elt F) → (⟨S1, .i32⟩ : BufTy).Contents (Elt F) → (⟨S_, .f32⟩ : BufTy).Contents (Elt F) → (⟨S100, .f32⟩ : BufTy).Contents (Elt F)),
    StableHlo.nullary main_while0b_c_65 (constantI S_ 32 4294967295#32),
    StableHlo.TRef.ternary (.of main_while0b_v157) (.of main_while0b_v151) (.of main_while0b_c_65) main_while0b_call8.v0 select,
    StableHlo.nullary main_while0b_c_66 (constantI S_ 32 0#32),
    StableHlo.binary main_v133_3 main_while0b_c_66 main_while0b_v244 (cmpi .slt : (⟨S_, .i32⟩ : BufTy).Contents (Elt F) → (⟨S_, .i32⟩ : BufTy).Contents (Elt F) → (⟨S_, .i1⟩ : BufTy).Contents (Elt F)),
    StableHlo.nullary main_while0b_c_67 (constantI S_ 32 100#32),
    StableHlo.binary main_v133_3 main_while0b_c_67 main_while0b_v245 (addi : (⟨S_, .i32⟩ : BufTy).Contents (Elt F) → (⟨S_, .i32⟩ : BufTy).Contents (Elt F) → (⟨S_, .i32⟩ : BufTy).Contents (Elt F)),
    StableHlo.ternary main_while0b_v244 main_while0b_v245 main_v133_3 main_while0b_v246 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v246 main_while0b_v247 (id : (⟨S_, .i32⟩ : BufTy).Contents (Elt F) → (⟨S_, .i32⟩ : BufTy).Contents (Elt F)),
    StableHlo.unary main_while0b_v247 main_while0b_v248 (broadcastInDim S1 ![] bcast_S_S1 : (⟨S_, .i32⟩ : BufTy).Contents (Elt F) → (⟨S1, .i32⟩ : BufTy).Contents (Elt F)),
    StableHlo.ternary main_v133_7 main_while0b_v248 main_while0b_v243 main_while0b_v249 ((fun x i u => Host.scatter scatter_S100_S1_S__n_0_0_0 (fun _ b => b) x i u) : (⟨S100, .i32⟩ : BufTy).Contents (Elt F) → (⟨S1, .i32⟩ : BufTy).Contents (Elt F) → (⟨S_, .i32⟩ : BufTy).Contents (Elt F) → (⟨S100, .i32⟩ : BufTy).Contents (Elt F)),
    StableHlo.unary main_while0b_v157 main_while0b_v250 ((extui 32 · natLt_1_32) : (⟨S_, .i1⟩ : BufTy).Contents (Elt F) → (⟨S_, .i32⟩ : BufTy).Contents (Elt F)),
    StableHlo.binary main_v133_8 main_while0b_v250 main_while0b_v251 (addi : (⟨S_, .i32⟩ : BufTy).Contents (Elt F) → (⟨S_, .i32⟩ : BufTy).Contents (Elt F) → (⟨S_, .i32⟩ : BufTy).Contents (Elt F)),
    StableHlo.nullary main_while0b_c_68 (constantI S_ 32 1#32),
    StableHlo.binary main_v133_2 main_while0b_c_68 main_while0b_v252 (addi : (⟨S_, .i32⟩ : BufTy).Contents (Elt F) → (⟨S_, .i32⟩ : BufTy).Contents (Elt F) → (⟨S_, .i32⟩ : BufTy).Contents (Elt F)),
    StableHlo.unary main_while0b_v252 main_v133_2 id,
    StableHlo.unary main_while0b_v150 main_v133_3 id,
    StableHlo.unary main_while0b_v227 main_v133_4 id,
    StableHlo.unary main_while0b_v235 main_v133_5 id,
    StableHlo.unary main_while0b_v242 main_v133_6 id,
    StableHlo.unary main_while0b_v249 main_v133_7 id,
    StableHlo.unary main_while0b_v251 main_v133_8 id ]
/-- Each of them touches buffers of the main core only. -/
theorem bodyC_sub : ((bodyC : List (HloOp τ sig (Elt F)))).Forall fun op => op.bufs ⊆ StableHlo.tcRefs τ sig :=
  ⟨StableHlo.unary_bufs_sub .., StableHlo.unary_bufs_sub .., StableHlo.ternary_bufs_sub .., StableHlo.nullary_bufs_sub .., StableHlo.ternary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The first operations after the loop. -/
abbrev postA : List (HloOp τ sig (Elt F)) :=
  [ StableHlo.nullary main_c_22 (constantI S_ 32 0#32),
    StableHlo.unary main_c_22 main_v134 (broadcastInDim S100 ![] bcast_S_S100 : (⟨S_, .i32⟩ : BufTy).Contents (Elt F) → (⟨S100, .i32⟩ : BufTy).Contents (Elt F)),
    StableHlo.binary main_v133_7 main_v134 main_v135 (cmpi .sge : (⟨S100, .i32⟩ : BufTy).Contents (Elt F) → (⟨S100, .i32⟩ : BufTy).Contents (Elt F) → (⟨S100, .i1⟩ : BufTy).Contents (Elt F)),
    StableHlo.nullary main_c_23 (constantI S_ 32 0#32),
    StableHlo.unary main_c_23 main_v136 (broadcastInDim S100 ![] bcast_S_S100 : (⟨S_, .i32⟩ : BufTy).Contents (Elt F) → (⟨S100, .i32⟩ : BufTy).Contents (Elt F)),
    StableHlo.binary main_v133_7 main_v136 main_v137 (maxsi : (⟨S100, .i32⟩ : BufTy).Contents (Elt F) → (⟨S100, .i32⟩ : BufTy).Contents (Elt F) → (⟨S100, .i32⟩ : BufTy).Contents (Elt F)),
    StableHlo.nullary main_c_24 (constantI S_ 32 0#32),
    StableHlo.unary main_c_24 main_v138 (broadcastInDim S100 ![] bcast_S_S100 : (⟨S_, .i32⟩ : BufTy).Contents (Elt F) → (⟨S100, .i32⟩ : BufTy).Contents (Elt F)),
    StableHlo.binary main_v137 main_v138 main_v139 (cmpi .slt : (⟨S100, .i32⟩ : BufTy).Contents (Elt F) → (⟨S100, .i32⟩ : BufTy).Contents (Elt F) → (⟨S100, .i1⟩ : BufTy).Contents (Elt F)),
    StableHlo.nullary main_c_25 (constantI S_ 32 6300#32),
    StableHlo.unary main_c_25 main_v140 (broadcastInDim S100 ![] bcast_S_S100 : (⟨S_, .i32⟩ : BufTy).Contents (Elt F) → (⟨S100, .i32⟩ : BufTy).Contents (Elt F)),
    StableHlo.binary main_v137 main_v140 main_v141 (addi : (⟨S100, .i32⟩ : BufTy).Contents (Elt F) → (⟨S100, .i32⟩ : BufTy).Contents (Elt F) → (⟨S100, .i32⟩ : BufTy).Contents (Elt F)),
    StableHlo.ternary main_v139 main_v141 main_v137 main_v142 (select : (⟨S100, .i1⟩ : BufTy).Contents (Elt F) → (⟨S100, .i32⟩ : BufTy).Contents (Elt F) → (⟨S100, .i32⟩ : BufTy).Contents (Elt F) → (⟨S100, .i32⟩ : BufTy).Contents (Elt F)) ]
/-- Each of them touches buffers of the main core only. -/
theorem postA_sub : ((postA : List (HloOp τ sig (Elt F)))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

/-- The last operations after the loop: the class lookup and the results. -/
abbrev postB : List (HloOp τ sig (Elt F)) :=
  [ StableHlo.unary main_v142 main_v143 (broadcastInDim S100x1 ![0] bcast_S100_S100x1_0 : (⟨S100, .i32⟩ : BufTy).Contents (Elt F) → (⟨S100x1, .i32⟩ : BufTy).Contents (Elt F)),
    StableHlo.binary main_v103 main_v143 main_v144 ((fun x i => Host.gather gather_S6300_S100x1_S100_n_0_n_n_0_1_1 x i) : (⟨S6300, .i32⟩ : BufTy).Contents (Elt F) → (⟨S100x1, .i32⟩ : BufTy).Contents (Elt F) → (⟨S100, .i32⟩ : BufTy).Contents (Elt F)),
    StableHlo.nullary main_c_26 (constantI S_ 32 0#32),
    StableHlo.TRef.unary (.of main_c_26) main_call9.v0 id,
    StableHlo.TRef.unary main_call9.v0 main_call9.v1 (broadcastInDim S100 ![] bcast_S_S100),
    StableHlo.TRef.ternary (.of main_v135) (.of main_v144) main_call9.v1 main_call9.v2 select,
    StableHlo.unary main_v133_5 main_v146 (broadcastInDim S1x100x4 ![1, 2] bcast_S100x4_S1x100x4_1_2 : (⟨S100x4, .f32⟩ : BufTy).Contents (Elt F) → (⟨S1x100x4, .f32⟩ : BufTy).Contents (Elt F)),
    StableHlo.unary main_v133_6 main_v147 (broadcastInDim S1x100 ![1] bcast_S100_S1x100_1 : (⟨S100, .f32⟩ : BufTy).Contents (Elt F) → (⟨S1x100, .f32⟩ : BufTy).Contents (Elt F)),
    StableHlo.unary main_v145 main_v148 (broadcastInDim S1x100 ![1] bcast_S100_S1x100_1 : (⟨S100, .i32⟩ : BufTy).Contents (Elt F) → (⟨S1x100, .i32⟩ : BufTy).Contents (Elt F)),
    StableHlo.reshape main_v133_8 main_v149 (rfl : (.i32 : EltTy) = .i32) shapeCasts_S_S1 ]
/-- Each of them touches buffers of the main core only. -/
theorem postB_sub : ((postB : List (HloOp τ sig (Elt F)))).Forall fun op => op.bufs ⊆ StableHlo.tcRefs τ sig :=
  ⟨StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.unary_bufs_sub .., StableHlo.reshape_bufs_sub ..⟩

/-- The condition's two operations. -/
abbrev condOps : List (HloOp τ sig (Elt F)) :=
  [ StableHlo.nullary main_while0c_c_35 (constantI S_ 32 100#32),
    StableHlo.binary main_v133_2 main_while0c_c_35 main_while0c_v150 (cmpi .slt) ]

/-- The first part of the body is its list run in order. -/
theorem part0_eq : (main_while0_body_part0 (F := F)) = StableHlo.seq bodyA := by chain_rfl
/-- The second part of the body is its list run in order. -/
theorem part1_eq : (main_while0_body_part1 (F := F)) = StableHlo.seq bodyB := by chain_rfl
/-- The third part of the body is its list run in order. -/
theorem part2_eq : (main_while0_body_part2 (F := F)) = StableHlo.seq bodyC := by chain_rfl

/-- The first window of the program is its list run in order. -/
theorem main0_eq (c : Dev nD) : (main_part0 (F := F) c) = StableHlo.seq preA := by chain_rfl
/-- The second window of the program is its list run in order. -/
theorem main1_eq (c : Dev nD) : (main_part1 (F := F) c) = StableHlo.seq preB := by chain_rfl
/-- The third window of the program: the list before the loop, the loop, the list after it. -/
theorem main2_eq (c : Dev nD) : (main_part2 (F := F) c)
    = Pipeline.chainK [StableHlo.seq preC, HostLoop.enter 0] (StableHlo.seq postA) := by
  rewrite [StableHlo.chainK_seq_cons, Pipeline.chainK_cons]; chain_rfl
/-- The last window of the program is its list run in order. -/
theorem main3_eq (c : Dev nD) : (main_part3 (F := F) c) = StableHlo.seq postB := by chain_rfl

/-- The body of the loop is its three lists run in order. -/
theorem body_eq : (main_while0_body (F := F))
    = Pipeline.chain ([bodyA, bodyB, bodyC].map fun ops => StableHlo.seq ops) := by
  have h : (main_while0_body (F := F)) = (main_while0_body_part0 >>= fun _ => main_while0_body_part1 >>= fun _ =>
      main_while0_body_part2) := by chain_rfl
  rw [h, part0_eq, part1_eq, part2_eq]
  simp only [List.map_cons, List.map_nil, Pipeline.chain_cons, Pipeline.chain_nil, bind_pure_unit]

/-- The program is three lists, the loop, and two lists, run in order. -/
theorem main_eq (c : Dev nD) : (main (F := F) c)
    = Pipeline.chain (([preA, preB, preC].map fun ops => StableHlo.seq ops) ++ HostLoop.enter 0 ::
        ([postA, postB].map fun ops => StableHlo.seq ops)) := by
  have h : (main (F := F) c) = (main_part0 c >>= fun _ => main_part1 c >>= fun _ => main_part2 c >>= fun _ =>
      main_part3 c) := by chain_rfl
  rw [h, main0_eq, main1_eq, main2_eq, main3_eq]
  simp only [List.map_cons, List.map_nil, List.cons_append, List.nil_append, Pipeline.chain_cons, Pipeline.chain_nil,
    Pipeline.chainK, bind_pure_unit, bind_assoc]

end Cert.Proof.Ref

end
-- ==== Proof.RefRun.lean ====
/-
  The reference's run: its operations before the loop, the loop's hundred trips, the operations after it.
-/
module

public import proofs.«01_k».proof.Proof.RefOps
public import Idealize.ShloMosaic.Lib.Quiescent
public import Idealize.ShloMosaic.Lib.Scf.Counter
public import Idealize.ShloMosaic.Lib.Scf.ExitTest
public import Idealize.ShloMosaic.Lib.StableHlo.ReadAt
public import Idealize.ShloMosaic.Lib.Tactic

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held)

variable {F : FTy → Type} [FloatOps F]

/-- The lists before the loop. -/
abbrev preI : List (List (HloOp τ sig (Elt F))) := [preA, preB, preC]
/-- The lists of one trip. -/
abbrev bodyI : List (List (HloOp τ sig (Elt F))) := [bodyA, bodyB, bodyC]
/-- The lists after the loop. -/
abbrev postI : List (List (HloOp τ sig (Elt F))) := [postA, postB]

/-- The operations before the loop are plain ones. -/
theorem plain_pre : StableHlo.Plain (preI (F := F)) :=
  .cons preA_sub (.cons preB_sub (.cons preC_sub .nil))
/-- The operations of a trip are plain ones. -/
theorem plain_body : StableHlo.Plain (bodyI (F := F)) :=
  .cons bodyA_sub (.cons bodyB_sub (.cons bodyC_sub .nil))
/-- The operations after the loop are plain ones. -/
theorem plain_post : StableHlo.Plain (postI (F := F)) :=
  .cons postA_sub (.cons postB_sub .nil)

/-- The counter is zero where the loop is entered. -/
theorem ctr_pre (X : Valuation τ sig (Elt F)) : after preC X main_v133_2 = fun _ => (0#32 : BitVec 32) := by
  after_reads_simp
  rfl

/-- The condition leaves the counter alone. -/
theorem ctr_cond (X : Valuation τ sig (Elt F)) : after condOps X main_v133_2 = X main_v133_2 := by
  after_reads_simp

/-- One trip leaves the counter one more than it found it. -/
theorem ctr_body (X : Valuation τ sig (Elt F)) :
    StableHlo.afterL bodyI X main_v133_2 = addi (X main_v133_2) (constantI S_ 32 1#32) := by
  show after bodyC (after bodyB (after bodyA X)) main_v133_2 = _
  after_reads_simp
  rfl

/-- The counter starts at zero. -/
theorem ctr_entry (m : (ℓ : Loc nD τ sig) → Buf (Elt F) ℓ) (c : Dev nD) :
    StableHlo.entryContents preI m c main_v133_2 = fun _ => (0#32 : BitVec 32) :=
  ctr_pre (after preB (after preA (StableHlo.launchContents m c)))

/-- Before trip `k` the counter is `k`. -/
theorem ctr_at (m : (ℓ : Loc nD τ sig) → Buf (Elt F) ℓ) (c : Dev nD) :
    ∀ k, StableHlo.atTrip condOps bodyI (StableHlo.entryContents preI m) k c main_v133_2 = fun _ => (BitVec.ofNat 32 k : BitVec 32)
  | 0 => ctr_entry m c
  | k + 1 => by
    rw [StableHlo.atTrip_succ, ctr_body, ctr_cond, ctr_at m c k]
    funext i
    show BitVec.ofNat 32 k + 1#32 = BitVec.ofNat 32 (k + 1)
    rw [BitVec.ofNat_add]

/-- The condition holds for the first hundred trips. -/
theorem pred_iff (k : ℕ) (hk : k ≤ 100) : (IntOp.cmpi .slt (BitVec.ofNat 32 k) 100#32 = 1#1 ↔ k < 100) := by
  interval_cases k <;> decide

/-- An operation on the main core's buffers touches unscoped ones only. -/
theorem sub_ucRefs (op : HloOp τ sig (Elt F)) (h : op.bufs ⊆ StableHlo.tcRefs τ sig) : op.bufs ⊆ Pipeline.ucRefs τ sig := fun b hb =>
  Finset.mem_filter.mpr ⟨h hb, fun h' => Bool.false_ne_true ((op.no_scoped b hb).symm.trans h')⟩

set_option backward.isDefEq.respectTransparency.types false in
/-- The loop's condition, run before trip `k`, reads one exactly while `k` is below a hundred. -/
theorem cond_spec (m : (ℓ : Loc nD τ sig) → Buf (Elt F) ℓ) :
    StableHlo.CondSpec (pcfgs (F := F)) defs₀ loops main_while0_cond condOps bodyI (StableHlo.entryContents preI m) 100 := by
  intro k hk c bd
  have hctr := ctr_at (F := F) m c k
  generalize StableHlo.atTrip condOps bodyI (StableHlo.entryContents preI m) k c = W at hctr ⊢
  unfold main_while0_cond
  rw [wp_bind]
  iintro ⟨Hb, Hh⟩
  iapply (StableHlo.wp_hlo_within (Variants.lift Variants.none) (c.tc : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c.tc : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ W main_v133_2 HostLoop.idx0)
        (HloOp.result _ W main_while0c_c_35 HostLoop.idx0) = 1#1) (k < 100)
    rw [StableHlo.nullary_result_ne _ _ _ _ (by decide), StableHlo.nullary_result, hctr]
    exact pred_iff k hk
  isplitl [Hb]; · iexact Hb
  rw [StableHlo.after_cons, StableHlo.after_cons, StableHlo.after_nil]; iexact Hh

/-- What the program leaves: every buffer of the main core at the contents its operations compute in order. -/
theorem run (m : (ℓ : Loc nD τ sig) → Buf (Elt F) ℓ) (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b)
          = StableHlo.finalContents condOps preI bodyI postI 100 m c (Proc.devRef .tc b)) :=
  StableHlo.run_loop (pcfgs (F := F)) defs₀ loops main 0 main_while0_cond main_while0_body rfl preI bodyI postI condOps
    plain_pre plain_body plain_post main_eq body_eq 100 m ρ (cond_spec m)

/-- One trip writes none of the arguments. -/
theorem args_body (X : Valuation τ sig (Elt F)) :
    StableHlo.afterL bodyI (after condOps X) main_arg0 = X main_arg0
      ∧ StableHlo.afterL bodyI (after condOps X) main_arg1 = X main_arg1
      ∧ StableHlo.afterL bodyI (after condOps X) main_arg2 = X main_arg2 := by
  refine ⟨?_, ?_, ?_⟩
  · show after bodyC (after bodyB (after bodyA (after condOps X))) main_arg0 = _
    after_reads_simp
  · show after bodyC (after bodyB (after bodyA (after condOps X))) main_arg1 = _
    after_reads_simp
  · show after bodyC (after bodyB (after bodyA (after condOps X))) main_arg2 = _
    after_reads_simp

/-- The operations before the loop write none of the arguments. -/
theorem args_pre (X : Valuation τ sig (Elt F)) :
    StableHlo.afterL preI X main_arg0 = X main_arg0
      ∧ StableHlo.afterL preI X main_arg1 = X main_arg1
      ∧ StableHlo.afterL preI X main_arg2 = X main_arg2 := by
  refine ⟨?_, ?_, ?_⟩
  · show after preC (after preB (after preA X)) main_arg0 = _
    after_reads_simp
  · show after preC (after preB (after preA X)) main_arg1 = _
    after_reads_simp
  · show after preC (after preB (after preA X)) main_arg2 = _
    after_reads_simp

/-- Nor do the loop's condition and the operations after the loop. -/
theorem args_post (X : Valuation τ sig (Elt F)) :
    StableHlo.afterL postI (after condOps X) main_arg0 = X main_arg0
      ∧ StableHlo.afterL postI (after condOps X) main_arg1 = X main_arg1
      ∧ StableHlo.afterL postI (after condOps X) main_arg2 = X main_arg2 := by
  refine ⟨?_, ?_, ?_⟩
  · show after postB (after postA (after condOps X)) main_arg0 = _
    after_reads_simp
  · show after postB (after postA (after condOps X)) main_arg1 = _
    after_reads_simp
  · show after postB (after postA (after condOps X)) main_arg2 = _
    after_reads_simp

/-- The arguments before trip `k` are those of the launch. -/
theorem args_at (m : (ℓ : Loc nD τ sig) → Buf (Elt F) ℓ) (c : Dev nD) : ∀ k,
    StableHlo.atTrip condOps bodyI (StableHlo.entryContents preI m) k c main_arg0 = m ((c.tc : Thread nD τ).loc main_arg0)
      ∧ StableHlo.atTrip condOps bodyI (StableHlo.entryContents preI m) k c main_arg1 = m ((c.tc : Thread nD τ).loc main_arg1)
      ∧ StableHlo.atTrip condOps bodyI (StableHlo.entryContents preI m) k c main_arg2 = m ((c.tc : Thread nD τ).loc main_arg2)
  | 0 => args_pre _
  | k + 1 => by
    have h := args_body (StableHlo.atTrip condOps bodyI (StableHlo.entryContents preI m) k c)
    have h' := args_at m c k
    exact ⟨h.1.trans h'.1, h.2.1.trans h'.2.1, h.2.2.trans h'.2.2⟩

/-- The arguments after the program are those of the launch. -/
theorem args_final (m : (ℓ : Loc nD τ sig) → Buf (Elt F) ℓ) (c : Dev nD) :
    StableHlo.finalContents condOps preI bodyI postI 100 m c main_arg0 = m ((c.tc : Thread nD τ).loc main_arg0)
      ∧ StableHlo.finalContents condOps preI bodyI postI 100 m c main_arg1 = m ((c.tc : Thread nD τ).loc main_arg1)
      ∧ StableHlo.finalContents condOps preI bodyI postI 100 m c main_arg2 = m ((c.tc : Thread nD τ).loc main_arg2) := by
  have h := args_post (StableHlo.atTrip condOps bodyI (StableHlo.entryContents preI m) 100 c)
  have h' := args_at m c 100
  exact ⟨h.1.trans h'.1, h.2.1.trans h'.2.1, h.2.2.trans h'.2.2⟩

/-- The program runs to its end, leaves its arguments as they were, and no semaphore counts. -/
theorem frame (m : (ℓ : Loc nD τ sig) → Buf (Elt F) ℓ) (ρ : Dev nD → PrngReg) :
    θ_run (defs (F := F)) (onTc (τ := τ) (main (F := F))) ⟨m, fun _ => 0, ρ⟩
      (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) := by
  refine (θ_run _ _ _).mono (fun r h => ?_) (run m ρ)
  refine ⟨fun c => ?_, sem_eq_zero_of_no_sems (by rfl) _⟩
  have h' := args_final m c
  exact ⟨(h c main_arg0 rfl).trans h'.1, (h c main_arg1 rfl).trans h'.2.1, (h c main_arg2 rfl).trans h'.2.2⟩

end Cert.Proof.Ref

end
-- ==== Proof.Spec.lean ====
/-
  THE COMMON MEANING. Detection over 6300 candidate boxes, in the extended reals: each candidate's box, score and class
  from the three grids, then one hundred rounds of greedy suppression. The kernel and the reference are each shown to
  compute these functions.
-/
module

public import Idealize.ShloMosaic.Lib.Pointwise

@[expose] public section

noncomputable section

set_option maxRecDepth 16384

namespace Cert.Proof

open Idealize.ShloMosaic

/-! ## The first maximum of a finite family -/

/-- `g` is the first place at which `s` is largest. -/
structure IsTop {n : ℕ} (s : Fin n → EReal) (g : Fin n) : Prop where
  le : ∀ i, s i ≤ s g
  first : ∀ i, s i = s g → g ≤ i

/-- A family over a nonempty range has a first maximum. -/
theorem exists_isTop {n : ℕ} [NeZero n] (s : Fin n → EReal) : ∃ g, IsTop s g := by
  obtain ⟨m, -, hm⟩ := Finset.exists_max_image Finset.univ s ⟨0, Finset.mem_univ _⟩
  have hne : (Finset.univ.filter fun i => s i = s m).Nonempty := ⟨m, by simp⟩
  obtain ⟨g, hg, hmin⟩ := Finset.exists_min_image _ id hne
  have hgm : s g = s m := (Finset.mem_filter.mp hg).2
  refine ⟨g, fun i => hgm ▸ hm i (Finset.mem_univ _), fun i hi => hmin i ?_⟩
  exact Finset.mem_filter.mpr ⟨Finset.mem_univ _, hi.trans hgm⟩

/-- The first maximum is unique. -/
theorem IsTop.unique {n : ℕ} {s : Fin n → EReal} {g h : Fin n} (hg : IsTop s g) (hh : IsTop s h) : g = h := by
  have e : s g = s h := le_antisymm (hh.le g) (hg.le h)
  exact le_antisymm (hg.first h e.symm) (hh.first g e)

/-- The first place at which `s` is largest. -/
def top {n : ℕ} [NeZero n] (s : Fin n → EReal) : Fin n := Classical.choose (exists_isTop s)

/-- The chosen place is the first largest. -/
theorem isTop_top {n : ℕ} [NeZero n] (s : Fin n → EReal) : IsTop s (top s) := Classical.choose_spec (exists_isTop s)

/-- The first largest place is the chosen one. -/
theorem top_eq {n : ℕ} [NeZero n] {s : Fin n → EReal} {g : Fin n} (h : IsTop s g) : top s = g := (isTop_top s).unique h

/-- The largest value of a family, as a fold of `max` from the bottom. -/
theorem fold_max_eq {n : ℕ} [NeZero n] (s : Fin n → EReal) : Finset.univ.fold max ⊥ s = s (top s) := by
  refine le_antisymm ?_ ?_
  · exact Finset.fold_max_le _ |>.mpr ⟨bot_le, fun i _ => (isTop_top s).le i⟩
  · exact Finset.le_fold_max _ |>.mpr (.inr ⟨_, Finset.mem_univ _, le_rfl⟩)

/-! ## The constants -/

/-- The score of a candidate that is out, −10¹⁰. -/
def NEG : EReal := Ideal.ofBits .f32 0xD01502F9#32
/-- A round counts when its score is above this, −5·10⁹. -/
def THR : EReal := Ideal.ofBits .f32 0xCF9502F9#32
/-- One half. -/
def HALF : EReal := Ideal.ofBits .f32 0x3F000000#32

/-- A word of a normal number, from its three fields. -/
theorem ofBits_normal {b : BitVec 32} (neg : Bool) (ex fr : ℕ) (hn : (b.extractLsb' 31 1 == 1#1) = neg)
    (he : (b.extractLsb' 23 8).toNat = ex) (hf : (b.extractLsb' 0 23).toNat = fr) (h1 : ex ≠ 255) (h2 : ex ≠ 0) :
    Ideal.ofBits .f32 b =
      (((if neg then -1 else 1) * ((2 ^ 23 + fr : ℕ) : ℝ) * (2 : ℝ) ^ ((ex : ℤ) - 127 - 23) : ℝ) : EReal) := by
  subst hn he hf
  show Ideal.ieee 8 23 b = _
  unfold Ideal.ieee
  simp only []
  rw [if_neg (show ¬ (b.extractLsb' 23 8).toNat = 2 ^ 8 - 1 from h1), if_neg h2]
  norm_num

/-- The struck-out value is minus ten billion. -/
theorem NEG_eq : NEG = ((-10000000000 : ℝ) : EReal) := by
  unfold NEG
  rw [ofBits_normal true 160 1377017 (by decide) (by decide) (by decide) (by decide) (by decide)]
  norm_num

/-- The struck-out value is negative. -/
theorem NEG_neg : NEG < 0 := by
  rw [NEG_eq, ← EReal.coe_zero, EReal.coe_lt_coe_iff]; norm_num

/-- The word of one half. -/
theorem HALF_eq : HALF = ((1 / 2 : ℝ) : EReal) := by
  unfold HALF
  rw [ofBits_normal false 126 0 (by decide) (by decide) (by decide) (by decide) (by decide)]
  norm_num

/-- One half is not negative. -/
theorem HALF_nonneg : 0 ≤ HALF := by
  rw [HALF_eq, ← EReal.coe_zero, EReal.coe_le_coe_iff]; norm_num

/-- The word of negative infinity. -/
theorem ofBits_ninf : Ideal.ofBits .f32 0xFF800000#32 = ⊥ := by
  show Ideal.ieee 8 23 (0xFF800000#32 : BitVec 32) = (⊥ : EReal)
  unfold Ideal.ieee
  simp only []
  rw [if_pos (by decide), if_pos (by decide), if_pos (by decide)]

/-- Division by two is multiplication by one half. -/
theorem div_two (x : EReal) : Ideal.div x (Ideal.ofBits .f32 0x40000000#32) = x * HALF := by
  have h2 : Ideal.ofBits .f32 0x40000000#32 = ((2 : ℝ) : EReal) := by
    rw [ofBits_normal false 128 0 (by decide) (by decide) (by decide) (by decide) (by decide)]
    norm_num
  have hne : ((2 : ℝ) : EReal) ≠ 0 := by rw [← EReal.coe_zero, Ne, EReal.coe_eq_coe_iff]; norm_num
  rw [h2, Ideal.div, if_neg hne, HALF_eq, ← EReal.coe_inv]; norm_num

/-! ## Overlap -/

/-- The area of the box `(x1, y1, x2, y2)`. -/
def area4 (x1 y1 x2 y2 : EReal) : EReal := max (x2 - x1) 0 * max (y2 - y1) 0

/-- The area that two boxes have in common. -/
def inter (ax1 ay1 ax2 ay2 bx1 by1 bx2 by2 : EReal) : EReal :=
  max (min ax2 bx2 - max ax1 bx1) 0 * max (min ay2 by2 - max ay1 by1) 0

/-- Overlap over union, zero where the union is not positive: of two boxes with the areas `aa` and `ba`. -/
def iou (ax1 ay1 ax2 ay2 aa bx1 by1 bx2 by2 ba : EReal) : EReal :=
  if 0 < aa + ba - inter ax1 ay1 ax2 ay2 bx1 by1 bx2 by2 then
    Ideal.div (inter ax1 ay1 ax2 ay2 bx1 by1 bx2 by2)
      (if 0 < aa + ba - inter ax1 ay1 ax2 ay2 bx1 by1 bx2 by2 then aa + ba - inter ax1 ay1 ax2 ay2 bx1 by1 bx2 by2 else 1)
  else 0

/-- With the empty box at the origin the overlap is zero. -/
theorem inter_zero (bx1 by1 bx2 by2 : EReal) : inter 0 0 0 0 bx1 by1 bx2 by2 = 0 := by
  have h : max (min 0 bx2 - max 0 bx1) 0 = (0 : EReal) := by
    refine max_eq_right ?_
    refine EReal.sub_nonpos.mpr ?_
    exact le_trans (min_le_left _ _) (le_max_left _ _)
  rw [inter, h, zero_mul]

/-- The empty box at the origin overlaps nothing. -/
theorem iou_zero (bx1 by1 bx2 by2 ba : EReal) : iou 0 0 0 0 0 bx1 by1 bx2 by2 ba = 0 := by
  rw [iou, inter_zero]
  split_ifs with h
  · rw [Ideal.div, if_neg (ne_of_gt h), zero_mul]
  · rfl

/-! ## The greedy rounds -/

/-- The candidates: boxes, areas, first scores, and class numbers. -/
structure Cand where
  x1 : Fin 6300 → EReal
  y1 : Fin 6300 → EReal
  x2 : Fin 6300 → EReal
  y2 : Fin 6300 → EReal
  s0 : Fin 6300 → EReal
  cls : Fin 6300 → Fin 80

namespace Cand

variable (D : Cand)

/-- A candidate's area. -/
def area (i : Fin 6300) : EReal := area4 (D.x1 i) (D.y1 i) (D.x2 i) (D.y2 i)

/-- The overlap of candidates `w` and `i`. -/
def iou (w i : Fin 6300) : EReal :=
  Cert.Proof.iou (D.x1 w) (D.y1 w) (D.x2 w) (D.y2 w) (D.area w) (D.x1 i) (D.y1 i) (D.x2 i) (D.y2 i) (D.area i)

/-- Scores after a round that `w` won: `w` and everything that overlaps it by more than one half are out. -/
def kill (w : Fin 6300) (s : Fin 6300 → EReal) (i : Fin 6300) : EReal :=
  if HALF < D.iou w i ∨ i = w then NEG else s i

/-- Scores before round `t`. -/
def S : ℕ → Fin 6300 → EReal
  | 0 => D.s0
  | t + 1 => D.kill (top (S t)) (S t)

/-- The winner of round `t`. -/
def win (t : ℕ) : Fin 6300 := top (D.S t)

/-- The winning score of round `t`. -/
def best (t : ℕ) : EReal := D.S t (D.win t)

/-- The four numbers of a candidate's box. -/
def box (i : Fin 6300) : Fin 4 → EReal := ![D.x1 i, D.y1 i, D.x2 i, D.y2 i]

/-- Row `t` of the boxes kept. -/
def outBox (t : ℕ) (j : Fin 4) : EReal := if THR < D.best t then D.box (D.win t) j else 0

/-- Row `t` of the scores kept. -/
def outScore (t : ℕ) : EReal := if THR < D.best t then D.best t else 0

/-- Row `t` of the classes kept. -/
def outCls (t : ℕ) : BitVec 32 := if THR < D.best t then BitVec.ofNat 32 (D.cls (D.win t)) else 0#32

/-- How many of the first `t` rounds counted. -/
def nv : ℕ → BitVec 32
  | 0 => 0#32
  | t + 1 => IntOp.addi (nv t) (if THR < D.best t then 1#32 else 0#32)

/-- The next round's scores. -/
theorem S_succ (t : ℕ) : D.S (t + 1) = D.kill (D.win t) (D.S t) := rfl

/-- No score falls below the one that marks a candidate out. -/
theorem le_S (h0 : ∀ i, NEG ≤ D.s0 i) : ∀ t i, NEG ≤ D.S t i
  | 0, i => h0 i
  | t + 1, i => by
      rw [S_succ, kill]; split_ifs
      · exact le_rfl
      · exact le_S h0 t i

end Cand

/-! ## The candidates of three grids -/

/-- Side length of the grid that candidate `n` is in. -/
def gsN (n : ℕ) : ℕ := if n < 300 then 10 else if n < 1500 then 20 else 40
/-- Place of candidate `n` in its grid. -/
def locN (n : ℕ) : ℕ := if n < 300 then n else if n < 1500 then n - 300 else n - 1500
/-- Column of candidate `n`'s cell. -/
def gxN (n : ℕ) : ℕ := locN n / 3 % gsN n
/-- Row of candidate `n`'s cell. -/
def gyN (n : ℕ) : ℕ := locN n / 3 / gsN n
/-- The side length as a 32-bit float word. -/
def gsW (n : ℕ) : BitVec 32 := if n < 300 then 0x41200000#32 else if n < 1500 then 0x41A00000#32 else 0x42200000#32

/-- Feature `k` of candidate `n`: the three grids laid one after the other, row by row. -/
def feat (a0 : (⟨5, ![1, 10, 10, 3, 85]⟩ : Shape).Idx → EReal) (a1 : (⟨5, ![1, 20, 20, 3, 85]⟩ : Shape).Idx → EReal)
    (a2 : (⟨5, ![1, 40, 40, 3, 85]⟩ : Shape).Idx → EReal) (n : Fin 6300) (k : Fin 85) : EReal :=
  if h0 : n.val < 300 then
    a0 (ix5 0 ⟨n.val / 3 / 10, by omega⟩ ⟨n.val / 3 % 10, by omega⟩ ⟨n.val % 3, by omega⟩ k)
  else if h1 : n.val < 1500 then
    a1 (ix5 0 ⟨(n.val - 300) / 3 / 20, by omega⟩ ⟨(n.val - 300) / 3 % 20, by omega⟩ ⟨(n.val - 300) % 3, by omega⟩ k)
  else
    a2 (ix5 0 ⟨(n.val - 1500) / 3 / 40, by omega⟩ ⟨(n.val - 1500) / 3 % 40, by omega⟩ ⟨(n.val - 1500) % 3, by omega⟩ k)

end Cert.Proof

end
-- ==== Proof.Dec.lean ====
/-
  THE CANDIDATES OF THREE GRIDS: what the two programs decode from the features, before any candidate is picked.
-/
module

public import proofs.«01_k».proof.Proof.Spec

@[expose] public section

noncomputable section

set_option maxRecDepth 16384

namespace Cert.Proof

open Idealize.ShloMosaic

/-! ## Words of small numbers -/

/-- The 32-bit float word of a natural number below 128. -/
def natW (n : ℕ) : BitVec 32 :=
  if n = 0 then 0#32 else BitVec.ofNat 32 ((127 + Nat.log2 n) * 2 ^ 23 + (n * 2 ^ (23 - Nat.log2 n) - 2 ^ 23))

/-- The three fields of a small number's word: sign, exponent and fraction give the number back. -/
theorem natW_fields : ∀ n : Fin 128, n.val ≠ 0 →
    ((natW n.val).extractLsb' 31 1 == 1#1) = false ∧ ((natW n.val).extractLsb' 23 8).toNat = 127 + Nat.log2 n.val
    ∧ 2 ^ 23 + ((natW n.val).extractLsb' 0 23).toNat = n.val * 2 ^ (23 - Nat.log2 n.val) ∧ Nat.log2 n.val < 7 := by
  decide +kernel

/-- The word of a natural number below 128 reads that number. -/
theorem ofBits_natW (n : ℕ) (hn : n < 128) : Ideal.ofBits .f32 (natW n) = ((n : ℝ) : EReal) := by
  rcases Nat.eq_zero_or_pos n with rfl | h0
  · show Ideal.ofBits .f32 (0#32) = _
    rw [Nat.cast_zero, EReal.coe_zero]
    show Ideal.ieee 8 23 (0#32 : BitVec 32) = _
    unfold Ideal.ieee
    simp
  · obtain ⟨hs, he, hf, h7⟩ := natW_fields ⟨n, hn⟩ (by simpa using h0.ne')
    simp only at hs he hf h7
    rw [ofBits_normal false _ _ hs he rfl (by omega) (by omega), hf]
    congr 1
    rw [if_neg (by decide), one_mul, Nat.cast_mul, mul_assoc, Nat.cast_pow, Nat.cast_ofNat, ← zpow_natCast,
      ← zpow_add₀ (by norm_num)]
    rw [show (((23 - Nat.log2 n : ℕ) : ℤ) + (((127 + Nat.log2 n : ℕ) : ℤ) - 127 - 23)) = 0 by omega, zpow_zero, mul_one]

/-! ## Left-to-right maximum -/

/-- The largest of `f 0, …, f m` and the first place where it stands, found from left to right. -/
def amax (f : ℕ → EReal) : ℕ → EReal × ℕ
  | 0 => (f 0, 0)
  | m + 1 => if (amax f m).1 < f (m + 1) then (f (m + 1), m + 1) else amax f m

/-- The running maximum holds the first largest value among those read. -/
theorem amax_spec (f : ℕ → EReal) (m : ℕ) :
    (amax f m).2 ≤ m ∧ (amax f m).1 = f (amax f m).2 ∧ (∀ i ≤ m, f i ≤ (amax f m).1) ∧ ∀ i < (amax f m).2, f i < (amax f m).1 := by
  induction m with
  | zero => exact ⟨le_rfl, rfl, fun i hi => by rw [Nat.le_zero.mp hi]; exact le_rfl, fun i hi => absurd hi (Nat.not_lt_zero i)⟩
  | succ m ih =>
      obtain ⟨h1, h2, h3, h4⟩ := ih
      rw [amax]
      split_ifs with h
      · refine ⟨le_rfl, rfl, fun i hi => ?_, fun i hi => (h3 i (by simpa using Nat.lt_succ_iff.mp hi)).trans_lt h⟩
        rcases Nat.lt_or_ge m i with hm | hm
        · rw [show i = m + 1 by omega]
        · exact (h3 i hm).trans h.le
      · refine ⟨by omega, h2, fun i hi => ?_, h4⟩
        rcases Nat.lt_or_ge m i with hm | hm
        · rw [show i = m + 1 by omega]; exact not_lt.mp h
        · exact h3 i hm

/-- The running maximum over all the values is the first largest one. -/
theorem amax_top (f : ℕ → EReal) (n : ℕ) [NeZero n] (m : ℕ) (hm : m + 1 = n) :
    (amax f m).2 = (top (fun i : Fin n => f i.val)).val ∧ (amax f m).1 = Finset.univ.fold max ⊥ (fun i : Fin n => f i.val) := by
  obtain ⟨h1, h2, h3, h4⟩ := amax_spec f m
  have ht : top (fun i : Fin n => f i.val) = ⟨(amax f m).2, by omega⟩ := by
    refine top_eq ⟨fun i => ?_, fun i hi => ?_⟩
    · exact (h3 i.val (by omega)).trans h2.le
    · refine Fin.mk_le_of_le_val (Nat.le_of_not_lt fun hlt => ?_)
      exact absurd (hi.trans h2.symm) (h4 i.val hlt).ne
  refine ⟨by rw [ht], ?_⟩
  rw [fold_max_eq, ht]
  exact h2

/-! ## The decoded candidates -/

/-- Widths of the anchor boxes, as words: one list of three per grid. -/
def awW (n : ℕ) : BitVec 32 :=
  if n < 300 then (match n % 3 with | 0 => 0x3E8ED917#32 | 1 => 0x3EC00000#32 | _ => 0x3F65A1CB#32)
  else if n < 1500 then (match n % 3 with | 0 => 0x3D9374BC#32 | 1 => 0x3E189375#32 | _ => 0x3E116873#32)
  else (match n % 3 with | 0 => 0x3CC49BA6#32 | 1 => 0x3D1BA5E3#32 | _ => 0x3DA1CAC1#32)

/-- Heights of the anchor boxes, as words. -/
def ahW (n : ℕ) : BitVec 32 :=
  if n < 300 then (match n % 3 with | 0 => 0x3E5D2F1B#32 | 1 => 0x3EF3B646#32 | _ => 0x3F48B439#32)
  else if n < 1500 then (match n % 3 with | 0 => 0x3E16872B#32 | 1 => 0x3DDD2F1B#32 | _ => 0x3E926E98#32)
  else (match n % 3 with | 0 => 0x3CFDF3B6#32 | 1 => 0x3D9374BC#32 | _ => 0x3D6147AE#32)

variable (F : Fin 6300 → Fin 85 → EReal)

/-- Feature `5 + j`: the probability of class `j`. -/
def prob (n : Fin 6300) (j : Fin 80) : EReal := F n ⟨5 + j.val, by omega⟩

/-- The largest class probability of a candidate. -/
def pmax (n : Fin 6300) : EReal := Finset.univ.fold max ⊥ (prob F n)

/-- A candidate's score: its confidence times a class probability, the largest such product over all the candidates'
largest probabilities. -/
def score (n : Fin 6300) : EReal := Finset.univ.fold max ⊥ (fun j : Fin 6300 => F n 4 * pmax F j)

/-- Middle of a candidate's box, across. -/
def midX (n : Fin 6300) : EReal := Ideal.div (F n 0 + ((gxN n.val : ℝ) : EReal)) ((gsN n.val : ℝ) : EReal)
/-- Middle of a candidate's box, down. -/
def midY (n : Fin 6300) : EReal := Ideal.div (F n 1 + ((gyN n.val : ℝ) : EReal)) ((gsN n.val : ℝ) : EReal)
/-- Half the width of a candidate's box. -/
def halfW (n : Fin 6300) : EReal := Ideal.exp (F n 2) * Ideal.ofBits .f32 (awW n.val) * HALF
/-- Half the height of a candidate's box. -/
def halfH (n : Fin 6300) : EReal := Ideal.exp (F n 3) * Ideal.ofBits .f32 (ahW n.val) * HALF

/-- The candidates decoded from the features `F`. -/
def cand : Cand where
  x1 n := midX F n - halfW F n
  y1 n := midY F n - halfH F n
  x2 n := midX F n + halfW F n
  y2 n := midY F n + halfH F n
  s0 n := if 0 < score F n then score F n else NEG
  cls n := top (prob F n)

/-- No starting score lies below the value of a struck-out candidate. -/
theorem le_s0 (n : Fin 6300) : NEG ≤ (cand F).s0 n := by
  show NEG ≤ if 0 < score F n then score F n else NEG
  split_ifs with h
  · exact (NEG_neg.trans h).le
  · exact le_rfl

/-- The score through one product: the confidence times the largest probability when it is positive, times the smallest
of the candidates' largest probabilities when it is not. -/
theorem score_eq (n : Fin 6300) :
    score F n = F n 4 * if 0 < F n 4 then Finset.univ.fold max ⊥ (pmax F) else Finset.univ.fold min ⊤ (pmax F) := by
  have e : ∀ {m : EReal}, (∃ j, F n 4 * pmax F j = m) → (∀ j, F n 4 * pmax F j ≤ m) → score F n = m := by
    rintro m ⟨j, hj⟩ h
    exact le_antisymm (Finset.fold_max_le _ |>.mpr ⟨bot_le, fun i _ => h i⟩)
      (Finset.le_fold_max _ |>.mpr (.inr ⟨j, Finset.mem_univ _, hj.ge⟩))
  split_ifs with hc
  · obtain ⟨g, -, hg⟩ := Finset.exists_max_image Finset.univ (pmax F) ⟨0, Finset.mem_univ _⟩
    have hm : Finset.univ.fold max ⊥ (pmax F) = pmax F g :=
      le_antisymm (Finset.fold_max_le _ |>.mpr ⟨bot_le, fun i hi => hg i hi⟩)
        (Finset.le_fold_max _ |>.mpr (.inr ⟨g, Finset.mem_univ _, le_rfl⟩))
    rw [hm]
    exact e ⟨g, rfl⟩ fun j => mul_le_mul_of_nonneg_left (hg j (Finset.mem_univ _)) hc.le
  · obtain ⟨g, -, hg⟩ := Finset.exists_min_image Finset.univ (pmax F) ⟨0, Finset.mem_univ _⟩
    have hm : Finset.univ.fold min ⊤ (pmax F) = pmax F g :=
      le_antisymm (Finset.fold_min_le _ |>.mpr (.inr ⟨g, Finset.mem_univ _, le_rfl⟩))
        (Finset.le_fold_min _ |>.mpr ⟨le_top, fun i hi => hg i hi⟩)
    rw [hm]
    refine e ⟨g, rfl⟩ fun j => ?_
    have h0 : 0 ≤ -F n 4 := by rw [EReal.le_neg, neg_zero]; exact not_lt.mp hc
    have := mul_le_mul_of_nonneg_left (hg j (Finset.mem_univ _)) h0
    rwa [EReal.neg_mul, EReal.neg_mul, EReal.neg_le_neg_iff] at this

/-- The value in the lanes not in use when the maximum over all lanes is taken, about −3·10³⁸. -/
def BELOW : EReal := Ideal.ofBits .f32 0xFF61B1E6#32
/-- The value in the lanes not in use when the minimum over all lanes is taken, about 3·10³⁸. -/
def ABOVE : EReal := Ideal.ofBits .f32 0x7F61B1E6#32

/-- The value under all is not positive. -/
theorem BELOW_nonpos : BELOW ≤ 0 := by
  unfold BELOW
  rw [ofBits_normal true 254 6402534 (by decide) (by decide) (by decide) (by decide) (by decide), ← EReal.coe_zero, EReal.coe_le_coe_iff]
  norm_num

/-- The value over all is not negative. -/
theorem ABOVE_nonneg : 0 ≤ ABOVE := by
  unfold ABOVE
  rw [ofBits_normal false 254 6402534 (by decide) (by decide) (by decide) (by decide) (by decide), ← EReal.coe_zero, EReal.coe_le_coe_iff]
  norm_num

/-- The score with the values of the lanes not in use taken into the maximum and the minimum. -/
def scoreB (n : Fin 6300) : EReal :=
  F n 4 * if 0 < F n 4 then max (Finset.univ.fold max ⊥ (pmax F)) BELOW else min (Finset.univ.fold min ⊤ (pmax F)) ABOVE

/-- Nonpositive times nonnegative is not positive. -/
theorem mul_not_pos {a b : EReal} (ha : a ≤ 0) (hb : 0 ≤ b) : ¬ 0 < a * b := by
  have h0 : 0 ≤ -a := by rw [EReal.le_neg, neg_zero]; exact ha
  have := mul_nonneg h0 hb
  rw [EReal.neg_mul, EReal.le_neg, neg_zero] at this
  exact not_lt.mpr this

/-- The values of the lanes not in use do not change where a candidate starts: they matter only for a score that is not
positive either way. -/
theorem scoreB_eq (n : Fin 6300) : (if 0 < scoreB F n then scoreB F n else NEG) = (cand F).s0 n := by
  show _ = if 0 < score F n then score F n else NEG
  rw [score_eq]
  unfold scoreB
  by_cases hc : 0 < F n 4
  · simp only [if_pos hc]
    by_cases hM : BELOW ≤ Finset.univ.fold max ⊥ (pmax F)
    · rw [max_eq_left hM]
    · have h := (not_le.mp hM).le
      rw [max_eq_right h, mul_comm, mul_comm (F n 4), if_neg (mul_not_pos BELOW_nonpos hc.le),
        if_neg (mul_not_pos (h.trans BELOW_nonpos) hc.le)]
  · simp only [if_neg hc]
    by_cases hM : Finset.univ.fold min ⊤ (pmax F) ≤ ABOVE
    · rw [min_eq_left hM]
    · have h := (not_le.mp hM).le
      rw [min_eq_right h, if_neg (mul_not_pos (not_lt.mp hc) ABOVE_nonneg),
        if_neg (mul_not_pos (not_lt.mp hc) (ABOVE_nonneg.trans h))]

end Cert.Proof

end
-- ==== Proof.KTrip.lean ====
/-
  ONE ROUND OF THE KERNEL'S LOOP at the extended reals: on a state that holds the scores laid out in lanes, the payloads
  of the round are the functions of Spec.lean.
-/
module

public import proofs.«01_k».proof.Proof.Spec
public import proofs.«01_k».proof.Proof.Gen.KernelIdeal.Skeleton
public import Idealize.ShloMosaic.Lib.DynamicIndex

@[expose] public section

noncomputable section

set_option maxRecDepth 16384

namespace Cert.Proof

open Idealize.ShloMosaic Cert.KernelIdeal Cert.KernelIdeal.Gen

/-! ## Lanes -/

/-- The lane that holds candidate `n`. -/
def lane (n : Fin 6300) : S8x800.Idx := ix2 ⟨n.val / 800, by omega⟩ ⟨n.val % 800, by omega⟩

/-- Scores laid out in lanes; the lanes past the candidates hold the score that marks one out. -/
def extS (s : Fin 6300 → EReal) : FVec Ideal S8x800 .f32 :=
  fun j => if h : 800 * (j 0).val + (j 1).val < 6300 then s ⟨800 * (j 0).val + (j 1).val, h⟩ else NEG

/-- The padded scores, read at a lane. -/
theorem extS_ix2 (s : Fin 6300 → EReal) (r : Fin 8) (l : Fin 800) :
    extS s (ix2 r l) = if h : 800 * r.val + l.val < 6300 then s ⟨800 * r.val + l.val, h⟩ else NEG := rfl

/-- The padded scores at a candidate's lane are its score. -/
theorem extS_lane (s : Fin 6300 → EReal) (n : Fin 6300) : extS s (lane n) = s n := by
  have e : 800 * (n.val / 800) + n.val % 800 = n.val := by omega
  rw [lane, extS_ix2, dif_pos (by simp only [e]; exact n.isLt)]
  congr 1
  exact Fin.ext e

/-- The lane of a candidate. -/
theorem lane_of (r : Fin 8) (l : Fin 800) (h : 800 * r.val + l.val < 6300) :
    lane ⟨800 * r.val + l.val, h⟩ = ix2 r l := by
  unfold lane
  congr 1 <;> apply Fin.ext <;> simp only [] <;> omega

/-- The lane's number as the kernel computes it. -/
theorem laneWord (r : Fin 8) (l : Fin 800) :
    IntOp.addi (IntOp.muli (BitVec.ofNat 32 r.val) 800#32) (BitVec.ofNat 32 l.val) = BitVec.ofNat 32 (800 * r.val + l.val) := by
  apply BitVec.eq_of_toNat_eq
  simp only [IntOp.addi, IntOp.muli, BitVec.toNat_add, BitVec.toNat_mul, BitVec.toNat_ofNat]
  omega

/-- The lane numbers. -/
theorem pay2_ix2 (r : Fin 8) (l : Fin 800) : k0_pay2 (ix2 r l) = BitVec.ofNat 32 (800 * r.val + l.val) := by
  pointwise [k0_pay2]
  exact laneWord r l

/-- Small numbers have equal words only when equal. -/
theorem ofNat_inj_iff {a b : ℕ} (ha : a < 2 ^ 32) (hb : b < 2 ^ 32) : Iff (BitVec.ofNat 32 a = BitVec.ofNat 32 b) (a = b) := by
  constructor
  · intro h
    have := congrArg BitVec.toNat h
    rw [BitVec.toNat_ofNat, BitVec.toNat_ofNat, Nat.mod_eq_of_lt ha, Nat.mod_eq_of_lt hb] at this
    exact this
  · rintro rfl; rfl

/-- A choice on one of two conditions, as an `if`. -/
theorem select_ori_eq {α : Type} (p : Prop) [Decidable p] (a b : BitVec 32) (x y : α) :
    Scalar.select (IntOp.ori (BitVec.ofBool (decide p)) (IntOp.cmpi .eq a b)) x y = if p ∨ a = b then x else y := by
  have hb : (a == b) = decide (a = b) := rfl
  by_cases hp : p <;> by_cases hab : a = b <;> simp [Scalar.select, IntOp.ori, IntOp.cmpi, hb, hp, hab]

/-- A choice on an equality of words, as an `if`. -/
theorem select_eq {α : Type} (a b : BitVec 32) (x y : α) :
    Scalar.select (IntOp.cmpi .eq a b) x y = if a = b then x else y := by
  have hb : (a == b) = decide (a = b) := rfl
  by_cases hab : a = b <;> simp [Scalar.select, IntOp.cmpi, hb, hab]

/-- A choice on a condition or an equality of small numbers, as an `if`. -/
theorem select_ori_ofNat {α : Type} (p : Prop) [Decidable p] {m n : ℕ} (hm : m < 2 ^ 32) (hn : n < 2 ^ 32) (x y : α) :
    Scalar.select (IntOp.ori (BitVec.ofBool (decide p)) (IntOp.cmpi .eq (BitVec.ofNat 32 m) (BitVec.ofNat 32 n))) x y
      = if p ∨ m = n then x else y := by
  rw [select_ori_eq]; simp only [ofNat_inj_iff hm hn]

/-- A choice on an equality of small numbers, as an `if`. -/
theorem select_ofNat {α : Type} {m n : ℕ} (hm : m < 2 ^ 32) (hn : n < 2 ^ 32) (x y : α) :
    Scalar.select (IntOp.cmpi .eq (BitVec.ofNat 32 m) (BitVec.ofNat 32 n)) x y = if m = n then x else y := by
  rw [select_eq]; simp only [ofNat_inj_iff hm hn]

/-! ## The kill step -/

section Round

variable (D : Cand) (v34 v37 v40 v43 v50 v527 : FVec Ideal S8x800 .f32)

/-- The lanes hold the candidates' boxes, areas and class numbers. -/
structure Lanes : Prop where
  x1 : ∀ n, v34 (lane n) = D.x1 n
  x2 : ∀ n, v37 (lane n) = D.x2 n
  y1 : ∀ n, v40 (lane n) = D.y1 n
  y2 : ∀ n, v43 (lane n) = D.y2 n
  area : ∀ n, v50 (lane n) = D.area n
  cls : ∀ n, v527 (lane n) = (((D.cls n).val : ℝ) : EReal)

variable {D v34 v37 v40 v43 v50 v527}

/-- Before the first round the kernel carries the empty box and no winner: nothing is killed. -/
theorem pay7_first (s : Fin 6300 → EReal) :
    k0_pay7 (F := Ideal) v34 v37 v40 v43 v50 k0_pay2 (extS s) (0 : EReal) (0 : EReal) (0 : EReal) (0 : EReal) (0 : EReal) 4294967295#32 = extS s := by
  funext j
  obtain ⟨r, l, rfl⟩ : ∃ r l, j = ix2 r l := ⟨j 0, j 1, eq_ix2 j⟩
  have hi := iou_zero (v34 (ix2 r l)) (v40 (ix2 r l)) (v37 (ix2 r l)) (v43 (ix2 r l)) (v50 (ix2 r l))
  unfold iou inter at hi
  pointwise [k0_pay7]
  rw [select_ori_eq, if_neg]
  rw [not_or]
  constructor
  · rw [not_lt]
    refine le_trans (le_of_eq ?_) HALF_nonneg
    simpa using hi
  · rw [pay2_ix2]
    intro h
    have := congrArg BitVec.toNat h
    rw [BitVec.toNat_ofNat, Nat.mod_eq_of_lt (by omega)] at this
    have e : (4294967295#32).toNat = 4294967295 := by decide
    omega

/-- After a round that `w` won, the next round's kill step. -/
theorem pay7_next (hL : Lanes D v34 v37 v40 v43 v50 v527) (s : Fin 6300 → EReal) (w : Fin 6300) :
    k0_pay7 (F := Ideal) v34 v37 v40 v43 v50 k0_pay2 (extS s) (D.x1 w) (D.y1 w) (D.x2 w) (D.y2 w) (D.area w) (BitVec.ofNat 32 w)
      = extS (D.kill w s) := by
  funext j
  obtain ⟨r, l, rfl⟩ : ∃ r l, j = ix2 r l := ⟨j 0, j 1, eq_ix2 j⟩
  pointwise [k0_pay7]
  rw [pay2_ix2, select_ori_ofNat _ (by omega) (by omega), extS_ix2, extS_ix2]
  by_cases h : 800 * r.val + l.val < 6300
  · rw [dif_pos h, dif_pos h, ← lane_of r l h, hL.x1, hL.x2, hL.y1, hL.y2, hL.area]
    unfold Cand.kill Cand.iou iou inter
    simp only [Fin.ext_iff]
    rfl
  · rw [dif_neg h, dif_neg h]
    split_ifs <;> rfl

/-! ## The winner -/

/-- The largest lane value is the winning score. -/
theorem fold_extS (s : Fin 6300 → EReal) (hs : ∀ i, NEG ≤ s i) :
    Finset.fold max (Ideal.ofBits FTy.f32 4286578688#32) (fun x : Fin 8 × Fin 800 => extS s (ix2 x.1 x.2)) Finset.univ = s (top s) := by
  rw [show Ideal.ofBits FTy.f32 4286578688#32 = ⊥ from ofBits_ninf]
  refine le_antisymm ?_ ?_
  · refine Finset.fold_max_le _ |>.mpr ⟨bot_le, fun x _ => ?_⟩
    rw [extS_ix2]
    split_ifs
    · exact (isTop_top s).le _
    · exact hs _
  · refine Finset.le_fold_max _ |>.mpr (.inr ⟨(⟨(top s).val / 800, by omega⟩, ⟨(top s).val % 800, by omega⟩), Finset.mem_univ _, ?_⟩)
    exact le_of_eq (extS_lane s (top s)).symm

/-- The maximum over the lanes is the best score. -/
theorem pay8_eq {fi : IVec S8x800 32} {z : FVec Ideal S8x800 .f32} {a b c d e : Ideal .f32} {g : BitVec 32} {s : Fin 6300 → EReal}
    (hz : k0_pay7 v34 v37 v40 v43 v50 fi z a b c d e g = extS s) (hs : ∀ i, NEG ≤ s i) :
    k0_pay8 v34 v37 v40 v43 v50 fi z a b c d e g = s (top s) := by
  unfold k0_pay8
  rw [hz]
  pointwise
  exact fold_extS s hs

/-- A fold of the signed minimum over words of numbers below 2³¹ is the word of the least of them. -/
theorem fold_minsi {ι : Type} (t : Finset ι) (f : ι → ℕ) (hf : ∀ i, f i < 2 ^ 31) (i0 : ι) (h0 : i0 ∈ t) (hmin : ∀ i ∈ t, f i0 ≤ f i) :
    Finset.fold IntOp.minsi (2147483647#32) (fun i => BitVec.ofNat 32 (f i)) t = BitVec.ofNat 32 (f i0) := by
  have hint : ∀ n : ℕ, n < 2 ^ 31 → (BitVec.ofNat 32 n).toInt = n := fun n hn => toInt_ofNat_of_lt hn
  have hhom := Finset.fold_hom (op := IntOp.minsi (w := 32)) (op' := (min : ℤ → ℤ → ℤ)) (m := BitVec.toInt)
    (f := fun i => BitVec.ofNat 32 (f i)) (b := 2147483647#32) (s := t) (by
      intro x y
      simp only [IntOp.minsi]
      split_ifs with h <;> simp [BitVec.sle, BitVec.slt] at h <;> omega)
  apply BitVec.eq_of_toInt_eq
  rw [← hhom, hint _ (hf i0)]
  refine le_antisymm ?_ ?_
  · exact Finset.fold_min_le _ |>.mpr (.inr ⟨i0, h0, by rw [hint _ (hf i0)]⟩)
  · refine Finset.le_fold_min _ |>.mpr ⟨?_, fun i hi => ?_⟩
    · have := hf i0
      have e : (2147483647#32).toInt = 2147483647 := by decide
      omega
    · rw [hint _ (hf i)]; exact_mod_cast hmin i hi

/-- The smallest lane number at the maximum is the first winner's. -/
theorem pay9_eq {fi : IVec S8x800 32} {z : FVec Ideal S8x800 .f32} {a b c d e : Ideal .f32} {g : BitVec 32} {s : Fin 6300 → EReal}
    (hfi : fi = k0_pay2) (hz : k0_pay7 v34 v37 v40 v43 v50 fi z a b c d e g = extS s) (hs : ∀ i, NEG ≤ s i) :
    extractAt ![0, 0, 0] (k0_pay9 v34 v37 v40 v43 v50 fi z a b c d e g) inpos_S1x1x1_p0_0_0 = BitVec.ofNat 32 (top s) := by
  unfold k0_pay9
  rw [pay8_eq hz hs, hz]
  pointwise
  have hf : (fun x : Fin 8 × Fin 800 => if extS s (ix2 x.1 x.2) = s (top s) then fi (ix2 x.1 x.2) else 6400#32)
      = fun x => BitVec.ofNat 32 (if extS s (ix2 x.1 x.2) = s (top s) then 800 * x.1.val + x.2.val else 6400) := by
    funext x
    rw [hfi, pay2_ix2]
    split_ifs <;> rfl
  rw [hf]
  have e : 800 * ((top s).val / 800) + (top s).val % 800 = (top s).val := by omega
  have hl : extS s (ix2 ⟨(top s).val / 800, by omega⟩ ⟨(top s).val % 800, by omega⟩) = s (top s) := extS_lane s (top s)
  rw [fold_minsi Finset.univ (fun x : Fin 8 × Fin 800 => if extS s (ix2 x.1 x.2) = s (top s) then 800 * x.1.val + x.2.val else 6400)
    ?_ (⟨(top s).val / 800, by omega⟩, ⟨(top s).val % 800, by omega⟩) (Finset.mem_univ _) ?_]
  · rw [if_pos hl]; simp only [e]
  · intro x; split_ifs <;> omega
  · intro x _
    rw [if_pos hl]; simp only [e]
    split_ifs with h
    · rw [extS_ix2] at h
      split_ifs at h with hb
      · exact (isTop_top s).first _ h
      · have : NEG = s (top s) := h
        have h0 : s ⟨0, by omega⟩ = s (top s) :=
          le_antisymm ((isTop_top s).le _) (this ▸ hs _)
        have := (isTop_top s).first _ h0
        have : (top s).val ≤ 0 := this
        omega
    · omega

/-- The mask of the winner's lane. -/
theorem pay10_eq {fi : IVec S8x800 32} {z : FVec Ideal S8x800 .f32} {a b c d e : Ideal .f32} {g : BitVec 32} {s : Fin 6300 → EReal}
    (hfi : fi = k0_pay2) (hz : k0_pay7 v34 v37 v40 v43 v50 fi z a b c d e g = extS s) (hs : ∀ i, NEG ≤ s i) :
    k0_pay10 v34 v37 v40 v43 v50 fi z a b c d e g = fun j => IntOp.cmpi .eq (k0_pay2 j) (BitVec.ofNat 32 (top s)) := by
  unfold k0_pay10
  rw [pay9_eq hfi hz hs, hfi]
  rfl

/-- The sum over the lanes of what the winner's mask keeps is the winner's value. -/
theorem sum_pick (v : FVec Ideal S8x800 .f32) (g : Fin 6300) :
    (∑ x : Fin 8, ∑ y : Fin 800, Scalar.select (IntOp.cmpi .eq (k0_pay2 (ix2 x y)) (BitVec.ofNat 32 g)) (v (ix2 x y)) (0 : EReal))
      = v (lane g) := by
  have hx : ∀ x : Fin 8, ∀ y : Fin 800,
      Scalar.select (IntOp.cmpi .eq (k0_pay2 (ix2 x y)) (BitVec.ofNat 32 g)) (v (ix2 x y)) (0 : EReal)
        = if 800 * x.val + y.val = g.val then v (lane g) else 0 := by
    intro x y
    rw [pay2_ix2, select_ofNat (by omega) (by omega)]
    split_ifs with h
    · have hb : 800 * x.val + y.val < 6300 := by omega
      have hg : g = ⟨800 * x.val + y.val, hb⟩ := Fin.ext h.symm
      rw [hg, lane_of]
    · rfl
  simp only [hx]
  rw [Finset.sum_eq_single (⟨g.val / 800, by omega⟩ : Fin 8), Finset.sum_eq_single (⟨g.val % 800, by omega⟩ : Fin 800)]
  · rw [if_pos]; simp only []; omega
  · intro y _ hy
    rw [if_neg]
    intro h
    apply hy
    apply Fin.ext
    simp only [] at h ⊢
    omega
  · intro h; exact absurd (Finset.mem_univ _) h
  · intro x _ hxx
    apply Finset.sum_eq_zero
    intro y _
    rw [if_neg]
    intro h
    apply hxx
    apply Fin.ext
    simp only [] at h ⊢
    omega
  · intro h; exact absurd (Finset.mem_univ _) h

variable (g : Fin 6300)

/-- The winner's mask. -/
abbrev maskOf : IVec S8x800 1 := fun j => IntOp.cmpi .eq (k0_pay2 j) (BitVec.ofNat 32 g)

/-- The pick over the winner's mask is the plane's entry at the winner's lane. -/
theorem pay12_eq : k0_pay12 (F := Ideal) (select (maskOf g) v34 (broadcast S8x800 (Scalar.ofBits .f32 0x00000000#32))) = v34 (lane g) := by
  pointwise [k0_pay12]
  exact sum_pick v34 g
/-- The pick over the winner's mask is the plane's entry at the winner's lane. -/
theorem pay13_eq : k0_pay13 (F := Ideal) v40 (maskOf g) = v40 (lane g) := by
  pointwise [k0_pay13]
  exact sum_pick v40 g
/-- The pick over the winner's mask is the plane's entry at the winner's lane. -/
theorem pay14_eq : k0_pay14 (F := Ideal) v37 (maskOf g) = v37 (lane g) := by
  pointwise [k0_pay14]
  exact sum_pick v37 g
/-- The pick over the winner's mask is the plane's entry at the winner's lane. -/
theorem pay15_eq : k0_pay15 (F := Ideal) v43 (maskOf g) = v43 (lane g) := by
  pointwise [k0_pay15]
  exact sum_pick v43 g
/-- The pick over the winner's mask is the plane's entry at the winner's lane. -/
theorem pay16_eq : k0_pay16 (F := Ideal) v50 (maskOf g) = v50 (lane g) := by
  pointwise [k0_pay16]
  exact sum_pick v50 g
/-- The pick over the winner's mask is the plane's entry at the winner's lane. -/
theorem pay17_eq : k0_pay17 (F := Ideal) v527 (maskOf g) = v527 (lane g) := by
  pointwise [k0_pay17]
  exact sum_pick v527 g

end Round

end Cert.Proof

end
-- ==== Proof.KLoop.lean ====
/-
  THE KERNEL'S LOOP at the extended reals: what it carries before each round, and what each round stores.
-/
module

public import proofs.«01_k».proof.Proof.KTrip
public import proofs.«01_k».proof.Proof.Gen.KernelIdeal.Loops

@[expose] public section

noncomputable section

set_option maxRecDepth 16384

namespace Cert.Proof

open Idealize.ShloMosaic Cert.KernelIdeal Cert.KernelIdeal.Gen

/-- What the loop carries: scores, the last winner's box, area and number, and the count of rounds that counted. -/
abbrev Acc : Type :=
  FVec Ideal S8x800 .f32 × Ideal .f32 × Ideal .f32 × Ideal .f32 × Ideal .f32 × Ideal .f32 × BitVec 32 × BitVec 32

/-- What is carried before round `t`. -/
def kacc (D : Cand) : ℕ → Acc
  | 0 => (extS D.s0, (0 : EReal), (0 : EReal), (0 : EReal), (0 : EReal), (0 : EReal), 4294967295#32, 0#32)
  | t + 1 => (extS (D.S t), D.x1 (D.win t), D.y1 (D.win t), D.x2 (D.win t), D.y2 (D.win t), D.area (D.win t),
      BitVec.ofNat 32 (D.win t), D.nv (t + 1))

section

variable (𝒱 : Variants) (c : Dev nD) (bd : Option 𝒱.V)
  (arg0 : Memref sig Kind.tc Space.vmem S85x8x800 EltTy.f32) (harg0 : arg0.IsWhole)
  (arg1 : Memref sig Kind.tc Space.vmem S6x8x800 EltTy.f32) (harg1 : arg1.IsWhole)
  (arg2 : Memref sig Kind.tc Space.vmem S100x4 EltTy.f32) (harg2 : arg2.IsWhole)
  (arg3 : Memref sig Kind.tc Space.vmem S100x1 EltTy.f32) (harg3 : arg3.IsWhole)
  (arg4 : Memref sig Kind.tc Space.vmem S100x1 EltTy.f32) (harg4 : arg4.IsWhole)
  (arg5 : Memref sig Kind.tc Space.vmem S1x1 EltTy.i32) (harg5 : arg5.IsWhole)
  (v34 v37 v40 v43 v50 v527 : FVec Ideal S8x800 FTy.f32) (v556 : IVec S1x4 32) (k : Fin k0_t1_loop.trips) (acc : Acc)

/-- The scores after the round's kill step. -/
abbrev kS : FVec Ideal S8x800 .f32 :=
  k0_pay7 v34 v37 v40 v43 v50 k0_pay2 acc.1 acc.2.1 acc.2.2.1 acc.2.2.2.1 acc.2.2.2.2.1 acc.2.2.2.2.2.1 acc.2.2.2.2.2.2.1
/-- The largest of them. -/
abbrev kM : Ideal .f32 :=
  k0_pay8 v34 v37 v40 v43 v50 k0_pay2 acc.1 acc.2.1 acc.2.2.1 acc.2.2.2.1 acc.2.2.2.2.1 acc.2.2.2.2.2.1 acc.2.2.2.2.2.2.1
/-- The number of the first lane that has it. -/
abbrev kG : BitVec 32 :=
  extractAt ![0, 0, 0] (k0_pay9 v34 v37 v40 v43 v50 k0_pay2 acc.1 acc.2.1 acc.2.2.1 acc.2.2.2.1 acc.2.2.2.2.1 acc.2.2.2.2.2.1
    acc.2.2.2.2.2.2.1) inpos_S1x1x1_p0_0_0
/-- The winner's mask. -/
abbrev kMask : IVec S8x800 1 :=
  k0_pay10 v34 v37 v40 v43 v50 k0_pay2 acc.1 acc.2.1 acc.2.2.1 acc.2.2.2.1 acc.2.2.2.2.1 acc.2.2.2.2.2.1 acc.2.2.2.2.2.2.1
/-- Whether the round counts. -/
abbrev kV : BitVec 1 := Scalar.cmpf .ogt (kM v34 v37 v40 v43 v50 acc) (Scalar.ofBits .f32 0xCF9502F9#32 : Ideal .f32)
/-- The winner's left edge. -/
abbrev kX1 : Ideal .f32 :=
  k0_pay12 (k0_pay11 v34 v37 v40 v43 v50 k0_pay2 acc.1 acc.2.1 acc.2.2.1 acc.2.2.2.1 acc.2.2.2.2.1 acc.2.2.2.2.2.1
    acc.2.2.2.2.2.2.1)

/-- What a round yields, in the round's payloads. -/
theorem tripR_eq : tripR_k0_t1 (F := Ideal) 𝒱 c bd arg0 harg0 arg1 harg1 arg2 harg2 arg3 harg3 arg4 harg4 arg5 harg5
      v34 v37 v40 v43 v50 v527 v556 k acc
    = (kS v34 v37 v40 v43 v50 acc, kX1 v34 v37 v40 v43 v50 acc, k0_pay13 v40 (kMask v34 v37 v40 v43 v50 acc),
       k0_pay14 v37 (kMask v34 v37 v40 v43 v50 acc), k0_pay15 v43 (kMask v34 v37 v40 v43 v50 acc),
       k0_pay16 v50 (kMask v34 v37 v40 v43 v50 acc), kG v34 v37 v40 v43 v50 acc,
       Scalar.addi acc.2.2.2.2.2.2.2 (Scalar.extui (kV v34 v37 v40 v43 v50 acc))) := by
  unfold tripR_k0_t1 trip_k0_t1
  rfl

/-- What a round stores, in the round's payloads. -/
theorem tripL_eq : tripL_k0_t1 (F := Ideal) 𝒱 c bd arg0 harg0 arg1 harg1 arg2 harg2 arg3 harg3 arg4 harg4 arg5 harg5
      v34 v37 v40 v43 v50 v527 v556 k acc
    = ([⟨Rect.unit (k0_off1 k) ![1, 4] (k0_off1_inb k), k0_pay3 (kX1 v34 v37 v40 v43 v50 acc) (kV v34 v37 v40 v43 v50 acc)
          (k0_pay18 v556) (k0_pay19 v556) (k0_pay20 v37 v43 v556 (kMask v34 v37 v40 v43 v50 acc))
          (k0_pay21 v40 (kMask v34 v37 v40 v43 v50 acc))⟩],
       [⟨Rect.unit (k0_off2 k) ![1, 1] (k0_off2_inb k), k0_pay4 (kM v34 v37 v40 v43 v50 acc) (kV v34 v37 v40 v43 v50 acc)⟩],
       [⟨Rect.unit (k0_off2 k) ![1, 1] (k0_off2_inb k), k0_pay5 (k0_pay17 v527 (kMask v34 v37 v40 v43 v50 acc))
          (kV v34 v37 v40 v43 v50 acc)⟩]) := by
  unfold tripL_k0_t1 trip_k0_t1
  rfl

variable {v34 v37 v40 v43 v50 v527} {D : Cand} (hL : Lanes D v34 v37 v40 v43 v50 v527) (h0 : ∀ i, NEG ≤ D.s0 i) (t : ℕ)

include hL

/-- The scores a trip works with are those of its round. -/
theorem kS_kacc : kS v34 v37 v40 v43 v50 (kacc D t) = extS (D.S t) := by
  cases t with
  | zero => exact pay7_first D.s0
  | succ t => exact pay7_next hL (D.S t) (D.win t)

include h0

/-- The trip's maximum is the round's best score. -/
theorem kM_kacc : kM v34 v37 v40 v43 v50 (kacc D t) = D.best t := pay8_eq (kS_kacc hL t) (D.le_S h0 t)

/-- The trip's winner is the round's. -/
theorem kG_kacc : kG v34 v37 v40 v43 v50 (kacc D t) = BitVec.ofNat 32 (D.win t) := pay9_eq rfl (kS_kacc hL t) (D.le_S h0 t)

/-- The trip's mask marks the winner's lane. -/
theorem kMask_kacc : kMask v34 v37 v40 v43 v50 (kacc D t) = maskOf (D.win t) := pay10_eq rfl (kS_kacc hL t) (D.le_S h0 t)

/-- The trip counts exactly when the best score passes the threshold. -/
theorem kV_kacc : kV v34 v37 v40 v43 v50 (kacc D t) = BitVec.ofBool (decide (THR < D.best t)) := by
  unfold kV
  rw [kM_kacc hL h0]
  rfl

/-- The picked left edge is the winner's. -/
theorem kX1_kacc : kX1 v34 v37 v40 v43 v50 (kacc D t) = D.x1 (D.win t) := by
  unfold kX1 k0_pay11
  dsimp only
  rw [show k0_pay10 v34 v37 v40 v43 v50 k0_pay2 (kacc D t).1 (kacc D t).2.1 (kacc D t).2.2.1 (kacc D t).2.2.2.1
    (kacc D t).2.2.2.2.1 (kacc D t).2.2.2.2.2.1 (kacc D t).2.2.2.2.2.2.1 = _ from kMask_kacc hL h0 t, pay12_eq, hL.x1]

/-- One round takes what is carried before it to what is carried before the next. -/
theorem tripR_kacc : tripR_k0_t1 (F := Ideal) 𝒱 c bd arg0 harg0 arg1 harg1 arg2 harg2 arg3 harg3 arg4 harg4 arg5 harg5
      v34 v37 v40 v43 v50 v527 v556 k (kacc D t) = kacc D (t + 1) := by
  have hn : (kacc D t).2.2.2.2.2.2.2 = D.nv t := by cases t <;> rfl
  have he : Scalar.addi (D.nv t) (Scalar.extui (BitVec.ofBool (decide (THR < D.best t)))) = D.nv (t + 1) := by
    show IntOp.addi (D.nv t) _ = IntOp.addi (D.nv t) _
    congr 1
    by_cases h : THR < D.best t
    · rw [decide_eq_true h, if_pos h]; rfl
    · rw [decide_eq_false h, if_neg h]; rfl
  rw [tripR_eq, kS_kacc hL, kX1_kacc hL h0, kMask_kacc hL h0, kG_kacc hL h0, kV_kacc hL h0, pay13_eq, pay14_eq, pay15_eq,
    pay16_eq, hL.x2, hL.y1, hL.y2, hL.area, hn, he]
  rfl

/-- The kept class number as the kernel stores it. -/
def _root_.Cert.Proof.Cand.outClsF (D : Cand) (t : ℕ) : EReal :=
  if THR < D.best t then (((D.cls (D.win t)).val : ℝ) : EReal) else 0

/-- What a round stores: its rows of the boxes, scores and class numbers. -/
theorem tripL_kacc (hv : v556 = iota Kind.tc S1x4 32 [1] iota_S1x4_d1_w32) :
    tripL_k0_t1 (F := Ideal) 𝒱 c bd arg0 harg0 arg1 harg1 arg2 harg2 arg3 harg3 arg4 harg4 arg5 harg5
      v34 v37 v40 v43 v50 v527 v556 k (kacc D t)
    = ([⟨Rect.unit (k0_off1 k) ![1, 4] (k0_off1_inb k), fun j => D.outBox t (j 1)⟩],
       [⟨Rect.unit (k0_off2 k) ![1, 1] (k0_off2_inb k), fun _ => D.outScore t⟩],
       [⟨Rect.unit (k0_off2 k) ![1, 1] (k0_off2_inb k), fun _ => D.outClsF t⟩]) := by
  rw [tripL_eq, kX1_kacc hL h0, kMask_kacc hL h0, kV_kacc hL h0, kM_kacc hL h0, pay17_eq, hL.cls, hv]
  have e1 : k0_pay3 (F := Ideal) (D.x1 (D.win t)) (BitVec.ofBool (decide (THR < D.best t)))
      (k0_pay18 (iota Kind.tc S1x4 32 [1] iota_S1x4_d1_w32)) (k0_pay19 (iota Kind.tc S1x4 32 [1] iota_S1x4_d1_w32))
      (k0_pay20 v37 v43 (iota Kind.tc S1x4 32 [1] iota_S1x4_d1_w32) (maskOf (D.win t))) (k0_pay21 v40 (maskOf (D.win t)))
      = fun j => D.outBox t (j 1) := by
    funext j
    obtain ⟨r, l, rfl⟩ : ∃ r l, j = ix2 r l := ⟨j 0, j 1, eq_ix2 j⟩
    unfold k0_pay20 k0_pay21
    rw [pay13_eq, pay14_eq, pay15_eq, hL.x2, hL.y1, hL.y2]
    unfold k0_pay3 k0_pay18 k0_pay19 Cand.outBox Cand.box
    by_cases h : THR < D.best t
    · rw [decide_eq_true h, if_pos h]
      show select _ _ _ (ix2 r l) = _
      pointwise
      match l with
      | 0 => rfl
      | 1 => rfl
      | 2 => rfl
      | 3 => rfl
    · rw [decide_eq_false h, if_neg h]
      show Ideal.ofBits .f32 0x00000000#32 = (0 : EReal)
      exact Ideal.ofBits_zero_f32
  have e2 : k0_pay4 (F := Ideal) (D.best t) (BitVec.ofBool (decide (THR < D.best t))) = fun _ => D.outScore t := by
    funext j
    pointwise [k0_pay4]
    unfold Cand.outScore
    by_cases h : THR < D.best t <;> simp [h, Scalar.select]
  have e3 : k0_pay5 (F := Ideal) ((((D.cls (D.win t)).val : ℝ) : EReal)) (BitVec.ofBool (decide (THR < D.best t)))
      = fun _ => D.outClsF t := by
    funext j
    pointwise [k0_pay5]
    unfold Cand.outClsF
    by_cases h : THR < D.best t <;> simp [h, Scalar.select]
  rw [e1, e2, e3]
  rfl

/-- What the loop carries before round `t`. -/
theorem st_fst (ht : t ≤ k0_t1_loop.trips) :
    (st_k0_t1 (F := Ideal) 𝒱 c bd arg0 harg0 arg1 harg1 arg2 harg2 arg3 harg3 arg4 harg4 arg5 harg5
      v34 v37 v40 v43 v50 v527 v556 (kacc D 0) t).1 = kacc D t := by
  induction t with
  | zero => exact st_k0_t1_zero ..
  | succ t ih =>
      have h := st_k0_t1_succ (F := Ideal) 𝒱 c bd arg0 harg0 arg1 harg1 arg2 harg2 arg3 harg3 arg4 harg4 arg5 harg5
        v34 v37 v40 v43 v50 v527 v556 (kacc D 0) ⟨t, ht⟩
      simp only [] at h
      rw [h, ih (by omega), tripR_kacc _ _ _ _ _ _ _ _ _ _ _ _ _ _ _ _ _ hL h0]

end

end Cert.Proof

end
-- ==== Proof.KPre.lean ====
/-
  THE KERNEL BEFORE ITS LOOP at the extended reals: lane by lane, the values it hands to the loop are the decoded
  candidates of Dec.lean.
-/
module

public import proofs.«01_k».proof.Proof.Dec
public import proofs.«01_k».proof.Proof.KLoop
public import proofs.«01_k».proof.Proof.Gen.KernelIdeal.Frame
public import Idealize.ShloMosaic.Lib.WholeRead

@[expose] public section

noncomputable section

set_option maxRecDepth 16384

namespace Cert.Proof

open Idealize.ShloMosaic Cert.KernelIdeal Cert.KernelIdeal.Gen

variable (c : Dev nD) (arg0 : Memref sig Kind.tc Space.vmem S85x8x800 EltTy.f32) (harg0 : arg0.IsWhole)
  (arg1 : Memref sig Kind.tc Space.vmem S6x8x800 EltTy.f32) (harg1 : arg1.IsWhole)
  (x0 : FVec Ideal S85x8x800 .f32) (x1 : FVec Ideal S6x8x800 .f32)

/-! ## Loads -/

/-- A feature plane lies within the features. -/
theorem inbF (k : ℕ) (hk : k < 85) : ∀ a, (![k, 0, 0] : Fin 3 → ℕ) a + S1x8x800.size a ≤ S85x8x800.size a := by
  intro a
  match a with
  | ⟨0, _⟩ => show k + 1 ≤ 85; omega
  | ⟨1, _⟩ => exact le_refl 8
  | ⟨2, _⟩ => exact le_refl 800

/-- A table plane lies within the table. -/
theorem inbT (k : ℕ) (hk : k < 6) : ∀ a, (![k, 0, 0] : Fin 3 → ℕ) a + S1x8x800.size a ≤ S6x8x800.size a := by
  intro a
  match a with
  | ⟨0, _⟩ => show k + 1 ≤ 6; omega
  | ⟨1, _⟩ => exact le_refl 8
  | ⟨2, _⟩ => exact le_refl 800

/-- A load of plane `k` of the features. -/
def ldF (k : ℕ) (hk : k < 85) : FVec Ideal S1x8x800 .f32 :=
  View.readAt (Elt Ideal) arg0.view (Rect.unit (s := S85x8x800) ![k, 0, 0] S1x8x800.size (inbF k hk)).toLoadRect (harg0.unread x0)

/-- A load of plane `k` of the table. -/
def ldT (k : ℕ) (hk : k < 6) : FVec Ideal S1x8x800 .f32 :=
  View.readAt (Elt Ideal) arg1.view (Rect.unit (s := S6x8x800) ![k, 0, 0] S1x8x800.size (inbT k hk)).toLoadRect (harg1.unread x1)

/-- A loaded feature plane, read at a lane. -/
theorem ldF_ix3 (k : ℕ) (hk : k < 85) (r : Fin 8) (l : Fin 800) : ldF arg0 harg0 x0 k hk (ix3 0 r l) = x0 (ix3 ⟨k, hk⟩ r l) := by
  unfold ldF
  rw [Memref.IsWhole.readAt_unread]
  congr 1
  funext a
  match a with
  | ⟨0, _⟩ => exact Fin.ext (by simp [Rect.toLoadRect, Rect.unit, LoadRect.idx, ix3])
  | ⟨1, _⟩ => exact Fin.ext (by simp [Rect.toLoadRect, Rect.unit, LoadRect.idx, ix3])
  | ⟨2, _⟩ => exact Fin.ext (by simp [Rect.toLoadRect, Rect.unit, LoadRect.idx, ix3])

/-- A loaded table plane, read at a lane. -/
theorem ldT_ix3 (k : ℕ) (hk : k < 6) (r : Fin 8) (l : Fin 800) : ldT arg1 harg1 x1 k hk (ix3 0 r l) = x1 (ix3 ⟨k, hk⟩ r l) := by
  unfold ldT
  rw [Memref.IsWhole.readAt_unread]
  congr 1
  funext a
  match a with
  | ⟨0, _⟩ => exact Fin.ext (by simp [Rect.toLoadRect, Rect.unit, LoadRect.idx, ix3])
  | ⟨1, _⟩ => exact Fin.ext (by simp [Rect.toLoadRect, Rect.unit, LoadRect.idx, ix3])
  | ⟨2, _⟩ => exact Fin.ext (by simp [Rect.toLoadRect, Rect.unit, LoadRect.idx, ix3])

/-! ## The running maximum over the classes -/

/-- Class probabilities of a lane, by number. -/
def lanePr (r : Fin 8) (l : Fin 800) (k : ℕ) : EReal := if h : k < 80 then x0 (ix3 ⟨5 + k, by omega⟩ r l) else ⊥

/-- In every lane, `b` holds the largest of the first `m + 1` class probabilities and `i` the number of the first class
that has it. -/
structure Best (m : ℕ) (b i : FVec Ideal S8x800 .f32) : Prop where
  val : ∀ r l, b (ix2 r l) = (amax (lanePr x0 r l) m).1
  idx : ∀ r l, i (ix2 r l) = ((((amax (lanePr x0 r l) m).2 : ℕ) : ℝ) : EReal)

variable {x0}

/-- One class more. -/
theorem Best.step {m : ℕ} {b i : FVec Ideal S8x800 .f32} (h : Best x0 m b i) (w : BitVec 32) (hm : m + 1 < 80) (hw : w = natW (m + 1)) :
    Best x0 (m + 1)
      (select (cmpf .ogt (shapeCast S8x800 (ldF arg0 harg0 x0 (5 + (m + 1)) (by omega)) shapeCasts_S1x8x800_S8x800) b)
        (shapeCast S8x800 (ldF arg0 harg0 x0 (5 + (m + 1)) (by omega)) shapeCasts_S1x8x800_S8x800) b)
      (select (cmpf .ogt (shapeCast S8x800 (ldF arg0 harg0 x0 (5 + (m + 1)) (by omega)) shapeCasts_S1x8x800_S8x800) b)
        (broadcast S8x800 (Scalar.ofBits (F := Ideal) .f32 w)) i) := by
  have hp : ∀ r l, lanePr x0 r l (m + 1) = x0 (ix3 ⟨5 + (m + 1), by omega⟩ r l) := fun r l => dif_pos hm
  constructor
  · intro r l
    pointwise
    rw [ldF_ix3, h.val, amax, hp]
    split_ifs <;> rfl
  · intro r l
    pointwise
    simp only [ldF_ix3, h.val, h.idx, amax, hp]
    split_ifs
    · rw [hw]; exact ofBits_natW _ (by omega)
    · rfl

/-- After class 0: the largest probability so far and its class, lane by lane. -/
theorem best_0 : Best x0 0 (shapeCast S8x800 (ldF arg0 harg0 x0 5 (by omega)) shapeCasts_S1x8x800_S8x800)
    (broadcast S8x800 (Scalar.ofBits (F := Ideal) .f32 0x00000000#32)) := by
  constructor
  · intro r l
    pointwise
    rw [ldF_ix3]
    show _ = lanePr x0 r l 0
    rw [lanePr, dif_pos (by omega)]
  · intro r l
    pointwise
    simp [amax]

/-- After class 2: the largest probability so far and its class, lane by lane. -/
theorem best_2 : Best x0 2 (kernelRun0_A.sl.r_12 c arg0 harg0 x0) (kernelRun0_A.sl.r_13 c arg0 harg0 x0) := by
  have h := ((best_0 arg0 harg0 (x0 := x0)).step arg0 harg0 0x3F800000#32 (by omega) (by decide)).step arg0 harg0 0x40000000#32 (by omega) (by decide)
  exact h

/-- After class 8: the largest probability so far and its class, lane by lane. -/
theorem best_8 : Best x0 8 (kernelRun0_A.sl.r_14 c arg0 harg0 x0) (kernelRun0_A.sl.r_15 c arg0 harg0 x0) := by
  have h := ((((((best_2 c arg0 harg0 (x0 := x0)).step arg0 harg0 0x40400000#32 (by omega) (by decide)).step arg0 harg0 0x40800000#32 (by omega) (by decide)).step arg0 harg0 0x40A00000#32 (by omega) (by decide)).step arg0 harg0 0x40C00000#32 (by omega) (by decide)).step arg0 harg0 0x40E00000#32 (by omega) (by decide)).step arg0 harg0 0x41000000#32 (by omega) (by decide)
  exact h

/-- After class 14: the largest probability so far and its class, lane by lane. -/
theorem best_14 : Best x0 14 (kernelRun0_A.sl.r_16 c arg0 harg0 x0) (kernelRun0_A.sl.r_17 c arg0 harg0 x0) := by
  have h := ((((((best_8 c arg0 harg0 (x0 := x0)).step arg0 harg0 0x41100000#32 (by omega) (by decide)).step arg0 harg0 0x41200000#32 (by omega) (by decide)).step arg0 harg0 0x41300000#32 (by omega) (by decide)).step arg0 harg0 0x41400000#32 (by omega) (by decide)).step arg0 harg0 0x41500000#32 (by omega) (by decide)).step arg0 harg0 0x41600000#32 (by omega) (by decide)
  exact h

/-- After class 20: the largest probability so far and its class, lane by lane. -/
theorem best_20 : Best x0 20 (kernelRun0_A.sl.r_18 c arg0 harg0 x0) (kernelRun0_A.sl.r_19 c arg0 harg0 x0) := by
  have h := ((((((best_14 c arg0 harg0 (x0 := x0)).step arg0 harg0 0x41700000#32 (by omega) (by decide)).step arg0 harg0 0x41800000#32 (by omega) (by decide)).step arg0 harg0 0x41880000#32 (by omega) (by decide)).step arg0 harg0 0x41900000#32 (by omega) (by decide)).step arg0 harg0 0x41980000#32 (by omega) (by decide)).step arg0 harg0 0x41A00000#32 (by omega) (by decide)
  exact h

/-- After class 26: the largest probability so far and its class, lane by lane. -/
theorem best_26 : Best x0 26 (kernelRun0_A.sl.r_20 c arg0 harg0 x0) (kernelRun0_A.sl.r_21 c arg0 harg0 x0) := by
  have h := ((((((best_20 c arg0 harg0 (x0 := x0)).step arg0 harg0 0x41A80000#32 (by omega) (by decide)).step arg0 harg0 0x41B00000#32 (by omega) (by decide)).step arg0 harg0 0x41B80000#32 (by omega) (by decide)).step arg0 harg0 0x41C00000#32 (by omega) (by decide)).step arg0 harg0 0x41C80000#32 (by omega) (by decide)).step arg0 harg0 0x41D00000#32 (by omega) (by decide)
  exact h

/-- After class 32: the largest probability so far and its class, lane by lane. -/
theorem best_32 : Best x0 32 (kernelRun0_A.sl.r_22 c arg0 harg0 x0) (kernelRun0_A.sl.r_23 c arg0 harg0 x0) := by
  have h := ((((((best_26 c arg0 harg0 (x0 := x0)).step arg0 harg0 0x41D80000#32 (by omega) (by decide)).step arg0 harg0 0x41E00000#32 (by omega) (by decide)).step arg0 harg0 0x41E80000#32 (by omega) (by decide)).step arg0 harg0 0x41F00000#32 (by omega) (by decide)).step arg0 harg0 0x41F80000#32 (by omega) (by decide)).step arg0 harg0 0x42000000#32 (by omega) (by decide)
  exact h

/-- After class 38: the largest probability so far and its class, lane by lane. -/
theorem best_38 : Best x0 38 (kernelRun0_A.sl.r_24 c arg0 harg0 x0) (kernelRun0_A.sl.r_25 c arg0 harg0 x0) := by
  have h := ((((((best_32 c arg0 harg0 (x0 := x0)).step arg0 harg0 0x42040000#32 (by omega) (by decide)).step arg0 harg0 0x42080000#32 (by omega) (by decide)).step arg0 harg0 0x420C0000#32 (by omega) (by decide)).step arg0 harg0 0x42100000#32 (by omega) (by decide)).step arg0 harg0 0x42140000#32 (by omega) (by decide)).step arg0 harg0 0x42180000#32 (by omega) (by decide)
  exact h

/-- After class 44: the largest probability so far and its class, lane by lane. -/
theorem best_44 : Best x0 44 (kernelRun0_A.sl.r_26 c arg0 harg0 x0) (kernelRun0_A.sl.r_27 c arg0 harg0 x0) := by
  have h := ((((((best_38 c arg0 harg0 (x0 := x0)).step arg0 harg0 0x421C0000#32 (by omega) (by decide)).step arg0 harg0 0x42200000#32 (by omega) (by decide)).step arg0 harg0 0x42240000#32 (by omega) (by decide)).step arg0 harg0 0x42280000#32 (by omega) (by decide)).step arg0 harg0 0x422C0000#32 (by omega) (by decide)).step arg0 harg0 0x42300000#32 (by omega) (by decide)
  exact h

/-- After class 50: the largest probability so far and its class, lane by lane. -/
theorem best_50 : Best x0 50 (kernelRun0_A.sl.r_28 c arg0 harg0 x0) (kernelRun0_A.sl.r_29 c arg0 harg0 x0) := by
  have h := ((((((best_44 c arg0 harg0 (x0 := x0)).step arg0 harg0 0x42340000#32 (by omega) (by decide)).step arg0 harg0 0x42380000#32 (by omega) (by decide)).step arg0 harg0 0x423C0000#32 (by omega) (by decide)).step arg0 harg0 0x42400000#32 (by omega) (by decide)).step arg0 harg0 0x42440000#32 (by omega) (by decide)).step arg0 harg0 0x42480000#32 (by omega) (by decide)
  exact h

/-- After class 56: the largest probability so far and its class, lane by lane. -/
theorem best_56 : Best x0 56 (kernelRun0_A.sl.r_30 c arg0 harg0 x0) (kernelRun0_A.sl.r_31 c arg0 harg0 x0) := by
  have h := ((((((best_50 c arg0 harg0 (x0 := x0)).step arg0 harg0 0x424C0000#32 (by omega) (by decide)).step arg0 harg0 0x42500000#32 (by omega) (by decide)).step arg0 harg0 0x42540000#32 (by omega) (by decide)).step arg0 harg0 0x42580000#32 (by omega) (by decide)).step arg0 harg0 0x425C0000#32 (by omega) (by decide)).step arg0 harg0 0x42600000#32 (by omega) (by decide)
  exact h

/-- After class 62: the largest probability so far and its class, lane by lane. -/
theorem best_62 : Best x0 62 (kernelRun0_A.sl.r_32 c arg0 harg0 x0) (kernelRun0_A.sl.r_33 c arg0 harg0 x0) := by
  have h := ((((((best_56 c arg0 harg0 (x0 := x0)).step arg0 harg0 0x42640000#32 (by omega) (by decide)).step arg0 harg0 0x42680000#32 (by omega) (by decide)).step arg0 harg0 0x426C0000#32 (by omega) (by decide)).step arg0 harg0 0x42700000#32 (by omega) (by decide)).step arg0 harg0 0x42740000#32 (by omega) (by decide)).step arg0 harg0 0x42780000#32 (by omega) (by decide)
  exact h

/-- After class 68: the largest probability so far and its class, lane by lane. -/
theorem best_68 : Best x0 68 (kernelRun0_A.sl.r_34 c arg0 harg0 x0) (kernelRun0_A.sl.r_35 c arg0 harg0 x0) := by
  have h := ((((((best_62 c arg0 harg0 (x0 := x0)).step arg0 harg0 0x427C0000#32 (by omega) (by decide)).step arg0 harg0 0x42800000#32 (by omega) (by decide)).step arg0 harg0 0x42820000#32 (by omega) (by decide)).step arg0 harg0 0x42840000#32 (by omega) (by decide)).step arg0 harg0 0x42860000#32 (by omega) (by decide)).step arg0 harg0 0x42880000#32 (by omega) (by decide)
  exact h

/-- After class 74: the largest probability so far and its class, lane by lane. -/
theorem best_74 : Best x0 74 (kernelRun0_A.sl.r_36 c arg0 harg0 x0) (kernelRun0_A.sl.r_37 c arg0 harg0 x0) := by
  have h := ((((((best_68 c arg0 harg0 (x0 := x0)).step arg0 harg0 0x428A0000#32 (by omega) (by decide)).step arg0 harg0 0x428C0000#32 (by omega) (by decide)).step arg0 harg0 0x428E0000#32 (by omega) (by decide)).step arg0 harg0 0x42900000#32 (by omega) (by decide)).step arg0 harg0 0x42920000#32 (by omega) (by decide)).step arg0 harg0 0x42940000#32 (by omega) (by decide)
  exact h

/-- All the classes: the largest probability, and its class as the kernel numbers it. -/
theorem best_79 : Best x0 79 (k0_pay286 (kernelRun0_A.sl.r_36 c arg0 harg0 x0) (ldF arg0 harg0 x0 80 (by omega)) (ldF arg0 harg0 x0 81 (by omega))
    (ldF arg0 harg0 x0 82 (by omega)) (ldF arg0 harg0 x0 83 (by omega)) (ldF arg0 harg0 x0 84 (by omega)))
    (kernelRun0_A.sl.r_38 c arg0 harg0 x0) := by
  have h := (((((best_74 c arg0 harg0 (x0 := x0)).step arg0 harg0 0x42960000#32 (by omega) (by decide)).step arg0 harg0 0x42980000#32 (by omega) (by decide)).step arg0 harg0 0x429A0000#32 (by omega) (by decide)).step arg0 harg0 0x429C0000#32 (by omega) (by decide)).step arg0 harg0 0x429E0000#32 (by omega) (by decide)
  exact h

/-! ## The lanes -/

/-- The features in lanes: plane `k` holds feature `k` of candidate `800 r + l`. -/
def FeatLanes (F : Fin 6300 → Fin 85 → EReal) (x0 : FVec Ideal S85x8x800 .f32) : Prop :=
  ∀ (r : Fin 8) (l : Fin 800) (h : 800 * r.val + l.val < 6300) (k : Fin 85), x0 (ix3 k r l) = F ⟨800 * r.val + l.val, h⟩ k

/-- The table in lanes: the cell, the anchor box and the side length of each candidate, and which lanes hold one. -/
structure TableLanes (x1 : FVec Ideal S6x8x800 .f32) : Prop where
  gx : ∀ (r : Fin 8) (l : Fin 800), 800 * r.val + l.val < 6300 → x1 (ix3 0 r l) = ((gxN (800 * r.val + l.val) : ℝ) : EReal)
  gy : ∀ (r : Fin 8) (l : Fin 800), 800 * r.val + l.val < 6300 → x1 (ix3 1 r l) = ((gyN (800 * r.val + l.val) : ℝ) : EReal)
  aw : ∀ (r : Fin 8) (l : Fin 800), 800 * r.val + l.val < 6300 → x1 (ix3 2 r l) = Ideal.ofBits .f32 (awW (800 * r.val + l.val))
  ah : ∀ (r : Fin 8) (l : Fin 800), 800 * r.val + l.val < 6300 → x1 (ix3 3 r l) = Ideal.ofBits .f32 (ahW (800 * r.val + l.val))
  gs : ∀ (r : Fin 8) (l : Fin 800), 800 * r.val + l.val < 6300 → x1 (ix3 4 r l) = ((gsN (800 * r.val + l.val) : ℝ) : EReal)
  used : ∀ (r : Fin 8) (l : Fin 800), x1 (ix3 5 r l) = if 800 * r.val + l.val < 6300 then 1 else 0

variable {x1} {F : Fin 6300 → Fin 85 → EReal} (hF : FeatLanes F x0) (hT : TableLanes x1)

include hF in
/-- The largest class probability in a used lane. -/
theorem best_val (r : Fin 8) (l : Fin 800) (h : 800 * r.val + l.val < 6300) :
    (amax (lanePr x0 r l) 79).1 = pmax F ⟨800 * r.val + l.val, h⟩ ∧ (amax (lanePr x0 r l) 79).2 = ((cand F).cls ⟨800 * r.val + l.val, h⟩).val := by
  obtain ⟨h2, h1⟩ := amax_top (lanePr x0 r l) 80 79 rfl
  have e : (fun i : Fin 80 => lanePr x0 r l i.val) = prob F ⟨800 * r.val + l.val, h⟩ := by
    funext i
    exact (dif_pos i.isLt).trans (hF r l h _)
  rw [e] at h1 h2
  exact ⟨h1, h2⟩

include hF in
/-- The confidence in a used lane. -/
theorem conf_val (r : Fin 8) (l : Fin 800) (h : 800 * r.val + l.val < 6300) :
    kernelRun0_A.sl.r_6 (F := Ideal) c arg0 harg0 x0 (ix2 r l) = F ⟨800 * r.val + l.val, h⟩ 4 := by
  have e : kernelRun0_A.sl.r_6 (F := Ideal) c arg0 harg0 x0 = k0_pay30 (ldF arg0 harg0 x0 4 (by omega)) := by rfl
  rw [e]
  pointwise [k0_pay30]
  rw [ldF_ix3]
  exact hF r l h 4

include hT in
/-- Which lanes hold a candidate. -/
theorem used_val (r : Fin 8) (l : Fin 800) :
    kernelRun0_A.sl.r_1 (F := Ideal) c arg1 harg1 x1 (ix2 r l) = if 800 * r.val + l.val < 6300 then 1#1 else 0#1 := by
  have e : kernelRun0_A.sl.r_1 (F := Ideal) c arg1 harg1 x1 = k0_pay24 (F := Ideal) (ldT arg1 harg1 x1 5 (by omega)) := by rfl
  rw [e]
  pointwise [k0_pay24]
  rw [ldT_ix3]
  rw [show (⟨5, by omega⟩ : Fin 6) = 5 from rfl, hT.used]
  by_cases h : 800 * r.val + l.val < 6300
  · simp [h]
  · simp [h]

/-- A value known lane by lane, read at the lane of a candidate. -/
theorem at_lane {v : FVec Ideal S8x800 .f32} {g : Fin 6300 → EReal}
    (h : ∀ (r : Fin 8) (l : Fin 800) (h : 800 * r.val + l.val < 6300), v (ix2 r l) = g ⟨800 * r.val + l.val, h⟩) (n : Fin 6300) :
    v (lane n) = g n := by
  have e : 800 * (n.val / 800) + n.val % 800 = n.val := by omega
  rw [lane, h _ _ (by simp only [e]; exact n.isLt)]
  exact congrArg g (Fin.ext e)

include hF hT in
/-- The left edge in a used lane. -/
theorem x1_val (r : Fin 8) (l : Fin 800) (h : 800 * r.val + l.val < 6300) :
    kernelRun0_A.sl.r_7 (F := Ideal) c arg0 harg0 arg1 harg1 x0 x1 (ix2 r l) = (cand F).x1 ⟨800 * r.val + l.val, h⟩ := by
  have e : kernelRun0_A.sl.r_7 (F := Ideal) c arg0 harg0 arg1 harg1 x0 x1 = k0_pay31 (k0_pay25 (ldT arg1 harg1 x1 0 (by omega)) (ldT arg1 harg1 x1 4 (by omega)) (ldF arg0 harg0 x0 0 (by omega))) (k0_pay27 (ldT arg1 harg1 x1 2 (by omega)) (ldF arg0 harg0 x0 2 (by omega))) := by rfl
  have f0 : x0 (ix3 ⟨0, by omega⟩ r l) = F ⟨800 * r.val + l.val, h⟩ 0 := hF r l h 0
  have f2 : x0 (ix3 ⟨2, by omega⟩ r l) = F ⟨800 * r.val + l.val, h⟩ 2 := hF r l h 2
  have t0 := hT.gx r l h
  have t2 := hT.aw r l h
  have t4 := hT.gs r l h
  rw [e]
  pointwise [k0_pay31, k0_pay32, k0_pay25, k0_pay27, k0_pay23]
  simp only [ldT_ix3, ldF_ix3]
  exact (congrArg₂ _ (congrArg₂ _ (congrArg₂ _ f0 t0) t4) (congrArg (· * HALF) (congrArg₂ _ (congrArg _ f2) t2)))

include hF hT in
/-- The right edge in a used lane. -/
theorem x2_val (r : Fin 8) (l : Fin 800) (h : 800 * r.val + l.val < 6300) :
    kernelRun0_A.sl.r_8 (F := Ideal) c arg0 harg0 arg1 harg1 x0 x1 (ix2 r l) = (cand F).x2 ⟨800 * r.val + l.val, h⟩ := by
  have e : kernelRun0_A.sl.r_8 (F := Ideal) c arg0 harg0 arg1 harg1 x0 x1 = k0_pay32 (k0_pay25 (ldT arg1 harg1 x1 0 (by omega)) (ldT arg1 harg1 x1 4 (by omega)) (ldF arg0 harg0 x0 0 (by omega))) (k0_pay27 (ldT arg1 harg1 x1 2 (by omega)) (ldF arg0 harg0 x0 2 (by omega))) := by rfl
  have f0 : x0 (ix3 ⟨0, by omega⟩ r l) = F ⟨800 * r.val + l.val, h⟩ 0 := hF r l h 0
  have f2 : x0 (ix3 ⟨2, by omega⟩ r l) = F ⟨800 * r.val + l.val, h⟩ 2 := hF r l h 2
  have t0 := hT.gx r l h
  have t2 := hT.aw r l h
  have t4 := hT.gs r l h
  rw [e]
  pointwise [k0_pay31, k0_pay32, k0_pay25, k0_pay27, k0_pay23]
  simp only [ldT_ix3, ldF_ix3]
  exact (congrArg₂ _ (congrArg₂ _ (congrArg₂ _ f0 t0) t4) (congrArg (· * HALF) (congrArg₂ _ (congrArg _ f2) t2)))

include hF hT in
/-- The top edge in a used lane. -/
theorem y1_val (r : Fin 8) (l : Fin 800) (h : 800 * r.val + l.val < 6300) :
    kernelRun0_A.sl.r_9 (F := Ideal) c arg0 harg0 arg1 harg1 x0 x1 (ix2 r l) = (cand F).y1 ⟨800 * r.val + l.val, h⟩ := by
  have e : kernelRun0_A.sl.r_9 (F := Ideal) c arg0 harg0 arg1 harg1 x0 x1 = k0_pay33 (k0_pay22 (ldT arg1 harg1 x1 3 (by omega))) (k0_pay26 (ldT arg1 harg1 x1 1 (by omega)) (ldT arg1 harg1 x1 4 (by omega)) (ldF arg0 harg0 x0 1 (by omega))) (k0_pay28 (ldF arg0 harg0 x0 3 (by omega))) := by rfl
  have f1 : x0 (ix3 ⟨1, by omega⟩ r l) = F ⟨800 * r.val + l.val, h⟩ 1 := hF r l h 1
  have f3 : x0 (ix3 ⟨3, by omega⟩ r l) = F ⟨800 * r.val + l.val, h⟩ 3 := hF r l h 3
  have t1 := hT.gy r l h
  have t3 := hT.ah r l h
  have t4 := hT.gs r l h
  rw [e]
  pointwise [k0_pay33, k0_pay34, k0_pay22, k0_pay26, k0_pay28, k0_pay29, k0_pay23]
  simp only [ldT_ix3, ldF_ix3]
  exact (congrArg₂ _ (congrArg₂ _ (congrArg₂ _ f1 t1) t4) (congrArg (· * HALF) (congrArg₂ _ (congrArg _ f3) t3)))

include hF hT in
/-- The bottom edge in a used lane. -/
theorem y2_val (r : Fin 8) (l : Fin 800) (h : 800 * r.val + l.val < 6300) :
    kernelRun0_A.sl.r_10 (F := Ideal) c arg0 harg0 arg1 harg1 x0 x1 (ix2 r l) = (cand F).y2 ⟨800 * r.val + l.val, h⟩ := by
  have e : kernelRun0_A.sl.r_10 (F := Ideal) c arg0 harg0 arg1 harg1 x0 x1 = k0_pay34 (k0_pay22 (ldT arg1 harg1 x1 3 (by omega))) (k0_pay26 (ldT arg1 harg1 x1 1 (by omega)) (ldT arg1 harg1 x1 4 (by omega)) (ldF arg0 harg0 x0 1 (by omega))) (k0_pay28 (ldF arg0 harg0 x0 3 (by omega))) := by rfl
  have f1 : x0 (ix3 ⟨1, by omega⟩ r l) = F ⟨800 * r.val + l.val, h⟩ 1 := hF r l h 1
  have f3 : x0 (ix3 ⟨3, by omega⟩ r l) = F ⟨800 * r.val + l.val, h⟩ 3 := hF r l h 3
  have t1 := hT.gy r l h
  have t3 := hT.ah r l h
  have t4 := hT.gs r l h
  rw [e]
  pointwise [k0_pay33, k0_pay34, k0_pay22, k0_pay26, k0_pay28, k0_pay29, k0_pay23]
  simp only [ldT_ix3, ldF_ix3]
  exact (congrArg₂ _ (congrArg₂ _ (congrArg₂ _ f1 t1) t4) (congrArg (· * HALF) (congrArg₂ _ (congrArg _ f3) t3)))

/-- The area from four edges, read at a lane. -/
theorem area_of (a b d e f : FVec Ideal S8x800 .f32) (r : Fin 8) (l : Fin 800) :
    k0_pay35 a b d e f (ix2 r l) = area4 (k0_pay31 b e (ix2 r l)) (k0_pay33 a d f (ix2 r l)) (k0_pay32 b e (ix2 r l)) (k0_pay34 a d f (ix2 r l)) := by
  pointwise [k0_pay35, k0_pay31, k0_pay32, k0_pay33, k0_pay34, k0_pay29]
  rfl

include hF hT in
/-- The area in a used lane. -/
theorem area_val (r : Fin 8) (l : Fin 800) (h : 800 * r.val + l.val < 6300) :
    kernelRun0_A.sl.r_11 (F := Ideal) c arg0 harg0 arg1 harg1 x0 x1 (ix2 r l) = (cand F).area ⟨800 * r.val + l.val, h⟩ := by
  have e : kernelRun0_A.sl.r_11 (F := Ideal) c arg0 harg0 arg1 harg1 x0 x1 (ix2 r l) =
      area4 (kernelRun0_A.sl.r_7 (F := Ideal) c arg0 harg0 arg1 harg1 x0 x1 (ix2 r l))
        (kernelRun0_A.sl.r_9 (F := Ideal) c arg0 harg0 arg1 harg1 x0 x1 (ix2 r l))
        (kernelRun0_A.sl.r_8 (F := Ideal) c arg0 harg0 arg1 harg1 x0 x1 (ix2 r l))
        (kernelRun0_A.sl.r_10 (F := Ideal) c arg0 harg0 arg1 harg1 x0 x1 (ix2 r l)) := area_of _ _ _ _ _ r l
  rw [e, x1_val c arg0 harg0 arg1 harg1 hF hT r l h, x2_val c arg0 harg0 arg1 harg1 hF hT r l h,
    y1_val c arg0 harg0 arg1 harg1 hF hT r l h, y2_val c arg0 harg0 arg1 harg1 hF hT r l h]
  rfl

include hF in
/-- The class, as a float, in a used lane. -/
theorem cls_val (r : Fin 8) (l : Fin 800) (h : 800 * r.val + l.val < 6300) :
    kernelRun0_A.sl.r_38 (F := Ideal) c arg0 harg0 x0 (ix2 r l) = ((((cand F).cls ⟨800 * r.val + l.val, h⟩).val : ℝ) : EReal) := by
  rw [(best_79 c arg0 harg0).idx, (best_val hF r l h).2]

include hF hT in
/-- The values the loop reads are the decoded candidates. -/
theorem lanes : Lanes (cand F) (kernelRun0_A.sl.r_7 (F := Ideal) c arg0 harg0 arg1 harg1 x0 x1)
    (kernelRun0_A.sl.r_8 (F := Ideal) c arg0 harg0 arg1 harg1 x0 x1) (kernelRun0_A.sl.r_9 (F := Ideal) c arg0 harg0 arg1 harg1 x0 x1)
    (kernelRun0_A.sl.r_10 (F := Ideal) c arg0 harg0 arg1 harg1 x0 x1) (kernelRun0_A.sl.r_11 (F := Ideal) c arg0 harg0 arg1 harg1 x0 x1)
    (kernelRun0_A.sl.r_38 (F := Ideal) c arg0 harg0 x0) where
  x1 := at_lane (x1_val c arg0 harg0 arg1 harg1 hF hT)
  x2 := at_lane (x2_val c arg0 harg0 arg1 harg1 hF hT)
  y1 := at_lane (y1_val c arg0 harg0 arg1 harg1 hF hT)
  y2 := at_lane (y2_val c arg0 harg0 arg1 harg1 hF hT)
  area := at_lane (area_val c arg0 harg0 arg1 harg1 hF hT)
  cls := at_lane (g := fun n => ((((cand F).cls n).val : ℝ) : EReal)) (cls_val c arg0 harg0 hF)

/-! ## The scores -/

variable {m : IVec S8x800 1} {B : FVec Ideal S8x800 .f32} {g : Fin 6300 → EReal}
  (hm : ∀ r l, m (ix2 r l) = if 800 * r.val + l.val < 6300 then 1#1 else 0#1)
  (hB : ∀ (r : Fin 8) (l : Fin 800) (h : 800 * r.val + l.val < 6300), B (ix2 r l) = g ⟨800 * r.val + l.val, h⟩)

/-- The word of positive infinity. -/
theorem ofBits_pinf : Ideal.ofBits .f32 0x7F800000#32 = ⊤ := by
  show Ideal.ieee 8 23 (0x7F800000#32 : BitVec 32) = (⊤ : EReal)
  unfold Ideal.ieee
  simp only []
  rw [if_pos (by decide), if_pos (by decide), if_neg (by decide)]

/-- Lane `(7, 700)` is not in use. -/
theorem pad_lane : ¬ 800 * (7 : Fin 8).val + (700 : Fin 800).val < 6300 := by decide

include hm hB in
/-- The maximum over all lanes: the largest value in use, or the stand-in of the lanes not in use. -/
theorem hi_val :
    extractAt ![0, 0, 0] (shapeCast S1x1x1 (multiReduction .maximumf [1, 2] S1
        (shapeCast S1x8x800 (select m B (broadcast S8x800 (Scalar.ofBits (F := Ideal) .f32 0xFF61B1E6#32))) shapeCasts_S8x800_S1x8x800)
        0xFF800000#32 reduces_S1x8x800_S1 (.inl rfl) rfl) shapeCasts_S1_S1x1x1) inpos_S1x1x1_p0_0_0
      = max (Finset.univ.fold max ⊥ g) BELOW := by
  pointwise
  rw [ofBits_ninf]
  refine le_antisymm (Finset.fold_max_le _ |>.mpr ⟨bot_le, fun x _ => ?_⟩) (max_le (Finset.fold_max_le _ |>.mpr ⟨bot_le, fun n _ => ?_⟩) ?_)
  · rw [hm]
    by_cases h : 800 * x.1.val + x.2.val < 6300
    · rw [if_pos h, hB _ _ h]
      exact le_max_of_le_left (Finset.le_fold_max _ |>.mpr (.inr ⟨_, Finset.mem_univ _, le_rfl⟩))
    · rw [if_neg h]
      exact le_max_right _ _
  · refine Finset.le_fold_max _ |>.mpr (.inr ⟨(⟨n.val / 800, by omega⟩, ⟨n.val % 800, by omega⟩), Finset.mem_univ _, ?_⟩)
    have h : 800 * (n.val / 800) + n.val % 800 < 6300 := by omega
    rw [hm, hB _ _ h, if_pos h]
    exact le_of_eq (congrArg g (Fin.ext (by show n.val = 800 * (n.val / 800) + n.val % 800; omega)))
  · refine Finset.le_fold_max _ |>.mpr (.inr ⟨((7 : Fin 8), (700 : Fin 800)), Finset.mem_univ _, ?_⟩)
    rw [hm, if_neg pad_lane]
    exact le_rfl

include hm hB in
/-- The minimum over all lanes: the smallest value in use, or the stand-in of the lanes not in use. -/
theorem lo_val :
    extractAt ![0, 0, 0] (shapeCast S1x1x1 (multiReduction .minimumf [1, 2] S1
        (shapeCast S1x8x800 (select m B (broadcast S8x800 (Scalar.ofBits (F := Ideal) .f32 0x7F61B1E6#32))) shapeCasts_S8x800_S1x8x800)
        0x7F800000#32 reduces_S1x8x800_S1 (.inl rfl) rfl) shapeCasts_S1_S1x1x1) inpos_S1x1x1_p0_0_0
      = min (Finset.univ.fold min ⊤ g) ABOVE := by
  pointwise
  rw [ofBits_pinf]
  refine le_antisymm (le_min (Finset.le_fold_min _ |>.mpr ⟨le_top, fun n _ => ?_⟩) ?_) (Finset.le_fold_min _ |>.mpr ⟨le_top, fun x _ => ?_⟩)
  · refine Finset.fold_min_le _ |>.mpr (.inr ⟨(⟨n.val / 800, by omega⟩, ⟨n.val % 800, by omega⟩), Finset.mem_univ _, ?_⟩)
    have h : 800 * (n.val / 800) + n.val % 800 < 6300 := by omega
    rw [hm, hB _ _ h, if_pos h]
    exact le_of_eq (congrArg g (Fin.ext (by show 800 * (n.val / 800) + n.val % 800 = n.val; omega)))
  · refine Finset.fold_min_le _ |>.mpr (.inr ⟨((7 : Fin 8), (700 : Fin 800)), Finset.mem_univ _, ?_⟩)
    rw [hm, if_neg pad_lane]
    exact le_rfl
  · rw [hm]
    by_cases h : 800 * x.1.val + x.2.val < 6300
    · rw [if_pos h, hB _ _ h]
      exact min_le_of_left_le (Finset.fold_min_le _ |>.mpr (.inr ⟨_, Finset.mem_univ _, le_rfl⟩))
    · rw [if_neg h]
      exact min_le_right _ _

include hm in
/-- The scores before the loop: confidence times the largest or the smallest of the best probabilities, by the sign of
the confidence; what is not positive, and every lane not in use, is out. -/
theorem init_val {conf : FVec Ideal S8x800 .f32} {v : FVec Ideal S1x8x800 .f32} {hi lo : EReal} {s : Fin 6300 → EReal}
    (hlo : extractAt ![0, 0, 0] (shapeCast S1x1x1 (multiReduction .minimumf [1, 2] S1 v 0x7F800000#32 reduces_S1x8x800_S1 (.inl rfl) rfl)
      shapeCasts_S1_S1x1x1) inpos_S1x1x1_p0_0_0 = lo)
    (hs : ∀ (r : Fin 8) (l : Fin 800) (h : 800 * r.val + l.val < 6300),
      s ⟨800 * r.val + l.val, h⟩ = conf (ix2 r l) * if 0 < conf (ix2 r l) then hi else lo) :
    k0_pay1 (F := Ideal) m conf hi v = extS fun n => if 0 < s n then s n else NEG := by
  funext j
  obtain ⟨r, l, rfl⟩ : ∃ r l, j = ix2 r l := ⟨j 0, j 1, eq_ix2 j⟩
  unfold k0_pay1
  simp only []
  rw [hlo]
  pointwise
  rw [extS_ix2, hm]
  by_cases h : 800 * r.val + l.val < 6300
  · rw [dif_pos h, hs r l h, if_pos h]
    by_cases hp : 0 < conf (ix2 r l) * if 0 < conf (ix2 r l) then hi else lo
    · rw [if_pos hp, decide_eq_true hp]; rfl
    · rw [if_neg hp, decide_eq_false hp]; rfl
  · rw [dif_neg h, if_neg h]
    by_cases hp : 0 < conf (ix2 r l) * if 0 < conf (ix2 r l) then hi else lo
    · rw [decide_eq_true hp]; rfl
    · rw [decide_eq_false hp]; rfl

variable (x0) in
/-- The largest class probability in every lane. -/
def bestV : FVec Ideal S8x800 .f32 := k0_pay286 (kernelRun0_A.sl.r_36 c arg0 harg0 x0) (ldF arg0 harg0 x0 80 (by omega)) (ldF arg0 harg0 x0 81 (by omega))
    (ldF arg0 harg0 x0 82 (by omega)) (ldF arg0 harg0 x0 83 (by omega)) (ldF arg0 harg0 x0 84 (by omega))

include hF in
/-- The largest class probability, as the maximum reads it. -/
theorem bestV_val (r : Fin 8) (l : Fin 800) (h : 800 * r.val + l.val < 6300) :
    bestV c arg0 harg0 x0 (ix2 r l) = pmax F ⟨800 * r.val + l.val, h⟩ :=
  ((best_79 c arg0 harg0).val r l).trans (best_val hF r l h).1

/-- The maximum over all lanes, written out. -/
theorem r39_eq : kernelRun0_A.sl.r_39 (F := Ideal) c arg0 harg0 arg1 harg1 x0 x1 =
    extractAt ![0, 0, 0] (shapeCast S1x1x1 (multiReduction .maximumf [1, 2] S1
        (shapeCast S1x8x800 (select (kernelRun0_A.sl.r_1 (F := Ideal) c arg1 harg1 x1) (bestV c arg0 harg0 x0)
          (broadcast S8x800 (Scalar.ofBits (F := Ideal) .f32 0xFF61B1E6#32))) shapeCasts_S8x800_S1x8x800)
        0xFF800000#32 reduces_S1x8x800_S1 (.inl rfl) rfl) shapeCasts_S1_S1x1x1) inpos_S1x1x1_p0_0_0 := by
  rfl

/-- The lanes the minimum is taken over. -/
theorem r40_eq : kernelRun0_A.sl.r_40 (F := Ideal) c arg0 harg0 arg1 harg1 x0 x1 =
    shapeCast S1x8x800 (select (kernelRun0_A.sl.r_1 (F := Ideal) c arg1 harg1 x1) (bestV c arg0 harg0 x0)
          (broadcast S8x800 (Scalar.ofBits (F := Ideal) .f32 0x7F61B1E6#32))) shapeCasts_S8x800_S1x8x800 := by
  rfl

include hF hT in
/-- The maximum over all lanes is the largest of the candidates' largest probabilities, or the stand-in. -/
theorem max_val : kernelRun0_A.sl.r_39 (F := Ideal) c arg0 harg0 arg1 harg1 x0 x1 = max (Finset.univ.fold max ⊥ (pmax F)) BELOW :=
  (r39_eq c arg0 harg0 arg1 harg1).trans <| hi_val (used_val c arg1 harg1 hT) (bestV_val c arg0 harg0 hF)

include hF hT in
/-- The carry the kernel's loop starts from. -/
theorem init_eq : k0_pay1 (F := Ideal) (kernelRun0_A.sl.r_1 (F := Ideal) c arg1 harg1 x1) (kernelRun0_A.sl.r_6 (F := Ideal) c arg0 harg0 x0)
    (kernelRun0_A.sl.r_39 (F := Ideal) c arg0 harg0 arg1 harg1 x0 x1) (kernelRun0_A.sl.r_40 (F := Ideal) c arg0 harg0 arg1 harg1 x0 x1) =
      extS (cand F).s0 := by
  rw [max_val c arg0 harg0 arg1 harg1 hF hT, r40_eq]
  refine (init_val (s := scoreB F) (used_val c arg1 harg1 hT) (lo_val (used_val c arg1 harg1 hT) (bestV_val c arg0 harg0 hF)) fun r l h => ?_).trans
    (congrArg extS (funext fun n => scoreB_eq F n))
  rw [conf_val c arg0 harg0 hF r l h]
  rfl

end Cert.Proof

end
-- ==== Proof.KOut.lean ====
/-
  WHAT THE KERNEL LEAVES IN ITS OUTPUTS at the extended reals: row `t` of the boxes, the scores and the classes is what
  round `t` keeps, and the last word is the number of rounds that counted.
-/
module

public import proofs.«01_k».proof.Proof.KPre
public import Idealize.ShloMosaic.Lib.WritesUnit

@[expose] public section

noncomputable section

set_option maxRecDepth 16384

namespace Cert.Proof

open Idealize.ShloMosaic Cert.KernelIdeal Cert.KernelIdeal.Gen

/-- The loop runs a hundred trips. -/
theorem trips_eq : k0_t1_loop.trips = 100 := by decide

/-- Trip `k` writes row `k` of the boxes. -/
theorem off1_eq : ∀ k : Fin k0_t1_loop.trips, k0_off1 k = ![k.val, 0] := by decide +kernel

/-- Trip `k` writes row `k` of the scores and of the classes. -/
theorem off2_eq : ∀ k : Fin k0_t1_loop.trips, k0_off2 k = ![k.val, 0] := by decide +kernel

section

variable (𝒱 : Variants) (c : Dev nD) (bd : Option 𝒱.V)
  (arg0 : Memref sig Kind.tc Space.vmem S85x8x800 EltTy.f32) (harg0 : arg0.IsWhole)
  (arg1 : Memref sig Kind.tc Space.vmem S6x8x800 EltTy.f32) (harg1 : arg1.IsWhole)
  (arg2 : Memref sig Kind.tc Space.vmem S100x4 EltTy.f32) (harg2 : arg2.IsWhole)
  (arg3 : Memref sig Kind.tc Space.vmem S100x1 EltTy.f32) (harg3 : arg3.IsWhole)
  (arg4 : Memref sig Kind.tc Space.vmem S100x1 EltTy.f32) (harg4 : arg4.IsWhole)
  (arg5 : Memref sig Kind.tc Space.vmem S1x1 EltTy.i32) (harg5 : arg5.IsWhole)
  {v34 v37 v40 v43 v50 v527 : FVec Ideal S8x800 FTy.f32} {v556 : IVec S1x4 32}
  {D : Cand} (hL : Lanes D v34 v37 v40 v43 v50 v527) (h0 : ∀ i, NEG ≤ D.s0 i) (hv : v556 = iota Kind.tc S1x4 32 [1] iota_S1x4_d1_w32)
  {κ : Kind} {sp : Space}

include hL h0 hv in
/-- One round adds its three stores. -/
theorem pieces_succ (t : ℕ) (ht : t + 1 ≤ k0_t1_loop.trips) :
    (st_k0_t1 (F := Ideal) 𝒱 c bd arg0 harg0 arg1 harg1 arg2 harg2 arg3 harg3 arg4 harg4 arg5 harg5
      v34 v37 v40 v43 v50 v527 v556 (kacc D 0) (t + 1)).2 =
      (⟨Rect.unit (k0_off1 ⟨t, ht⟩) ![1, 4] (k0_off1_inb ⟨t, ht⟩), fun j => D.outBox t (j 1)⟩ :: (st_k0_t1 (F := Ideal) 𝒱 c bd arg0 harg0 arg1 harg1 arg2 harg2 arg3 harg3 arg4 harg4 arg5 harg5
      v34 v37 v40 v43 v50 v527 v556 (kacc D 0) t).2.1,
       ⟨Rect.unit (k0_off2 ⟨t, ht⟩) ![1, 1] (k0_off2_inb ⟨t, ht⟩), fun _ => D.outScore t⟩ :: (st_k0_t1 (F := Ideal) 𝒱 c bd arg0 harg0 arg1 harg1 arg2 harg2 arg3 harg3 arg4 harg4 arg5 harg5
      v34 v37 v40 v43 v50 v527 v556 (kacc D 0) t).2.2.1,
       ⟨Rect.unit (k0_off2 ⟨t, ht⟩) ![1, 1] (k0_off2_inb ⟨t, ht⟩), fun _ => D.outClsF t⟩ :: (st_k0_t1 (F := Ideal) 𝒱 c bd arg0 harg0 arg1 harg1 arg2 harg2 arg3 harg3 arg4 harg4 arg5 harg5
      v34 v37 v40 v43 v50 v527 v556 (kacc D 0) t).2.2.2) := by
  refine (congrArg Prod.snd (st_k0_t1_succ (F := Ideal) 𝒱 c bd arg0 harg0 arg1 harg1 arg2 harg2 arg3 harg3 arg4 harg4 arg5 harg5
        v34 v37 v40 v43 v50 v527 v556 (kacc D 0) ⟨t, ht⟩)).trans ?_
  rw [st_fst _ _ _ _ _ _ _ _ _ _ _ _ _ _ _ _ hL h0 t (by omega), tripL_kacc _ _ _ _ _ _ _ _ _ _ _ _ _ _ _ _ _ hL h0 t hv]
  rfl

include hL h0 hv in
/-- After `t` rounds the first `t` rows hold what those rounds keep. -/
theorem rows_read (v2 : View sig κ sp S100x4 .f32) (f2) (v3 : View sig κ sp S100x1 .f32) (f3) (f4) (t : ℕ) (ht : t ≤ k0_t1_loop.trips)
    (r : Fin 100) (hr : r.val < t) :
    (∀ j : Fin 4, v2.read (Elt Ideal) (v2.writes (Elt Ideal) f2 (st_k0_t1 (F := Ideal) 𝒱 c bd arg0 harg0 arg1 harg1 arg2 harg2 arg3 harg3 arg4 harg4 arg5 harg5
      v34 v37 v40 v43 v50 v527 v556 (kacc D 0) t).2.1) (ix2 r j) = D.outBox r.val j)
    ∧ v3.read (Elt Ideal) (v3.writes (Elt Ideal) f3 (st_k0_t1 (F := Ideal) 𝒱 c bd arg0 harg0 arg1 harg1 arg2 harg2 arg3 harg3 arg4 harg4 arg5 harg5
      v34 v37 v40 v43 v50 v527 v556 (kacc D 0) t).2.2.1) (ix2 r 0) = D.outScore r.val
    ∧ v3.read (Elt Ideal) (v3.writes (Elt Ideal) f4 (st_k0_t1 (F := Ideal) 𝒱 c bd arg0 harg0 arg1 harg1 arg2 harg2 arg3 harg3 arg4 harg4 arg5 harg5
      v34 v37 v40 v43 v50 v527 v556 (kacc D 0) t).2.2.2) (ix2 r 0) = D.outClsF r.val := by
  induction t with
  | zero => omega
  | succ t ih =>
      rw [pieces_succ 𝒱 c bd arg0 harg0 arg1 harg1 arg2 harg2 arg3 harg3 arg4 harg4 arg5 harg5 hL h0 hv t ht]
      dsimp only
      rcases Nat.lt_or_ge r.val t with hlt | hge
      · obtain ⟨i1, i2, i3⟩ := ih (by omega) hlt
        refine ⟨fun j => ?_, ?_, ?_⟩
        · rw [View.read_writes_cons_rows_of_not_mem (W := 1) _ _ _ _ _ _ (off1_eq ⟨t, ht⟩) rfl (.inl hlt)]
          exact i1 j
        · rw [View.read_writes_cons_rows_of_not_mem (W := 1) _ _ _ _ _ _ (off2_eq ⟨t, ht⟩) rfl (.inl hlt)]
          exact i2
        · rw [View.read_writes_cons_rows_of_not_mem (W := 1) _ _ _ _ _ _ (off2_eq ⟨t, ht⟩) rfl (.inl hlt)]
          exact i3
      · have hrt : r.val = t := by omega
        refine ⟨fun j => ?_, ?_, ?_⟩
        · refine (View.read_writes_cons_rows_of_mem v2 f2 (k0_off1_inb ⟨t, ht⟩) _ _ (ix2 r j) (ix2 (0 : Fin 1) j) (off1_eq ⟨t, ht⟩) hrt rfl).trans ?_
          rw [hrt]
          rfl
        · refine (View.read_writes_cons_rows_of_mem v3 f3 (k0_off2_inb ⟨t, ht⟩) _ _ (ix2 r 0) (ix2 (0 : Fin 1) (0 : Fin 1)) (off2_eq ⟨t, ht⟩) hrt rfl).trans ?_
          rw [hrt]
        · refine (View.read_writes_cons_rows_of_mem v3 f4 (k0_off2_inb ⟨t, ht⟩) _ _ (ix2 r 0) (ix2 (0 : Fin 1) (0 : Fin 1)) (off2_eq ⟨t, ht⟩) hrt rfl).trans ?_
          rw [hrt]

end

section

variable (c : Dev nD)
  (arg0 : Memref sig Kind.tc Space.vmem S85x8x800 EltTy.f32) (harg0 : arg0.IsWhole)
  (arg1 : Memref sig Kind.tc Space.vmem S6x8x800 EltTy.f32) (harg1 : arg1.IsWhole)
  (arg2 : Memref sig Kind.tc Space.vmem S100x4 EltTy.f32) (harg2 : arg2.IsWhole)
  (arg3 : Memref sig Kind.tc Space.vmem S100x1 EltTy.f32) (harg3 : arg3.IsWhole)
  (arg4 : Memref sig Kind.tc Space.vmem S100x1 EltTy.f32) (harg4 : arg4.IsWhole)
  (arg5 : Memref sig Kind.tc Space.vmem S1x1 EltTy.i32) (harg5 : arg5.IsWhole)
  {x0 : FVec Ideal S85x8x800 .f32} {x1 : FVec Ideal S6x8x800 .f32}
  {F : Fin 6300 → Fin 85 → EReal} (hF : FeatLanes F x0) (hT : TableLanes x1)

include hF hT in
/-- What the loop starts from, before any trip. -/
theorem start_eq : ((k0_pay1 (F := Ideal) (kernelRun0_A.sl.r_1 (F := Ideal) c arg1 harg1 x1) (kernelRun0_A.sl.r_6 (F := Ideal) c arg0 harg0 x0)
    (kernelRun0_A.sl.r_39 (F := Ideal) c arg0 harg0 arg1 harg1 x0 x1) (kernelRun0_A.sl.r_40 (F := Ideal) c arg0 harg0 arg1 harg1 x0 x1),
    FloatOps.ofBits FTy.f32 0#32, FloatOps.ofBits FTy.f32 0#32, FloatOps.ofBits FTy.f32 0#32,
    FloatOps.ofBits FTy.f32 0#32, FloatOps.ofBits FTy.f32 0#32, 4294967295#32, 0#32) : Acc) = kacc (cand F) 0 := by
  rw [init_eq c arg0 harg0 arg1 harg1 hF hT]
  have h : (FloatOps.ofBits FTy.f32 0#32 : Ideal .f32) = (0 : EReal) := by
    rw [show (FloatOps.ofBits FTy.f32 0#32 : Ideal .f32) = Ideal.ofBits .f32 (natW 0) from rfl, ofBits_natW 0 (by omega)]
    simp
  rw [h]
  rfl

include hF hT in
/-- Row `r` of the kernel's boxes. -/
theorem out2_val (r : Fin 100) (j : Fin 4) :
    out0_A_2 (F := Ideal) c arg0 harg0 arg1 harg1 arg2 harg2 arg3 harg3 arg4 harg4 arg5 harg5 x0 x1 (ix2 r j) = (cand F).outBox r.val j := by
  unfold out0_A_2 kernelRun0_A
  dsimp only
  rw [start_eq c arg0 harg0 arg1 harg1 hF hT]
  exact (rows_read _ _ _ _ _ _ _ _ _ _ _ _ _ _ _ (lanes c arg0 harg0 arg1 harg1 hF hT) (le_s0 F) rfl _ _ VO0_3 VO0_3.junk VO0_3.junk _ le_rfl r
    (by exact r.isLt.trans_le trips_eq.ge)).1 j

include hF hT in
/-- Row `r` of the kernel's scores. -/
theorem out3_val (r : Fin 100) :
    out0_A_3 (F := Ideal) c arg0 harg0 arg1 harg1 arg2 harg2 arg3 harg3 arg4 harg4 arg5 harg5 x0 x1 (ix2 r 0) = (cand F).outScore r.val := by
  unfold out0_A_3 kernelRun0_A
  dsimp only
  rw [start_eq c arg0 harg0 arg1 harg1 hF hT]
  exact (rows_read _ _ _ _ _ _ _ _ _ _ _ _ _ _ _ (lanes c arg0 harg0 arg1 harg1 hF hT) (le_s0 F) rfl VO0_2 VO0_2.junk VO0_3 _ VO0_3.junk _ le_rfl r
    (by exact r.isLt.trans_le trips_eq.ge)).2.1

include hF hT in
/-- Row `r` of the kernel's classes, as it numbers them. -/
theorem out4_val (r : Fin 100) :
    out0_A_4 (F := Ideal) c arg0 harg0 arg1 harg1 arg2 harg2 arg3 harg3 arg4 harg4 arg5 harg5 x0 x1 (ix2 r 0) = (cand F).outClsF r.val := by
  unfold out0_A_4 kernelRun0_A
  dsimp only
  rw [start_eq c arg0 harg0 arg1 harg1 hF hT]
  exact (rows_read _ _ _ _ _ _ _ _ _ _ _ _ _ _ _ (lanes c arg0 harg0 arg1 harg1 hF hT) (le_s0 F) rfl VO0_2 VO0_2.junk VO0_4 VO0_4.junk _ _ le_rfl r
    (by exact r.isLt.trans_le trips_eq.ge)).2.2

include hF hT in
/-- The kernel's count. -/
theorem out5_val :
    out0_A_5 (F := Ideal) c arg0 harg0 arg1 harg1 arg2 harg2 arg3 harg3 arg4 harg4 arg5 harg5 x0 x1 (ix2 0 0) = (cand F).nv 100 := by
  unfold out0_A_5 kernelRun0_A
  dsimp only
  rw [start_eq c arg0 harg0 arg1 harg1 hF hT]
  rw [show Scf.trips 0#32 (Scalar.addi 0#32 100#32) 1#32 = 100 from trips_eq,
    st_fst _ _ _ _ _ _ _ _ _ _ _ _ _ _ _ _ (lanes c arg0 harg0 arg1 harg1 hF hT) (le_s0 F) 100 trips_eq.ge]
  exact (View.read_writes_cons_rows_of_mem VO0_5 VO0_5.junk inb_S1x1_S1x1_0_0 _ _ (ix2 0 0) (ix2 (0 : Fin 1) (0 : Fin 1)) (o := 0) rfl rfl rfl).trans rfl

end

end Cert.Proof

end
-- ==== Proof.KTab.lean ====
/-
  THE KERNEL'S CONSTANT TABLE, entry by entry: six planes of 8 × 800 words. Planes 0 and 1 are the cell's column and row,
  2 and 3 the anchor box, 4 the side length of the grid; plane 5 marks the lanes that hold a candidate.
-/
module

public import proofs.«01_k».proof.Proof.Dec
public import proofs.«01_k».proof.KernelIdeal

@[expose] public section

noncomputable section

set_option maxRecDepth 16384

namespace Cert.Proof

open Idealize.ShloMosaic Cert.KernelIdeal

theorem tab_gx_0 : ∀ l : Fin 800, lit0t (0 + l.val) = natW (gxN (0 + l.val)) := by decide +kernel
theorem tab_gx_1 : ∀ l : Fin 800, lit0t (800 + l.val) = natW (gxN (800 + l.val)) := by decide +kernel
theorem tab_gx_2 : ∀ l : Fin 800, lit0t (1600 + l.val) = natW (gxN (1600 + l.val)) := by decide +kernel
theorem tab_gx_3 : ∀ l : Fin 800, lit0t (2400 + l.val) = natW (gxN (2400 + l.val)) := by decide +kernel
theorem tab_gx_4 : ∀ l : Fin 800, lit0t (3200 + l.val) = natW (gxN (3200 + l.val)) := by decide +kernel
theorem tab_gx_5 : ∀ l : Fin 800, lit0t (4000 + l.val) = natW (gxN (4000 + l.val)) := by decide +kernel
theorem tab_gx_6 : ∀ l : Fin 800, lit0t (4800 + l.val) = natW (gxN (4800 + l.val)) := by decide +kernel
theorem tab_gx_7 : ∀ l : Fin 700, lit0t (5600 + l.val) = natW (gxN (5600 + l.val)) := by decide +kernel

/-- Plane 0 of the table. -/
theorem tab_gx (r : Fin 8) (l : Fin 800) (h : 800 * r.val + l.val < 6300) : lit0t (0 + (800 * r.val + l.val)) = natW (gxN (800 * r.val + l.val)) := by
  rw [← Nat.add_assoc]
  match r with
  | ⟨0, _⟩ => exact tab_gx_0 l
  | ⟨1, _⟩ => exact tab_gx_1 l
  | ⟨2, _⟩ => exact tab_gx_2 l
  | ⟨3, _⟩ => exact tab_gx_3 l
  | ⟨4, _⟩ => exact tab_gx_4 l
  | ⟨5, _⟩ => exact tab_gx_5 l
  | ⟨6, _⟩ => exact tab_gx_6 l
  | ⟨7, _⟩ => exact tab_gx_7 ⟨l.val, by dsimp only at h; omega⟩

theorem tab_gy_0 : ∀ l : Fin 800, lit0t (6400 + l.val) = natW (gyN (0 + l.val)) := by decide +kernel
theorem tab_gy_1 : ∀ l : Fin 800, lit0t (7200 + l.val) = natW (gyN (800 + l.val)) := by decide +kernel
theorem tab_gy_2 : ∀ l : Fin 800, lit0t (8000 + l.val) = natW (gyN (1600 + l.val)) := by decide +kernel
theorem tab_gy_3 : ∀ l : Fin 800, lit0t (8800 + l.val) = natW (gyN (2400 + l.val)) := by decide +kernel
theorem tab_gy_4 : ∀ l : Fin 800, lit0t (9600 + l.val) = natW (gyN (3200 + l.val)) := by decide +kernel
theorem tab_gy_5 : ∀ l : Fin 800, lit0t (10400 + l.val) = natW (gyN (4000 + l.val)) := by decide +kernel
theorem tab_gy_6 : ∀ l : Fin 800, lit0t (11200 + l.val) = natW (gyN (4800 + l.val)) := by decide +kernel
theorem tab_gy_7 : ∀ l : Fin 700, lit0t (12000 + l.val) = natW (gyN (5600 + l.val)) := by decide +kernel

/-- Plane 1 of the table. -/
theorem tab_gy (r : Fin 8) (l : Fin 800) (h : 800 * r.val + l.val < 6300) : lit0t (6400 + (800 * r.val + l.val)) = natW (gyN (800 * r.val + l.val)) := by
  rw [← Nat.add_assoc]
  match r with
  | ⟨0, _⟩ => exact tab_gy_0 l
  | ⟨1, _⟩ => exact tab_gy_1 l
  | ⟨2, _⟩ => exact tab_gy_2 l
  | ⟨3, _⟩ => exact tab_gy_3 l
  | ⟨4, _⟩ => exact tab_gy_4 l
  | ⟨5, _⟩ => exact tab_gy_5 l
  | ⟨6, _⟩ => exact tab_gy_6 l
  | ⟨7, _⟩ => exact tab_gy_7 ⟨l.val, by dsimp only at h; omega⟩

theorem tab_aw_0 : ∀ l : Fin 800, lit0t (12800 + l.val) = awW (0 + l.val) := by decide +kernel
theorem tab_aw_1 : ∀ l : Fin 800, lit0t (13600 + l.val) = awW (800 + l.val) := by decide +kernel
theorem tab_aw_2 : ∀ l : Fin 800, lit0t (14400 + l.val) = awW (1600 + l.val) := by decide +kernel
theorem tab_aw_3 : ∀ l : Fin 800, lit0t (15200 + l.val) = awW (2400 + l.val) := by decide +kernel
theorem tab_aw_4 : ∀ l : Fin 800, lit0t (16000 + l.val) = awW (3200 + l.val) := by decide +kernel
theorem tab_aw_5 : ∀ l : Fin 800, lit0t (16800 + l.val) = awW (4000 + l.val) := by decide +kernel
theorem tab_aw_6 : ∀ l : Fin 800, lit0t (17600 + l.val) = awW (4800 + l.val) := by decide +kernel
theorem tab_aw_7 : ∀ l : Fin 700, lit0t (18400 + l.val) = awW (5600 + l.val) := by decide +kernel

/-- Plane 2 of the table. -/
theorem tab_aw (r : Fin 8) (l : Fin 800) (h : 800 * r.val + l.val < 6300) : lit0t (12800 + (800 * r.val + l.val)) = awW (800 * r.val + l.val) := by
  rw [← Nat.add_assoc]
  match r with
  | ⟨0, _⟩ => exact tab_aw_0 l
  | ⟨1, _⟩ => exact tab_aw_1 l
  | ⟨2, _⟩ => exact tab_aw_2 l
  | ⟨3, _⟩ => exact tab_aw_3 l
  | ⟨4, _⟩ => exact tab_aw_4 l
  | ⟨5, _⟩ => exact tab_aw_5 l
  | ⟨6, _⟩ => exact tab_aw_6 l
  | ⟨7, _⟩ => exact tab_aw_7 ⟨l.val, by dsimp only at h; omega⟩

theorem tab_ah_0 : ∀ l : Fin 800, lit0t (19200 + l.val) = ahW (0 + l.val) := by decide +kernel
theorem tab_ah_1 : ∀ l : Fin 800, lit0t (20000 + l.val) = ahW (800 + l.val) := by decide +kernel
theorem tab_ah_2 : ∀ l : Fin 800, lit0t (20800 + l.val) = ahW (1600 + l.val) := by decide +kernel
theorem tab_ah_3 : ∀ l : Fin 800, lit0t (21600 + l.val) = ahW (2400 + l.val) := by decide +kernel
theorem tab_ah_4 : ∀ l : Fin 800, lit0t (22400 + l.val) = ahW (3200 + l.val) := by decide +kernel
theorem tab_ah_5 : ∀ l : Fin 800, lit0t (23200 + l.val) = ahW (4000 + l.val) := by decide +kernel
theorem tab_ah_6 : ∀ l : Fin 800, lit0t (24000 + l.val) = ahW (4800 + l.val) := by decide +kernel
theorem tab_ah_7 : ∀ l : Fin 700, lit0t (24800 + l.val) = ahW (5600 + l.val) := by decide +kernel

/-- Plane 3 of the table. -/
theorem tab_ah (r : Fin 8) (l : Fin 800) (h : 800 * r.val + l.val < 6300) : lit0t (19200 + (800 * r.val + l.val)) = ahW (800 * r.val + l.val) := by
  rw [← Nat.add_assoc]
  match r with
  | ⟨0, _⟩ => exact tab_ah_0 l
  | ⟨1, _⟩ => exact tab_ah_1 l
  | ⟨2, _⟩ => exact tab_ah_2 l
  | ⟨3, _⟩ => exact tab_ah_3 l
  | ⟨4, _⟩ => exact tab_ah_4 l
  | ⟨5, _⟩ => exact tab_ah_5 l
  | ⟨6, _⟩ => exact tab_ah_6 l
  | ⟨7, _⟩ => exact tab_ah_7 ⟨l.val, by dsimp only at h; omega⟩

theorem tab_gs_0 : ∀ l : Fin 800, lit0t (25600 + l.val) = natW (gsN (0 + l.val)) := by decide +kernel
theorem tab_gs_1 : ∀ l : Fin 800, lit0t (26400 + l.val) = natW (gsN (800 + l.val)) := by decide +kernel
theorem tab_gs_2 : ∀ l : Fin 800, lit0t (27200 + l.val) = natW (gsN (1600 + l.val)) := by decide +kernel
theorem tab_gs_3 : ∀ l : Fin 800, lit0t (28000 + l.val) = natW (gsN (2400 + l.val)) := by decide +kernel
theorem tab_gs_4 : ∀ l : Fin 800, lit0t (28800 + l.val) = natW (gsN (3200 + l.val)) := by decide +kernel
theorem tab_gs_5 : ∀ l : Fin 800, lit0t (29600 + l.val) = natW (gsN (4000 + l.val)) := by decide +kernel
theorem tab_gs_6 : ∀ l : Fin 800, lit0t (30400 + l.val) = natW (gsN (4800 + l.val)) := by decide +kernel
theorem tab_gs_7 : ∀ l : Fin 700, lit0t (31200 + l.val) = natW (gsN (5600 + l.val)) := by decide +kernel

/-- Plane 4 of the table. -/
theorem tab_gs (r : Fin 8) (l : Fin 800) (h : 800 * r.val + l.val < 6300) : lit0t (25600 + (800 * r.val + l.val)) = natW (gsN (800 * r.val + l.val)) := by
  rw [← Nat.add_assoc]
  match r with
  | ⟨0, _⟩ => exact tab_gs_0 l
  | ⟨1, _⟩ => exact tab_gs_1 l
  | ⟨2, _⟩ => exact tab_gs_2 l
  | ⟨3, _⟩ => exact tab_gs_3 l
  | ⟨4, _⟩ => exact tab_gs_4 l
  | ⟨5, _⟩ => exact tab_gs_5 l
  | ⟨6, _⟩ => exact tab_gs_6 l
  | ⟨7, _⟩ => exact tab_gs_7 ⟨l.val, by dsimp only at h; omega⟩

theorem tab_used_0 : ∀ l : Fin 800, lit0t (32000 + l.val) = (if 0 + l.val < 6300 then 0x3F800000#32 else 0#32) := by decide +kernel
theorem tab_used_1 : ∀ l : Fin 800, lit0t (32800 + l.val) = (if 800 + l.val < 6300 then 0x3F800000#32 else 0#32) := by decide +kernel
theorem tab_used_2 : ∀ l : Fin 800, lit0t (33600 + l.val) = (if 1600 + l.val < 6300 then 0x3F800000#32 else 0#32) := by decide +kernel
theorem tab_used_3 : ∀ l : Fin 800, lit0t (34400 + l.val) = (if 2400 + l.val < 6300 then 0x3F800000#32 else 0#32) := by decide +kernel
theorem tab_used_4 : ∀ l : Fin 800, lit0t (35200 + l.val) = (if 3200 + l.val < 6300 then 0x3F800000#32 else 0#32) := by decide +kernel
theorem tab_used_5 : ∀ l : Fin 800, lit0t (36000 + l.val) = (if 4000 + l.val < 6300 then 0x3F800000#32 else 0#32) := by decide +kernel
theorem tab_used_6 : ∀ l : Fin 800, lit0t (36800 + l.val) = (if 4800 + l.val < 6300 then 0x3F800000#32 else 0#32) := by decide +kernel
theorem tab_used_7 : ∀ l : Fin 800, lit0t (37600 + l.val) = (if 5600 + l.val < 6300 then 0x3F800000#32 else 0#32) := by decide +kernel

/-- Plane 5 of the table. -/
theorem tab_used (r : Fin 8) (l : Fin 800) : lit0t (32000 + (800 * r.val + l.val)) = (if 800 * r.val + l.val < 6300 then 0x3F800000#32 else 0#32) := by
  rw [← Nat.add_assoc]
  match r with
  | ⟨0, _⟩ => exact tab_used_0 l
  | ⟨1, _⟩ => exact tab_used_1 l
  | ⟨2, _⟩ => exact tab_used_2 l
  | ⟨3, _⟩ => exact tab_used_3 l
  | ⟨4, _⟩ => exact tab_used_4 l
  | ⟨5, _⟩ => exact tab_used_5 l
  | ⟨6, _⟩ => exact tab_used_6 l
  | ⟨7, _⟩ => exact tab_used_7 l

end Cert.Proof

end
-- ==== Proof.KRun.lean ====
/-
  THE KERNEL'S PROGRAM at the extended reals, run: from the three grids to its four results.
-/
module

public import proofs.«01_k».proof.Proof.KOut
public import proofs.«01_k».proof.Proof.KTab
public import Idealize.ShloMosaic.Lib.Pipeline.ValueKit
public import Idealize.ShloMosaic.Lib.StableHlo.ReadAt
public import Idealize.ShloMosaic.Lib.KernelVsHost
public import Idealize.ShloMosaic.Lib.IdealHost

@[expose] public section

noncomputable section

set_option maxRecDepth 16384

namespace Cert.Proof

open Idealize.ShloMosaic Idealize.ShloMosaic.TcCoe Cert.KernelIdeal Cert.KernelIdeal.Gen
open Idealize.SL.Sem
open Idealize.ShloMosaic.Pipeline (Dat Cfg Window)

variable (m : (ℓ : Loc nD τ sig) → Buf (Elt Ideal) ℓ) (ρ : Dev nD → PrngReg)

/-! ## The blocks are the whole arrays -/

/-- Window 0's one block is its whole array. -/
theorem emb_0 (y : S85x8x800.Idx) : (win0_0.blk t0_0).view.emb y = y := by
  funext a
  refine Fin.ext ?_
  show win0_0.index t0_0 a * win0_0.size a + 1 * (y a).val = (y a).val
  rw [show win0_0.index t0_0 a * win0_0.size a = 0 from (by decide +kernel : ∀ a, win0_0.index t0_0 a * win0_0.size a = 0) a]
  omega

/-- Window 1's one block is its whole array. -/
theorem emb_1 (y : S6x8x800.Idx) : (win0_1.blk t0_0).view.emb y = y := by
  funext a
  refine Fin.ext ?_
  show win0_1.index t0_0 a * win0_1.size a + 1 * (y a).val = (y a).val
  rw [show win0_1.index t0_0 a * win0_1.size a = 0 from (by decide +kernel : ∀ a, win0_1.index t0_0 a * win0_1.size a = 0) a]
  omega

/-- Window 2's one block is its whole array. -/
theorem emb_2 (y : S100x4.Idx) : (win0_2.blk t0_0).view.emb y = y := by
  funext a
  refine Fin.ext ?_
  show win0_2.index t0_0 a * win0_2.size a + 1 * (y a).val = (y a).val
  rw [show win0_2.index t0_0 a * win0_2.size a = 0 from (by decide +kernel : ∀ a, win0_2.index t0_0 a * win0_2.size a = 0) a]
  omega

/-- Window 3's one block is its whole array. -/
theorem emb_3 (y : S100x1.Idx) : (win0_3.blk t0_0).view.emb y = y := by
  funext a
  refine Fin.ext ?_
  show win0_3.index t0_0 a * win0_3.size a + 1 * (y a).val = (y a).val
  rw [show win0_3.index t0_0 a * win0_3.size a = 0 from (by decide +kernel : ∀ a, win0_3.index t0_0 a * win0_3.size a = 0) a]
  omega

/-- Window 4's one block is its whole array. -/
theorem emb_4 (y : S100x1.Idx) : (win0_4.blk t0_0).view.emb y = y := by
  funext a
  refine Fin.ext ?_
  show win0_4.index t0_0 a * win0_4.size a + 1 * (y a).val = (y a).val
  rw [show win0_4.index t0_0 a * win0_4.size a = 0 from (by decide +kernel : ∀ a, win0_4.index t0_0 a * win0_4.size a = 0) a]
  omega

/-- Window 5's one block is its whole array. -/
theorem emb_5 (y : S1x1.Idx) : (win0_5.blk t0_0).view.emb y = y := by
  funext a
  refine Fin.ext ?_
  show win0_5.index t0_0 a * win0_5.size a + 1 * (y a).val = (y a).val
  rw [show win0_5.index t0_0 a * win0_5.size a = 0 from (by decide +kernel : ∀ a, win0_5.index t0_0 a * win0_5.size a = 0) a]
  omega

/-- The features' block holds the array of features. -/
theorem iblk_0 (c : Dev nD) (t : Fin cfg0.N) : iblk m c 0 t = V m c main_v6 := by
  funext y
  rw [show t = t0_0 from fin_N0 t]
  show V m c main_v6 ((win0_0.blk t0_0).view.emb y) = V m c main_v6 y
  rw [emb_0]

/-- The table's block holds the table. -/
theorem iblk_1 (c : Dev nD) (t : Fin cfg0.N) : iblk m c 1 t = V m c main_cst := by
  funext y
  rw [show t = t0_0 from fin_N0 t]
  show V m c main_cst ((win0_1.blk t0_0).view.emb y) = V m c main_cst y
  rw [emb_1]

/-- What output 0 ends holding: what the body leaves in its block. -/
theorem arrAt_2 (c : Dev nD) : (dats m 0 c).arrAt 2 cfg0.N = (outsAt0 m c t0_0).1 := by
  refine (dats m 0 c).arrAt_eq_of_cover 2 (outsAt0 m c t0_0).1 (fun t _ => ?_) fun i => ⟨t0_0, flush0_2 _, ?_⟩
  · rw [show t = t0_0 from fin_N0 t]
    show (cfg0.win 2).cut (grid0.coords t0_0) ((dats m 0 c).after 2 t0_0) = _
    rw [after0_2]
    funext y
    show (outsAt0 m c t0_0).1 _ = (outsAt0 m c t0_0).1 ((win0_2.blk t0_0).view.emb y)
    rw [emb_2]
  · show i ∈ ((View.whole main_v7_0).slice (win0_2.rect t0_0)).set
    rw [View.set_slice_whole, Rect.mem_set_unit]
    have e : ∀ a, win0_2.index t0_0 a * win0_2.size a = 0 ∧ win0_2.xsize (grid0.coords t0_0) a = S100x4.size a := by
      decide +kernel
    intro a
    show win0_2.index t0_0 a * win0_2.size a ≤ (i a : Nat) ∧ (i a : Nat) < win0_2.index t0_0 a * win0_2.size a + win0_2.xsize (grid0.coords t0_0) a
    rw [(e a).1, (e a).2, Nat.zero_add]
    exact ⟨Nat.zero_le _, (i a).isLt⟩

/-- What output 1 ends holding: what the body leaves in its block. -/
theorem arrAt_3 (c : Dev nD) : (dats m 0 c).arrAt 3 cfg0.N = (outsAt0 m c t0_0).2.1 := by
  refine (dats m 0 c).arrAt_eq_of_cover 3 (outsAt0 m c t0_0).2.1 (fun t _ => ?_) fun i => ⟨t0_0, flush0_3 _, ?_⟩
  · rw [show t = t0_0 from fin_N0 t]
    show (cfg0.win 3).cut (grid0.coords t0_0) ((dats m 0 c).after 3 t0_0) = _
    rw [after0_3]
    funext y
    show (outsAt0 m c t0_0).2.1 _ = (outsAt0 m c t0_0).2.1 ((win0_3.blk t0_0).view.emb y)
    rw [emb_3]
  · show i ∈ ((View.whole main_v7_1).slice (win0_3.rect t0_0)).set
    rw [View.set_slice_whole, Rect.mem_set_unit]
    have e : ∀ a, win0_3.index t0_0 a * win0_3.size a = 0 ∧ win0_3.xsize (grid0.coords t0_0) a = S100x1.size a := by
      decide +kernel
    intro a
    show win0_3.index t0_0 a * win0_3.size a ≤ (i a : Nat) ∧ (i a : Nat) < win0_3.index t0_0 a * win0_3.size a + win0_3.xsize (grid0.coords t0_0) a
    rw [(e a).1, (e a).2, Nat.zero_add]
    exact ⟨Nat.zero_le _, (i a).isLt⟩

/-- What output 2 ends holding: what the body leaves in its block. -/
theorem arrAt_4 (c : Dev nD) : (dats m 0 c).arrAt 4 cfg0.N = (outsAt0 m c t0_0).2.2.1 := by
  refine (dats m 0 c).arrAt_eq_of_cover 4 (outsAt0 m c t0_0).2.2.1 (fun t _ => ?_) fun i => ⟨t0_0, flush0_4 _, ?_⟩
  · rw [show t = t0_0 from fin_N0 t]
    show (cfg0.win 4).cut (grid0.coords t0_0) ((dats m 0 c).after 4 t0_0) = _
    rw [after0_4]
    funext y
    show (outsAt0 m c t0_0).2.2.1 _ = (outsAt0 m c t0_0).2.2.1 ((win0_4.blk t0_0).view.emb y)
    rw [emb_4]
  · show i ∈ ((View.whole main_v7_2).slice (win0_4.rect t0_0)).set
    rw [View.set_slice_whole, Rect.mem_set_unit]
    have e : ∀ a, win0_4.index t0_0 a * win0_4.size a = 0 ∧ win0_4.xsize (grid0.coords t0_0) a = S100x1.size a := by
      decide +kernel
    intro a
    show win0_4.index t0_0 a * win0_4.size a ≤ (i a : Nat) ∧ (i a : Nat) < win0_4.index t0_0 a * win0_4.size a + win0_4.xsize (grid0.coords t0_0) a
    rw [(e a).1, (e a).2, Nat.zero_add]
    exact ⟨Nat.zero_le _, (i a).isLt⟩

/-- What output 3 ends holding: what the body leaves in its block. -/
theorem arrAt_5 (c : Dev nD) : (dats m 0 c).arrAt 5 cfg0.N = (outsAt0 m c t0_0).2.2.2 := by
  refine (dats m 0 c).arrAt_eq_of_cover 5 (outsAt0 m c t0_0).2.2.2 (fun t _ => ?_) fun i => ⟨t0_0, flush0_5 _, ?_⟩
  · rw [show t = t0_0 from fin_N0 t]
    show (cfg0.win 5).cut (grid0.coords t0_0) ((dats m 0 c).after 5 t0_0) = _
    rw [after0_5]
    funext y
    show (outsAt0 m c t0_0).2.2.2 _ = (outsAt0 m c t0_0).2.2.2 ((win0_5.blk t0_0).view.emb y)
    rw [emb_5]
  · show i ∈ ((View.whole main_v7_3).slice (win0_5.rect t0_0)).set
    rw [View.set_slice_whole, Rect.mem_set_unit]
    have e : ∀ a, win0_5.index t0_0 a * win0_5.size a = 0 ∧ win0_5.xsize (grid0.coords t0_0) a = S1x1.size a := by
      decide +kernel
    intro a
    show win0_5.index t0_0 a * win0_5.size a ≤ (i a : Nat) ∧ (i a : Nat) < win0_5.index t0_0 a * win0_5.size a + win0_5.xsize (grid0.coords t0_0) a
    rw [(e a).1, (e a).2, Nat.zero_add]
    exact ⟨Nat.zero_le _, (i a).isLt⟩

/-! ## The host lines before the kernel -/

/-- The table before the kernel is its literal. -/
theorem V_cst (c : Dev nD) : V m c main_cst = fun i => Ideal.ofBits .f32 (lit0 (S6x8x800.rowMajor i)) := by
  show StableHlo.after (List.flatten [hostOps0, hostOps0_1, hostOps0_2]) (fun b => m (c, b)) (Proc.devRef .tc main_cst) = _
  after_reads_simp
  rfl

/-- The three grids' rows one after the other. -/
def rows (a0 : S1x10x10x3x85.Idx → EReal) (a1 : S1x20x20x3x85.Idx → EReal) (a2 : S1x40x40x3x85.Idx → EReal) :
    S6300x85.Idx → EReal :=
  concatenate S6300x85 0 [⟨S300x85, shapeCast S300x85 a0 shapeCasts_S1x10x10x3x85_S300x85⟩, ⟨S1200x85, shapeCast S1200x85 a1 shapeCasts_S1x20x20x3x85_S1200x85⟩, ⟨S4800x85, shapeCast S4800x85 a2 shapeCasts_S1x40x40x3x85_S4800x85⟩] concatenates_S300x85_S1200x85_S4800x85_S6300x85_d0

/-- Row `n` of the joined grids holds candidate `n`'s features. -/
theorem rows_apply (a0 : S1x10x10x3x85.Idx → EReal) (a1 : S1x20x20x3x85.Idx → EReal) (a2 : S1x40x40x3x85.Idx → EReal)
    (n : Fin 6300) (k : Fin 85) : rows a0 a1 a2 (ix2 n k) = feat a0 a1 a2 n k := by
  unfold rows feat
  have hn := n.isLt
  have hk := k.isLt
  split
  · next h =>
    refine (concatenate_apply_piece 0 _ _ (ix2 n k) 0 (by exact (by decide : 0 < 3)) S300x85 (shapeCast S300x85 a0 shapeCasts_S1x10x10x3x85_S300x85) rfl rfl 0 rfl (ix2 ⟨n.val, h⟩ k) ?_ ?_).trans ?_
    · intro b hb
      match b with
      | ⟨0, _⟩ => exact absurd rfl hb
      | ⟨1, _⟩ => rfl
    · exact Nat.zero_add _
    · refine shapeCast_apply _ _ _ _ ?_
      rw [Shape.rowMajor_val_five, Shape.rowMajor_val_two]
      show ((((0 * 10 + n.val / 3 / 10) * 10 + n.val / 3 % 10) * 3 + n.val % 3) * 85 + k.val) = n.val * 85 + k.val
      omega
  · split
    · next h0 h =>
      refine (concatenate_apply_piece 0 _ _ (ix2 n k) 1 (by exact (by decide : 1 < 3)) S1200x85 (shapeCast S1200x85 a1 shapeCasts_S1x20x20x3x85_S1200x85) rfl rfl 300 rfl (ix2 (⟨n.val - 300, by omega⟩ : Fin 1200) k) ?_ ?_).trans ?_
      · intro b hb
        match b with
        | ⟨0, _⟩ => exact absurd rfl hb
        | ⟨1, _⟩ => rfl
      · show 300 + (n.val - 300) = n.val
        omega
      · refine shapeCast_apply _ _ _ _ ?_
        rw [Shape.rowMajor_val_five, Shape.rowMajor_val_two]
        show ((((0 * 20 + (n.val - 300) / 3 / 20) * 20 + (n.val - 300) / 3 % 20) * 3 + (n.val - 300) % 3) * 85 + k.val) = (n.val - 300) * 85 + k.val
        omega
    · next h0 h =>
      refine (concatenate_apply_piece 0 _ _ (ix2 n k) 2 (by exact (by decide : 2 < 3)) S4800x85 (shapeCast S4800x85 a2 shapeCasts_S1x40x40x3x85_S4800x85) rfl rfl 1500 rfl (ix2 (⟨n.val - 1500, by omega⟩ : Fin 4800) k) ?_ ?_).trans ?_
      · intro b hb
        match b with
        | ⟨0, _⟩ => exact absurd rfl hb
        | ⟨1, _⟩ => rfl
      · show 1500 + (n.val - 1500) = n.val
        omega
      · refine shapeCast_apply _ _ _ _ ?_
        rw [Shape.rowMajor_val_five, Shape.rowMajor_val_two]
        show ((((0 * 40 + (n.val - 1500) / 3 / 40) * 40 + (n.val - 1500) / 3 % 40) * 3 + (n.val - 1500) % 3) * 85 + k.val) = (n.val - 1500) * 85 + k.val
        omega

/-- The feature array before the kernel, from the arguments. -/
theorem V_v6 (c : Dev nD) : V m c main_v6 = shapeCast S85x8x800 (transpose S85x6400 [1, 0] (pad S6400x85 ![0, 0] ![100, 0] ![0, 0]
      (rows (m (c.tc.loc main_arg0)) (m (c.tc.loc main_arg1)) (m (c.tc.loc main_arg2)))
      (sitofp (F := Ideal) .f32 (constantI S_ 32 0#32)) pads_S6300x85_S6400x85_01000_000 h_S_) transposes_S6400x85_S85x6400_1_0) shapeCasts_S85x6400_S85x8x800 := by
  show StableHlo.after (List.flatten [hostOps0, hostOps0_1, hostOps0_2]) (fun b => m (c, b)) (Proc.devRef .tc main_v6) = _
  after_reads_simp
  rfl

/-- The input lanes hold the features. -/
theorem featLanes (c : Dev nD) :
    FeatLanes (feat (m (c.tc.loc main_arg0)) (m (c.tc.loc main_arg1)) (m (c.tc.loc main_arg2))) (V m c main_v6) := by
  intro r l h k
  rw [V_v6]
  have hr := r.isLt
  have hl := l.isLt
  refine (shapeCast_apply _ _ _ (ix2 k ⟨800 * r.val + l.val, by omega⟩ : S85x6400.Idx) ?_).trans ?_
  · rw [Shape.rowMajor_val_three, Shape.rowMajor_val_two]
    show k.val * 6400 + (800 * r.val + l.val) = (k.val * 8 + r.val) * 800 + l.val
    omega
  refine (transpose_apply _ _ _ _ (ix2 ⟨800 * r.val + l.val, by omega⟩ k : S6400x85.Idx) ?_).trans ?_
  · intro b
    match b with
    | ⟨0, _⟩ => rfl
    | ⟨1, _⟩ => rfl
  rw [← rows_apply]
  refine pad_apply_of_inside _ _ _ _ _ _ _ _ _ fun a => ?_
  match a with
  | ⟨0, _⟩ => exact (show 800 * r.val + l.val = 0 + (800 * r.val + l.val) * (0 + 1) by omega)
  | ⟨1, _⟩ => exact (show k.val = 0 + k.val * (0 + 1) by omega)

/-- The constant table's lanes. -/
theorem tableLanes (c : Dev nD) : TableLanes (V m c main_cst) := by
  have e : ∀ (k : Fin 6) (r : Fin 8) (l : Fin 800), V m c main_cst (ix3 k r l) = Ideal.ofBits .f32 (lit0t (6400 * k.val + (800 * r.val + l.val))) := by
    intro k r l
    rw [V_cst]
    refine congrArg (fun n => Ideal.ofBits .f32 (lit0t n)) ?_
    refine (Shape.rowMajor_val_three _).trans ?_
    show (k.val * 8 + r.val) * 800 + l.val = _
    omega
  have hb : ∀ r : Fin 8, ∀ l : Fin 800, gxN (800 * r.val + l.val) < 128 ∧ gyN (800 * r.val + l.val) < 128 ∧ gsN (800 * r.val + l.val) < 128 := by
    intro r l
    have hr := r.isLt
    have hl := l.isLt
    unfold gxN gyN gsN locN
    split
    · omega
    · split <;> omega
  refine ⟨fun r l h => ?_, fun r l h => ?_, fun r l h => ?_, fun r l h => ?_, fun r l h => ?_, fun r l => ?_⟩
  · exact (e 0 r l).trans ((congrArg (Ideal.ofBits .f32) (tab_gx r l h)).trans (ofBits_natW _ (hb r l).1))
  · exact (e 1 r l).trans ((congrArg (Ideal.ofBits .f32) (tab_gy r l h)).trans (ofBits_natW _ (hb r l).2.1))
  · exact (e 2 r l).trans (congrArg (Ideal.ofBits .f32) (tab_aw r l h))
  · exact (e 3 r l).trans (congrArg (Ideal.ofBits .f32) (tab_ah r l h))
  · exact (e 4 r l).trans ((congrArg (Ideal.ofBits .f32) (tab_gs r l h)).trans (ofBits_natW _ (hb r l).2.2))
  · refine (e 5 r l).trans ((congrArg (Ideal.ofBits .f32) (tab_used r l)).trans ?_)
    split
    · exact Ideal.ofBits_one_f32
    · exact Ideal.ofBits_zero .f32

/-! ## The kernel's run -/

/-- What device `c`'s inputs decode to. -/
abbrev kcand (c : Dev nD) : Cand :=
  cand (feat (m (c.tc.loc main_arg0)) (m (c.tc.loc main_arg1)) (m (c.tc.loc main_arg2)))

/-- Row `r` of the boxes the kernel leaves. -/
theorem arr2_val (c : Dev nD) (r : Fin 100) (j : Fin 4) : (dats m 0 c).arrAt 2 cfg0.N (ix2 r j) = (kcand m c).outBox r.val j := by
  rw [arrAt_2]
  unfold outsAt0
  dsimp only
  rw [iblk_0, iblk_1]
  exact out2_val c _ _ _ _ _ _ _ _ _ _ _ _ (featLanes m c) (tableLanes m c) r j

/-- Row `r` of the scores the kernel leaves. -/
theorem arr3_val (c : Dev nD) (r : Fin 100) : (dats m 0 c).arrAt 3 cfg0.N (ix2 r 0) = (kcand m c).outScore r.val := by
  rw [arrAt_3]
  unfold outsAt0
  dsimp only
  rw [iblk_0, iblk_1]
  exact out3_val c _ _ _ _ _ _ _ _ _ _ _ _ (featLanes m c) (tableLanes m c) r

/-- Row `r` of the classes the kernel leaves, as floats. -/
theorem arr4_val (c : Dev nD) (r : Fin 100) : (dats m 0 c).arrAt 4 cfg0.N (ix2 r 0) = (kcand m c).outClsF r.val := by
  rw [arrAt_4]
  unfold outsAt0
  dsimp only
  rw [iblk_0, iblk_1]
  exact out4_val c _ _ _ _ _ _ _ _ _ _ _ _ (featLanes m c) (tableLanes m c) r

/-- The count the kernel leaves. -/
theorem arr5_val (c : Dev nD) : (dats m 0 c).arrAt 5 cfg0.N (ix2 0 0) = (kcand m c).nv 100 := by
  rw [arrAt_5]
  unfold outsAt0
  dsimp only
  rw [iblk_0, iblk_1]
  exact out5_val c _ _ _ _ _ _ _ _ _ _ _ _ (featLanes m c) (tableLanes m c)

/-- A class number read as a float and converted back. -/
theorem fptosi_outClsF (D : Cand) (t : ℕ) : Ideal.fptosi 32 (D.outClsF t) = D.outCls t := by
  have key : ∀ n : ℕ, n < 80 → Ideal.fptosi 32 ((n : ℝ) : EReal) = BitVec.ofNat 32 n := by
    intro n hn
    unfold Ideal.fptosi
    rw [Ideal.toIntClamped_coe, if_pos (Nat.cast_nonneg n), Int.floor_natCast, min_eq_right (by norm_num; omega),
      max_eq_right (by norm_num)]
    exact BitVec.ofInt_natCast 32 n
  unfold Cand.outClsF Cand.outCls
  split
  · exact key _ (D.cls _).isLt
  · simpa using key 0 (by norm_num)

/-- The first result. -/
theorem tail_8 (c : Dev nD) : Pipeline.afterTail₀ cfgs (dats m) 0 (V0 m) [hostOps1] c main_v8 = fun i => (kcand m c).outBox (i 1).val (i 2) := by
  show StableHlo.after (List.flatten [hostOps1]) (Pipeline.withArrays (cfgs 0).spec c (V0 m c) fun w => (dats m 0 c).arrAt w (cfgs 0).N) (Proc.devRef .tc main_v8) = _
  after_reads_simp
  rw [show Pipeline.withArrays (cfgs 0).spec c (V0 m c) (fun w => (dats m 0 c).arrAt w (cfgs 0).N) (Proc.devRef .tc main_v7_0)
    = (dats m 0 c).arrAt 2 cfg0.N from Pipeline.withArrays_arr (cfgs 0).spec launch0.win.arr_inj c (V0 m c) _ 2]
  funext i
  obtain ⟨z, r, j, rfl⟩ : ∃ (z : Fin 1) (r : Fin 100) (j : Fin 4), i = ix3 z r j := ⟨i 0, i 1, i 2, eq_ix3 i⟩
  refine (broadcastInDim_apply _ _ _ _ (ix2 r j) fun a => ?_).trans (arr2_val m c r j)
  match a with
  | ⟨0, _⟩ => rfl
  | ⟨1, _⟩ => rfl

/-- The second result. -/
theorem tail_10 (c : Dev nD) : Pipeline.afterTail₀ cfgs (dats m) 0 (V0 m) [hostOps1] c main_v10 = fun i => (kcand m c).outScore (i 1).val := by
  show StableHlo.after (List.flatten [hostOps1]) (Pipeline.withArrays (cfgs 0).spec c (V0 m c) fun w => (dats m 0 c).arrAt w (cfgs 0).N) (Proc.devRef .tc main_v10) = _
  after_reads_simp
  rw [show Pipeline.withArrays (cfgs 0).spec c (V0 m c) (fun w => (dats m 0 c).arrAt w (cfgs 0).N) (Proc.devRef .tc main_v7_1)
    = (dats m 0 c).arrAt 3 cfg0.N from Pipeline.withArrays_arr (cfgs 0).spec launch0.win.arr_inj c (V0 m c) _ 3]
  funext i
  obtain ⟨z, r, rfl⟩ : ∃ (z : Fin 1) (r : Fin 100), i = ix2 z r := ⟨i 0, i 1, eq_ix2 i⟩
  refine (broadcastInDim_apply _ _ _ _ (ix1 r) fun a => ?_).trans ?_
  · match a with
    | ⟨0, _⟩ => rfl
  refine (shapeCast_apply _ _ _ (ix2 r 0) ?_).trans (arr3_val m c r)
  refine (Shape.rowMajor_val_two _).trans (Eq.trans ?_ (Shape.rowMajor_val_one (ix1 r)).symm)
  show r.val * 1 + 0 = r.val
  omega

/-- The third result. -/
theorem tail_13 (c : Dev nD) : Pipeline.afterTail₀ cfgs (dats m) 0 (V0 m) [hostOps1] c main_v13 = fun i => (kcand m c).outCls (i 1).val := by
  show StableHlo.after (List.flatten [hostOps1]) (Pipeline.withArrays (cfgs 0).spec c (V0 m c) fun w => (dats m 0 c).arrAt w (cfgs 0).N) (Proc.devRef .tc main_v13) = _
  after_reads_simp
  rw [show Pipeline.withArrays (cfgs 0).spec c (V0 m c) (fun w => (dats m 0 c).arrAt w (cfgs 0).N) (Proc.devRef .tc main_v7_2)
    = (dats m 0 c).arrAt 4 cfg0.N from Pipeline.withArrays_arr (cfgs 0).spec launch0.win.arr_inj c (V0 m c) _ 4]
  funext i
  obtain ⟨z, r, rfl⟩ : ∃ (z : Fin 1) (r : Fin 100), i = ix2 z r := ⟨i 0, i 1, eq_ix2 i⟩
  refine (broadcastInDim_apply _ _ _ _ (ix1 r) fun a => ?_).trans ?_
  · match a with
    | ⟨0, _⟩ => rfl
  refine (congrArg (Ideal.fptosi 32) ((shapeCast_apply _ _ _ (ix2 r 0) ?_).trans (arr4_val m c r))).trans ?_
  · refine (Shape.rowMajor_val_two _).trans (Eq.trans ?_ (Shape.rowMajor_val_one (ix1 r)).symm)
    show r.val * 1 + 0 = r.val
    omega
  · exact fptosi_outClsF _ _

/-- The fourth result. -/
theorem tail_14 (c : Dev nD) : Pipeline.afterTail₀ cfgs (dats m) 0 (V0 m) [hostOps1] c main_v14 = fun _ => (kcand m c).nv 100 := by
  show StableHlo.after (List.flatten [hostOps1]) (Pipeline.withArrays (cfgs 0).spec c (V0 m c) fun w => (dats m 0 c).arrAt w (cfgs 0).N) (Proc.devRef .tc main_v14) = _
  after_reads_simp
  rw [show Pipeline.withArrays (cfgs 0).spec c (V0 m c) (fun w => (dats m 0 c).arrAt w (cfgs 0).N) (Proc.devRef .tc main_v7_3)
    = (dats m 0 c).arrAt 5 cfg0.N from Pipeline.withArrays_arr (cfgs 0).spec launch0.win.arr_inj c (V0 m c) _ 5]
  funext i
  obtain rfl : i = ix1 0 := by
    funext a
    match a with
    | ⟨0, _⟩ => exact Fin.ext (by have := (i 0).isLt; change (i 0).val < 1 at this; show (i 0).val = 0; omega)
  refine (shapeCast_apply _ _ _ (ix2 0 0) ?_).trans (arr5_val m c)
  refine (Shape.rowMajor_val_two _).trans (Eq.trans ?_ (Shape.rowMajor_val_one (ix1 (0 : Fin 1))).symm)
  rfl

/-- **What the kernel's four results are**: the boxes, scores and class numbers of the hundred rounds, and how many
rounds counted; the arguments are left as they were. -/
theorem kernel_run : θ_run (defs (F := Ideal)) (onTc (τ := τ) (main (F := Ideal))) ⟨m, fun _ => 0, ρ⟩ (fun r => ∀ c : Dev nD,
      r.2.mem ((c.tc : Thread nD τ).loc main_v8) = (fun i => (kcand m c).outBox (i 1).val (i 2))
      ∧ r.2.mem ((c.tc : Thread nD τ).loc main_v10) = (fun i => (kcand m c).outScore (i 1).val)
      ∧ r.2.mem ((c.tc : Thread nD τ).loc main_v13) = (fun i => (kcand m c).outCls (i 1).val)
      ∧ r.2.mem ((c.tc : Thread nD τ).loc main_v14) = (fun _ => (kcand m c).nv 100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h => ?_) (θ_run_and (run_main m ρ) (unchanged m ρ))
  intro c
  exact ⟨((h.1 c).2 main_v8 (Pipeline.mem_restRefs_of main_v8 (by decide) (by decide))).trans (tail_8 m c),
    ((h.1 c).2 main_v10 (Pipeline.mem_restRefs_of main_v10 (by decide) (by decide))).trans (tail_10 m c),
    ((h.1 c).2 main_v13 (Pipeline.mem_restRefs_of main_v13 (by decide) (by decide))).trans (tail_13 m c),
    ((h.1 c).2 main_v14 (Pipeline.mem_restRefs_of main_v14 (by decide) (by decide))).trans (tail_14 m c), h.2 c⟩

end Cert.Proof

end
-- ==== Proof.RArg.lean ====
/-
  The reference's index of the largest value: its host reduction over (value, index) pairs, read as the first largest
  place.
-/
module

public import proofs.«01_k».proof.Proof.Spec
public import proofs.«01_k».proof.Proof.Gen.ReferenceIdeal
public import Idealize.ShloMosaic.PureOps.Ideal.Laws
public import Idealize.ShloMosaic.PureOps.Reduce

@[expose] public section

set_option maxRecDepth 16384

noncomputable section

namespace Cert.Proof.Ref

open Idealize.ShloMosaic Cert.ReferenceIdeal Cert.ReferenceIdeal.Gen

/-- The reducer's body over the extended reals. -/
abbrev argf : EReal × BitVec 32 → EReal × BitVec 32 → EReal × BitVec 32 := reducer_argmax_f32_i32 (F := Ideal)

/-- Pair `a` comes before pair `b`: a larger value, or an equal one at an index no later. -/
def Bef (a b : EReal × BitVec 32) : Prop := b.1 < a.1 ∨ (a.1 = b.1 ∧ a.2.toInt ≤ b.2.toInt)

/-- The order is reflexive. -/
theorem Bef.refl (a : EReal × BitVec 32) : Bef a a := Or.inr ⟨rfl, le_rfl⟩

/-- The order is transitive. -/
theorem Bef.trans {a b c : EReal × BitVec 32} (h : Bef a b) (h' : Bef b c) : Bef a c := by
  rcases h with h | ⟨h, hi⟩ <;> rcases h' with h' | ⟨h', hi'⟩
  · exact Or.inl (h'.trans h)
  · exact Or.inl (h' ▸ h)
  · exact Or.inl (h ▸ h')
  · exact Or.inr ⟨h.trans h', hi.trans hi'⟩

/-- The reducer keeps the pair that comes first. -/
theorem argf_spec (a b : EReal × BitVec 32) : (argf a b = a ∨ argf a b = b) ∧ Bef (argf a b) a ∧ Bef (argf a b) b := by
  obtain ⟨x, i⟩ := a
  obtain ⟨y, j⟩ := b
  have e : argf (x, i) (y, j) = (if y < x then x else y, if y < x ∨ (x = y ∧ i.toInt < j.toInt) then i else j) := by
    unfold argf reducer_argmax_f32_i32
    simp only [Ideal.cmpf_def, Ideal.cmp, Scalar.select, IntOp.ori, IntOp.andi, IntOp.cmpi, BitVec.slt]
    by_cases h1 : y < x <;> by_cases h2 : x = y <;> by_cases h3 : i.toInt < j.toInt <;> simp [h1, h2, h3]
  rw [e]
  rcases lt_trichotomy x y with h | h | h
  · rw [if_neg h.not_gt, if_neg (by rintro (h' | h'); exacts [h.not_gt h', h.ne h'.1])]
    exact ⟨Or.inr rfl, Or.inl h, Bef.refl _⟩
  · subst h
    rw [if_neg (lt_irrefl x)]
    by_cases hi : i.toInt < j.toInt
    · rw [if_pos (Or.inr ⟨rfl, hi⟩)]
      exact ⟨Or.inl rfl, Bef.refl _, Or.inr ⟨rfl, hi.le⟩⟩
    · rw [if_neg (by rintro (h' | h'); exacts [lt_irrefl _ h', hi h'.2])]
      exact ⟨Or.inr rfl, Or.inr ⟨rfl, not_lt.mp hi⟩, Bef.refl _⟩
  · rw [if_pos h, if_pos (Or.inl h)]
    exact ⟨Or.inl rfl, Bef.refl _, Or.inl h⟩

/-- A fold of the reducer ends at its start or at an entry, and at one that comes before all of them. -/
theorem foldl_spec (L : List (EReal × BitVec 32)) : ∀ a, (L.foldl argf a = a ∨ L.foldl argf a ∈ L)
    ∧ Bef (L.foldl argf a) a ∧ ∀ p ∈ L, Bef (L.foldl argf a) p := by
  induction L with
  | nil => exact fun a => ⟨Or.inl rfl, Bef.refl a, fun p hp => absurd hp (List.not_mem_nil)⟩
  | cons b L ih =>
    intro a
    obtain ⟨h1, h2, h3⟩ := ih (argf a b)
    obtain ⟨k1, k2, k3⟩ := argf_spec a b
    rw [List.foldl_cons]
    refine ⟨?_, h2.trans k2, ?_⟩
    · rcases h1 with h1 | h1
      · rw [h1]
        rcases k1 with k1 | k1
        · exact Or.inl k1
        · exact Or.inr (by rw [k1]; exact List.mem_cons_self)
      · exact Or.inr (List.mem_cons_of_mem _ h1)
    · intro p hp
      rcases List.mem_cons.1 hp with rfl | hp
      · exact h2.trans k3
      · exact h3 p hp

/-- A small number's word, read as a signed number. -/
theorem toInt_nat {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- Folded over every pair of a family from the bottom, the index is the family's first largest place. -/
theorem fold_top {n : ℕ} [NeZero n] (hn : n ≤ 2 ^ 31) (s : Fin n → EReal) (L : List (EReal × BitVec 32))
    (hL : ∀ p, Iff (p ∈ L) (∃ i : Fin n, p = (s i, BitVec.ofNat 32 i.val))) :
    (L.foldl argf (⊥, 0#32)).2 = BitVec.ofNat 32 (top s).val := by
  obtain ⟨h1, -, h3⟩ := foldl_spec L (⊥, 0#32)
  generalize L.foldl argf (⊥, 0#32) = r at h1 h3
  have ht := isTop_top s
  have hb : Bef r (s (top s), BitVec.ofNat 32 (top s).val) := h3 _ ((hL _).2 ⟨_, rfl⟩)
  have hti := toInt_nat (lt_of_lt_of_le (top s).isLt hn)
  rcases h1 with rfl | h1
  · rcases hb with hb | ⟨hb, -⟩
    · exact absurd hb not_lt_bot
    · have h0 : top s ≤ 0 := ht.first 0 (le_antisymm (ht.le 0) (by rw [show s (top s) = ⊥ from hb.symm]; exact bot_le))
      have : (top s).val = 0 := by
        have := Fin.le_def.1 h0
        simpa using this
      rw [this]
  · obtain ⟨i, rfl⟩ := (hL r).1 h1
    rcases hb with hb | ⟨hb, hi⟩
    · exact absurd hb (not_lt.2 (ht.le i))
    · have hii := toInt_nat (lt_of_lt_of_le i.isLt hn)
      simp only at hi hb
      rw [hti, hii] at hi
      have h' := Fin.le_def.1 (ht.first i hb)
      have : i.val = (top s).val := by omega
      rw [this]

/-- The pairs an index reduction folds over at `j`: those of the operand indices dropping to `j`. -/
theorem mem_fiber {s t : Shape} {axes : List (Fin s.rank)} (x : s.Idx → EReal) (y : s.Idx → BitVec 32) (h : s.ReducesTo axes t)
    (j : t.Idx) (p : EReal × BitVec 32) : Iff (p ∈ Host.argReduceFiber x y h j) (∃ i, h.drop i = j ∧ p = (x i, y i)) := by
  unfold Host.argReduceFiber
  simp only [List.mem_map, List.mem_filter, List.mem_finRange, true_and, decide_eq_true_eq]
  constructor
  · rintro ⟨i, hi, rfl⟩
    exact ⟨_, hi, rfl⟩
  · rintro ⟨i, hi, rfl⟩
    exact ⟨s.rowMajor i, by rw [Equiv.symm_apply_apply]; exact hi, by rw [Equiv.symm_apply_apply]⟩

/-- The index reduction of a vector. -/
theorem argmax_vec (x : S6300.Idx → EReal) (y : S6300.Idx → BitVec 32) (hy : ∀ n : Fin 6300, y (ix1 n) = BitVec.ofNat 32 n.val)
    (u : S_.Idx → EReal) (hu : ∀ i, u i = ⊥) (v : S_.Idx → BitVec 32) (hv : ∀ i, v i = 0#32) (j : S_.Idx) :
    (Host.argReduce (F := Ideal) (φ := .f32) reducer_argmax_f32_i32 x y u v reducesTo_S6300_S_d0 h_S_ j).2
      = BitVec.ofNat 32 (top fun n : Fin 6300 => x (ix1 n)).val := by
  rw [Ideal.argReduce_eq_reduce2, Host.reduce2_eq_foldl_fiber, hu, hv]
  refine fold_top (by norm_num) _ _ fun p => (mem_fiber x y _ j p).trans ?_
  constructor
  · rintro ⟨i, -, rfl⟩
    obtain ⟨n, rfl⟩ : ∃ n : Fin 6300, i = ix1 n := ⟨i 0, eq_ix1 i⟩
    exact ⟨n, by rw [hy]⟩
  · rintro ⟨i, rfl⟩
    exact ⟨ix1 i, Subsingleton.elim _ _, by rw [hy]⟩

/-- The index reduction of each row of a matrix. -/
theorem argmax_rows (x : S6300x80.Idx → EReal) (y : S6300x80.Idx → BitVec 32)
    (hy : ∀ (n : Fin 6300) (k : Fin 80), y (ix2 n k) = BitVec.ofNat 32 k.val)
    (u : S_.Idx → EReal) (hu : ∀ i, u i = ⊥) (v : S_.Idx → BitVec 32) (hv : ∀ i, v i = 0#32) (n : Fin 6300) :
    (Host.argReduce (F := Ideal) (φ := .f32) reducer_argmax_f32_i32 x y u v reducesTo_S6300x80_S6300_d1 h_S_ (ix1 n)).2
      = BitVec.ofNat 32 (top fun k : Fin 80 => x (ix2 n k)).val := by
  rw [Ideal.argReduce_eq_reduce2, Host.reduce2_eq_foldl_fiber, hu, hv]
  have hd : ∀ i : S6300x80.Idx, (reducesTo_S6300x80_S6300_d1.drop i 0 : Nat) = i 0 := fun i =>
    Shape.ReducesTo.drop_apply_val_of_eq _ i 0 0
  refine fold_top (by norm_num) _ _ fun p => (mem_fiber x y _ (ix1 n) p).trans ?_
  constructor
  · rintro ⟨i, hi, rfl⟩
    obtain ⟨q, k, rfl⟩ : ∃ (q : Fin 6300) (k : Fin 80), i = ix2 q k := ⟨i 0, i 1, eq_ix2 i⟩
    obtain rfl : q = n := Fin.ext ((hd (ix2 q k)).symm.trans (congrArg (fun f : S6300.Idx => (f 0).val) hi))
    exact ⟨k, by rw [hy]⟩
  · rintro ⟨i, rfl⟩
    refine ⟨ix2 n i, ?_, by rw [hy]⟩
    funext a
    match a with
    | ⟨0, _⟩ => exact Fin.ext (hd (ix2 n i))

end Cert.Proof.Ref

end
-- ==== Proof.RTrip.lean ====
/-
  One trip of the reference's loop, over the extended reals: it takes the first largest score, records it, and strikes
  out the boxes overlapping the winner.
-/
module

public import proofs.«01_k».proof.Proof.RArg
public import proofs.«01_k».proof.Proof.RefRun
public import Idealize.ShloMosaic.Lib.Routing.OpsPair
public import Idealize.ShloMosaic.Lib.Routing.OpsSet
public import Idealize.ShloMosaic.Lib.DynamicIndex
public import Idealize.ShloMosaic.Lib.IdealHost

@[expose] public section

set_option maxRecDepth 16384

noncomputable section

namespace Cert.Proof.Ref

open Cert.ReferenceIdeal Cert.ReferenceIdeal.Gen
open Idealize.ShloMosaic Idealize.ShloMosaic.TcCoe Idealize.SL.Sem
open Idealize.ShloMosaic.StableHlo (after)

/-- What the loop carries before trip `t`. -/
structure Carry (D : Cand) (t : ℕ) (X : Valuation τ sig (Elt Ideal)) : Prop where
  box : ∀ (n : Fin 6300) (j : Fin 4), (X main_v133_0 : S6300x4.Idx → EReal) (ix2 n j) = D.box n j
  area : ∀ n : Fin 6300, (X main_v133_1 : S6300.Idx → EReal) (ix1 n) = D.area n
  k : ∀ i, (X main_v133_3 : S_.Idx → BitVec 32) i = BitVec.ofNat 32 t
  s : ∀ n : Fin 6300, (X main_v133_4 : S6300.Idx → EReal) (ix1 n) = D.S t n
  ob : ∀ r : Fin 100, r.val < t → ∀ j : Fin 4, (X main_v133_5 : S100x4.Idx → EReal) (ix2 r j) = D.outBox r.val j
  os : ∀ r : Fin 100, r.val < t → (X main_v133_6 : S100.Idx → EReal) (ix1 r) = D.outScore r.val
  oi : ∀ r : Fin 100, r.val < t → (X main_v133_7 : S100.Idx → BitVec 32) (ix1 r)
    = if THR < D.best r.val then BitVec.ofNat 32 (D.win r.val).val else 4294967295#32
  nv : ∀ i, (X main_v133_8 : S_.Idx → BitVec 32) i = D.nv t

variable {D : Cand} {t : ℕ} {X : Valuation τ sig (Elt Ideal)}

/-- An index not negative is its own wrapped index. -/
theorem wrap_val {s : Shape} (i a : s.Idx → BitVec 32) (n : ℕ) (hn : n < 2 ^ 31) (j : s.Idx) (hi : i j = BitVec.ofNat 32 n) :
    select (cmpi .slt i (constantI s 32 0#32)) a i j = BitVec.ofNat 32 n := by
  rw [select_slt_zero_of_nonneg _ _ _ j (by rw [hi, toInt_ofNat_of_lt hn]; omega), hi]

/-- A winner's number fits a signed word. -/
theorem win_lt (D : Cand) (t : ℕ) : (D.win t).val < 2 ^ 31 := lt_trans (D.win t).isLt (by norm_num)

/-- The index the trip takes is the first largest score's. -/
theorem idx_val (h : Carry D t X) (i : S_.Idx) :
    (after bodyA X main_while0b_v151 : S_.Idx → BitVec 32) i = BitVec.ofNat 32 (D.win t).val := by
  after_reads_simp
  refine (argmax_vec _ _ (fun n => ?_) _ (fun _ => ?_) _ (fun _ => ?_) _).trans ?_
  · rfl
  · exact ofBits_ninf
  · rfl
  · exact congrArg (fun s : Fin 6300 → EReal => BitVec.ofNat 32 (top s).val) (funext h.s)

/-- The index the score is read at. -/
theorem idx_at (h : Carry D t X) (i : S_.Idx) :
    (StableHlo.upto bodyA X 12 main_while0b_v154 : S_.Idx → BitVec 32) i = BitVec.ofNat 32 (D.win t).val := by
  have e := idx_val h i
  revert e
  after_reads_simp
  intro e
  exact wrap_val _ _ _ (win_lt D t) i e

/-- The index the box is read at. -/
theorem idx_at2 (h : Carry D t X) (i : S_.Idx) :
    (StableHlo.upto bodyA X 29 main_while0b_v160 : S_.Idx → BitVec 32) i = BitVec.ofNat 32 (D.win t).val := by
  have e := idx_val h i
  revert e
  after_reads_simp
  intro e
  exact wrap_val _ _ _ (win_lt D t) i e

/-- The column the box is read from. -/
theorem col_at (i : S_.Idx) : (StableHlo.upto bodyA X 29 main_while0b_v163 : S_.Idx → BitVec 32) i = 0#32 := by
  after_reads_simp
  rfl

/-- The score the trip takes. -/
theorem best_val (h : Carry D t X) (i : S_.Idx) :
    (after bodyA X main_while0b_v156 : S_.Idx → EReal) i = D.best t := by
  have e := idx_at h (Shape.Idx.first h_S_)
  after_reads_simp
  refine (shapeCast_apply _ _ _ (ix1 (0 : Fin 1)) ?_).trans ?_
  · exact (Shape.rowMajor_val_one (ix1 (0 : Fin 1))).trans
      (Nat.lt_one_iff.1 (show (S_.rowMajor i).val < 1 from (S_.rowMajor i).isLt)).symm
  refine (congrFun (Host.dynamicSlice_eq_extractStridedSlice S1 _ _ ![(D.win t).val] _ ?_ fun a => ?_) _).trans ?_
  · exact ⟨rfl, fun a => by have := (D.win t).isLt; match a with | ⟨0, _⟩ => exact this⟩
  · match a with
    | ⟨0, _⟩ => exact (congrArg BitVec.toInt e).trans (toInt_ofNat_of_lt (win_lt D t))
  refine (extractStridedSlice_apply _ _ _ _ (ix1 (D.win t)) fun a => ?_).trans (h.s _)
  match a with
  | ⟨0, _⟩ => exact rfl

/-- The box the trip takes. -/
theorem box_val (h : Carry D t X) (j : Fin 4) :
    (after bodyA X main_while0b_v165 : S4.Idx → EReal) (ix1 j) = D.box (D.win t) j := by
  have e := idx_at2 h (Shape.Idx.first h_S_)
  have e' := col_at (X := X) (Shape.Idx.first h_S_)
  after_reads_simp
  refine (shapeCast_apply _ _ _ (ix2 (0 : Fin 1) j) ?_).trans ?_
  · refine (Shape.rowMajor_val_two _).trans (Eq.trans ?_ (Shape.rowMajor_val_one (ix1 j)).symm)
    show 0 * 4 + j.val = j.val
    omega
  refine (congrFun (Host.dynamicSlice_eq_extractStridedSlice S1x4 _ _ ![(D.win t).val, 0] _ ?_ fun a => ?_) _).trans ?_
  · exact ⟨rfl, fun a => by have := (D.win t).isLt; match a with | ⟨0, _⟩ => exact this | ⟨1, _⟩ => exact le_rfl⟩
  · match a with
    | ⟨0, _⟩ => exact (congrArg BitVec.toInt e).trans (toInt_ofNat_of_lt (win_lt D t))
    | ⟨1, _⟩ => exact (congrArg BitVec.toInt e').trans rfl
  refine (extractStridedSlice_apply _ _ _ _ (ix2 (D.win t) j) fun a => ?_).trans (h.box _ _)
  match a with
  | ⟨0, _⟩ => exact rfl
  | ⟨1, _⟩ => exact (Nat.zero_add _).symm

/-- Whether the trip counts. -/
theorem keep_val (h : Carry D t X) (i : S_.Idx) :
    (after bodyA X main_while0b_v157 : S_.Idx → BitVec 1) i = BitVec.ofBool (decide (THR < D.best t)) := by
  have e := best_val h i
  revert e
  after_reads_simp
  intro e
  exact congrArg (fun x : EReal => BitVec.ofBool (decide (THR < x))) e

/-- What every box has in common with the winner's. -/
theorem inter_val (h : Carry D t X) (n : Fin 6300) :
    (after bodyA X main_while0b_v196 : S6300.Idx → EReal) (ix1 n)
      = inter (D.x1 (D.win t)) (D.y1 (D.win t)) (D.x2 (D.win t)) (D.y2 (D.win t)) (D.x1 n) (D.y1 n) (D.x2 n) (D.y2 n) := by
  have e := box_val h
  revert e
  after_reads_simp
  intro e
  generalize shapeCast main_while0b_v165.ty.shape _ _ = w at e ⊢
  have hb := h.box n
  generalize (X main_v133_0 : S6300x4.Idx → EReal) = B at hb ⊢
  pointwise
  rw [e, e, e, e, hb, hb, hb, hb]
  rfl

/-- The first part of a trip leaves what the loop carries as it was. -/
theorem carry_A (h : Carry D t X) : Carry D t (after bodyA X) := by
  refine ⟨?_, ?_, ?_, ?_, ?_, ?_, ?_, ?_⟩
  · have := h.box; revert this; after_reads_simp; exact id
  · have := h.area; revert this; after_reads_simp; exact id
  · have := h.k; revert this; after_reads_simp; exact id
  · have := h.s; revert this; after_reads_simp; exact id
  · have := h.ob; revert this; after_reads_simp; exact id
  · have := h.os; revert this; after_reads_simp; exact id
  · have := h.oi; revert this; after_reads_simp; exact id
  · have := h.nv; revert this; after_reads_simp; exact id

/-- The next trip's number. -/
theorem k1_val (h : Carry D t X) (i : S_.Idx) :
    (after bodyA X main_while0b_v150 : S_.Idx → BitVec 32) i = BitVec.ofNat 32 (t + 1) := by
  have e := h.k i
  revert e
  after_reads_simp
  intro e
  refine (congrArg (fun x : BitVec 32 => x + 1#32) e).trans ?_
  rw [BitVec.ofNat_add]

/-- What the first part of a trip works out. -/
structure MidA (D : Cand) (t : ℕ) (Y : Valuation τ sig (Elt Ideal)) : Prop where
  carry : Carry D t Y
  k1 : ∀ i, (Y main_while0b_v150 : S_.Idx → BitVec 32) i = BitVec.ofNat 32 (t + 1)
  idx : ∀ i, (Y main_while0b_v151 : S_.Idx → BitVec 32) i = BitVec.ofNat 32 (D.win t).val
  best : ∀ i, (Y main_while0b_v156 : S_.Idx → EReal) i = D.best t
  keep : ∀ i, (Y main_while0b_v157 : S_.Idx → BitVec 1) i = BitVec.ofBool (decide (THR < D.best t))
  box : ∀ j : Fin 4, (Y main_while0b_v165 : S4.Idx → EReal) (ix1 j) = D.box (D.win t) j
  inter : ∀ n : Fin 6300, (Y main_while0b_v196 : S6300.Idx → EReal) (ix1 n)
    = inter (D.x1 (D.win t)) (D.y1 (D.win t)) (D.x2 (D.win t)) (D.y2 (D.win t)) (D.x1 n) (D.y1 n) (D.x2 n) (D.y2 n)

/-- The first part of a trip. -/
theorem midA (h : Carry D t X) : MidA D t (after bodyA X) :=
  ⟨carry_A h, k1_val h, idx_val h, best_val h, keep_val h, box_val h, inter_val h⟩

variable {Y : Valuation τ sig (Elt Ideal)}

/-- The second part of a trip leaves the carry alone. -/
theorem carry_B (h : Carry D t Y) : Carry D t (after bodyB Y) := by
  refine ⟨?_, ?_, ?_, ?_, ?_, ?_, ?_, ?_⟩
  · have := h.box; revert this; after_reads_simp; exact id
  · have := h.area; revert this; after_reads_simp; exact id
  · have := h.k; revert this; after_reads_simp; exact id
  · have := h.s; revert this; after_reads_simp; exact id
  · have := h.ob; revert this; after_reads_simp; exact id
  · have := h.os; revert this; after_reads_simp; exact id
  · have := h.oi; revert this; after_reads_simp; exact id
  · have := h.nv; revert this; after_reads_simp; exact id

/-- An index of a single entry. -/
theorem s1_eq (q : S1.Idx) : q = ix1 (0 : Fin 1) :=
  (eq_ix1 q).trans (congrArg ix1 (Subsingleton.elim (α := Fin 1) _ _))

/-- Writing one entry of a vector: the scores. -/
theorem set_scores {α : Type} (x : S6300.Idx → α) (i : S1.Idx → BitVec 32) (u : S_.Idx → α) (w : ℕ) (hw : w < 2 ^ 31)
    (hi : ∀ j, i j = BitVec.ofNat 32 w) (n : Fin 6300) :
    Host.scatter scatter_S6300_S1_S__n_0_0_0 (fun _ b => b) x i u (ix1 n) = if n.val = w then u (Shape.Idx.first h_S_) else x (ix1 n) := by
  have key : ∀ k : S_.Idx, Iff (scatter_S6300_S1_S__n_0_0_0.resultIdx? k i = some (ix1 n)) (n.val = w) := by
    intro k
    refine (Routing.resultIdx?_ix1 (N := 6300) scatter_S6300_S1_S__n_0_0_0 k i n).trans ?_
    have h1 : scatter_S6300_S1_S__n_0_0_0.start k i 0 = (w : Int) := by
      refine Eq.trans ?_ (toInt_ofNat_of_lt hw)
      rw [← hi (ix1 (0 : Fin 1))]
      unfold ScatterDims.start
      exact congrArg (fun q => (i q).toInt) (s1_eq _)
    have h2 : scatter_S6300_S1_S__n_0_0_0.window k 0 = 0 := by
      unfold ScatterDims.window
      rfl
    rw [h1, h2]
    omega
  split
  · next h =>
    exact Routing.scatter_set_hit _ _ _ _ _ _ (fun k _ => congrArg u (Subsingleton.elim _ _)) (Shape.Idx.first h_S_) ((key _).2 h)
  · next h => exact Routing.scatter_set_miss _ _ _ _ _ fun k hk => h ((key k).1 hk)

/-- Writing one entry of a vector: a column of the results. -/
theorem set_col {α : Type} (x : S100.Idx → α) (i : S1.Idx → BitVec 32) (u : S_.Idx → α) (w : ℕ) (hw : w < 2 ^ 31)
    (hi : ∀ j, i j = BitVec.ofNat 32 w) (n : Fin 100) :
    Host.scatter scatter_S100_S1_S__n_0_0_0 (fun _ b => b) x i u (ix1 n) = if n.val = w then u (Shape.Idx.first h_S_) else x (ix1 n) := by
  have key : ∀ k : S_.Idx, Iff (scatter_S100_S1_S__n_0_0_0.resultIdx? k i = some (ix1 n)) (n.val = w) := by
    intro k
    refine (Routing.resultIdx?_ix1 (N := 100) scatter_S100_S1_S__n_0_0_0 k i n).trans ?_
    have h1 : scatter_S100_S1_S__n_0_0_0.start k i 0 = (w : Int) := by
      refine Eq.trans ?_ (toInt_ofNat_of_lt hw)
      rw [← hi (ix1 (0 : Fin 1))]
      unfold ScatterDims.start
      exact congrArg (fun q => (i q).toInt) (s1_eq _)
    have h2 : scatter_S100_S1_S__n_0_0_0.window k 0 = 0 := by
      unfold ScatterDims.window
      rfl
    rw [h1, h2]
    omega
  split
  · next h =>
    exact Routing.scatter_set_hit _ _ _ _ _ _ (fun k _ => congrArg u (Subsingleton.elim _ _)) (Shape.Idx.first h_S_) ((key _).2 h)
  · next h => exact Routing.scatter_set_miss _ _ _ _ _ fun k hk => h ((key k).1 hk)

/-- Writing one row of the box results. -/
theorem set_row {α : Type} (x : S100x4.Idx → α) (i : S1.Idx → BitVec 32) (u : S4.Idx → α) (w : ℕ) (hw : w < 2 ^ 31)
    (hi : ∀ j, i j = BitVec.ofNat 32 w) (n : Fin 100) (c : Fin 4) :
    Host.scatter scatter_S100x4_S1_S4_0_0_0_0 (fun _ b => b) x i u (ix2 n c) = if n.val = w then u (ix1 c) else x (ix2 n c) := by
  have key : ∀ k : Fin 4, Iff (scatter_S100x4_S1_S4_0_0_0_0.resultIdx? (ix1 k) i = some (ix2 n c)) (n.val = w ∧ k = c) := by
    intro k
    refine (Routing.resultIdx?_ix2 (R := 100) (C := 4) scatter_S100x4_S1_S4_0_0_0_0 (ix1 k) i n c).trans ?_
    have h1 : scatter_S100x4_S1_S4_0_0_0_0.start (ix1 k) i 0 = (w : Int) := by
      refine Eq.trans ?_ (toInt_ofNat_of_lt hw)
      rw [← hi (ix1 (0 : Fin 1))]
      unfold ScatterDims.start
      exact congrArg (fun q => (i q).toInt) (s1_eq _)
    have h2 : scatter_S100x4_S1_S4_0_0_0_0.window (ix1 k) 0 = 0 := by
      unfold ScatterDims.window
      rfl
    have h3 : scatter_S100x4_S1_S4_0_0_0_0.start (ix1 k) i 1 = 0 := by
      unfold ScatterDims.start
      rfl
    have h4 : scatter_S100x4_S1_S4_0_0_0_0.window (ix1 k) 1 = k.val := by
      unfold ScatterDims.window
      rfl
    rw [h1, h2, h3, h4]
    constructor
    · rintro ⟨e1, e2⟩
      exact ⟨by omega, Fin.ext (by omega)⟩
    · rintro ⟨e1, rfl⟩
      exact ⟨by omega, by omega⟩
  split
  · next h =>
    refine Routing.scatter_set_hit _ _ _ _ _ _ (fun k hk => ?_) (ix1 c) ((key c).2 ⟨h, rfl⟩)
    obtain ⟨q, rfl⟩ : ∃ q : Fin 4, k = ix1 q := ⟨k 0, eq_ix1 k⟩
    rw [((key q).1 hk).2]
  · next h =>
    refine Routing.scatter_set_miss _ _ _ _ _ fun k hk => ?_
    obtain ⟨q, rfl⟩ : ∃ q : Fin 4, k = ix1 q := ⟨k 0, eq_ix1 k⟩
    exact h ((key q).1 hk).1

/-- The scores after the overlapping boxes are struck out. -/
theorem struck_val (h : MidA D t Y) (n : Fin 6300) :
    (after bodyB Y main_while0b_v222 : S6300.Idx → EReal) (ix1 n) = if HALF < D.iou (D.win t) n then NEG else D.S t n := by
  after_reads_simp
  have hb := h.box
  have hi := h.inter n
  have ha := h.carry.area n
  have hs := h.carry.s n
  simp -implicitDefEqProofs only [StableHlo.TRef.toBuf, StableHlo.TRef.ofBuf, cast_cast, cast_eq, id_eq]
  generalize (Y main_while0b_v165 : S4.Idx → EReal) = w at hb ⊢
  generalize (Y main_while0b_v196 : S6300.Idx → EReal) = I at hi ⊢
  generalize (Y main_v133_1 : S6300.Idx → EReal) = A at ha ⊢
  generalize (Y main_v133_4 : S6300.Idx → EReal) = S at hs ⊢
  pointwise
  rw [hb, hb, hb, hb, hi, ha, hs]
  rfl

/-- The scores after the winner is struck out too: the next round's. -/
theorem scores_val (h : MidA D t Y) (n : Fin 6300) :
    (after bodyB Y main_while0b_v227 : S6300.Idx → EReal) (ix1 n) = D.S (t + 1) n := by
  have e := struck_val h n
  have e' := h.idx
  revert e
  after_reads_simp
  intro e
  refine (set_scores _ _ _ (D.win t).val (win_lt D t) (fun j => ?_) n).trans ?_
  · exact wrap_val _ _ _ (win_lt D t) _ (e' _)
  · rw [Cand.S_succ]
    unfold Cand.kill
    by_cases hn : n.val = (D.win t).val
    · rw [if_pos hn, if_pos (Or.inr (Fin.ext hn))]
      rfl
    · rw [if_neg hn]
      refine e.trans ?_
      by_cases hh : HALF < D.iou (D.win t) n
      · rw [if_pos hh, if_pos (Or.inl hh)]
      · rw [if_neg hh, if_neg (by rintro (h' | h'); exacts [hh h', hn (congrArg Fin.val h')])]

/-- The boxes recorded after the trip. -/
theorem row_val (ht : t < 100) (h : MidA D t Y) (r : Fin 100) (hr : r.val < t + 1) (j : Fin 4) :
    (after bodyB Y main_while0b_v235 : S100x4.Idx → EReal) (ix2 r j) = D.outBox r.val j := by
  after_reads_simp
  have hk := h.keep
  have hb := h.box
  have ho := h.carry.ob r
  refine (set_row _ _ _ t (by omega) (fun q => ?_) r j).trans ?_
  · exact wrap_val _ _ _ (by omega) _ (h.carry.k _)
  · by_cases hn : r.val = t
    · rw [if_pos hn, hn]
      simp -implicitDefEqProofs only [StableHlo.TRef.toBuf, StableHlo.TRef.ofBuf, cast_cast, cast_eq, id_eq]
      generalize (Y main_while0b_v157 : S_.Idx → BitVec 1) = p at hk ⊢
      generalize (Y main_while0b_v165 : S4.Idx → EReal) = w at hb ⊢
      pointwise
      rw [hk, hb]
      unfold Cand.outBox
      by_cases hh : THR < D.best t <;> simp [hh, Scalar.select]
    · rw [if_neg hn]
      exact ho (by omega) j

/-- The score the trip records. -/
theorem sc_val (h : MidA D t Y) (i : S_.Idx) : (after bodyB Y main_while0b_v236 : S_.Idx → EReal) i = D.outScore t := by
  have hk := h.keep
  have hb := h.best
  after_reads_simp
  simp -implicitDefEqProofs only [StableHlo.TRef.toBuf, StableHlo.TRef.ofBuf, cast_cast, cast_eq, id_eq]
  generalize (Y main_while0b_v157 : S_.Idx → BitVec 1) = p at hk ⊢
  generalize (Y main_while0b_v156 : S_.Idx → EReal) = w at hb ⊢
  pointwise
  rw [hk, hb]
  unfold Cand.outScore
  by_cases hh : THR < D.best t <;> simp [hh, Scalar.select]

/-- The place the trip records at. -/
theorem at_val (ht : t < 100) (h : MidA D t Y) (i : S_.Idx) : (after bodyB Y main_while0b_v239 : S_.Idx → BitVec 32) i = BitVec.ofNat 32 t := by
  after_reads_simp
  exact wrap_val _ _ _ (by omega) _ (h.carry.k _)

/-- What the second part of a trip works out. -/
structure MidB (D : Cand) (t : ℕ) (Z : Valuation τ sig (Elt Ideal)) : Prop where
  carry : Carry D t Z
  k1 : ∀ i, (Z main_while0b_v150 : S_.Idx → BitVec 32) i = BitVec.ofNat 32 (t + 1)
  idx : ∀ i, (Z main_while0b_v151 : S_.Idx → BitVec 32) i = BitVec.ofNat 32 (D.win t).val
  keep : ∀ i, (Z main_while0b_v157 : S_.Idx → BitVec 1) i = BitVec.ofBool (decide (THR < D.best t))
  scores : ∀ n : Fin 6300, (Z main_while0b_v227 : S6300.Idx → EReal) (ix1 n) = D.S (t + 1) n
  row : ∀ r : Fin 100, r.val < t + 1 → ∀ j : Fin 4, (Z main_while0b_v235 : S100x4.Idx → EReal) (ix2 r j) = D.outBox r.val j
  sc : ∀ i, (Z main_while0b_v236 : S_.Idx → EReal) i = D.outScore t
  at' : ∀ i, (Z main_while0b_v239 : S_.Idx → BitVec 32) i = BitVec.ofNat 32 t

/-- The second part of a trip. -/
theorem midB (ht : t < 100) (h : MidA D t Y) : MidB D t (after bodyB Y) :=
  ⟨carry_B h.carry, by have := h.k1; revert this; after_reads_simp; exact id,
    by have := h.idx; revert this; after_reads_simp; exact id,
    by have := h.keep; revert this; after_reads_simp; exact id, scores_val h, row_val ht h, sc_val h, at_val ht h⟩

variable {Z : Valuation τ sig (Elt Ideal)}

/-- The scores recorded after the trip. -/
theorem os_val (ht : t < 100) (h : MidB D t Z) (r : Fin 100) (hr : r.val < t + 1) :
    (after bodyC Z main_v133_6 : S100.Idx → EReal) (ix1 r) = D.outScore r.val := by
  after_reads_simp
  refine (set_col _ _ _ t (by omega) (fun q => ?_) r).trans ?_
  · exact h.at' _
  · by_cases hn : r.val = t
    · rw [if_pos hn, hn]
      exact h.sc _
    · rw [if_neg hn]
      exact h.carry.os r (by omega)

/-- The indices recorded after the trip. -/
theorem oi_val (ht : t < 100) (h : MidB D t Z) (r : Fin 100) (hr : r.val < t + 1) :
    (after bodyC Z main_v133_7 : S100.Idx → BitVec 32) (ix1 r)
      = if THR < D.best r.val then BitVec.ofNat 32 (D.win r.val).val else 4294967295#32 := by
  have hk := h.keep
  have hi := h.idx
  after_reads_simp
  refine (set_col _ _ _ t (by omega) (fun q => ?_) r).trans ?_
  · exact wrap_val _ _ _ (by omega) _ (h.carry.k _)
  · by_cases hn : r.val = t
    · rw [if_pos hn, hn]
      simp -implicitDefEqProofs only [StableHlo.TRef.toBuf, StableHlo.TRef.ofBuf, cast_cast, cast_eq, id_eq]
      generalize (Z main_while0b_v157 : S_.Idx → BitVec 1) = p at hk ⊢
      generalize (Z main_while0b_v151 : S_.Idx → BitVec 32) = w at hi ⊢
      pointwise
      rw [hk, hi]
      by_cases hh : THR < D.best t <;> simp [hh, Scalar.select]
    · rw [if_neg hn]
      exact h.carry.oi r (by omega)

/-- The count after the trip. -/
theorem nv_val (h : MidB D t Z) (i : S_.Idx) : (after bodyC Z main_v133_8 : S_.Idx → BitVec 32) i = D.nv (t + 1) := by
  have hk := h.keep i
  have hv := h.carry.nv i
  after_reads_simp
  refine (congrArg₂ (fun (a : BitVec 32) (b : BitVec 1) => IntOp.addi a (BitVec.setWidth 32 b)) hv hk).trans ?_
  show _ = IntOp.addi (D.nv t) (if THR < D.best t then 1#32 else 0#32)
  by_cases hh : THR < D.best t <;> simp [hh, Scalar.select]

/-- **One trip**: what the loop carries before trip `t + 1` from what it carries before trip `t`. -/
theorem carry_C (ht : t < 100) (h : MidB D t Z) : Carry D (t + 1) (after bodyC Z) := by
  refine ⟨?_, ?_, ?_, ?_, ?_, os_val ht h, oi_val ht h, nv_val h⟩
  · have := h.carry.box; revert this; after_reads_simp; exact id
  · have := h.carry.area; revert this; after_reads_simp; exact id
  · have := h.k1; revert this; after_reads_simp; exact id
  · have := h.scores; revert this; after_reads_simp; exact id
  · have := h.row; revert this; after_reads_simp; exact id

/-- The condition's operations leave the carry alone. -/
theorem carry_cond (h : Carry D t X) : Carry D t (after condOps X) := by
  refine ⟨?_, ?_, ?_, ?_, ?_, ?_, ?_, ?_⟩
  · have := h.box; revert this; after_reads_simp; exact id
  · have := h.area; revert this; after_reads_simp; exact id
  · have := h.k; revert this; after_reads_simp; exact id
  · have := h.s; revert this; after_reads_simp; exact id
  · have := h.ob; revert this; after_reads_simp; exact id
  · have := h.os; revert this; after_reads_simp; exact id
  · have := h.oi; revert this; after_reads_simp; exact id
  · have := h.nv; revert this; after_reads_simp; exact id

/-- One trip, its condition included. -/
theorem trip (ht : t < 100) (h : Carry D t X) : Carry D (t + 1) (StableHlo.afterL bodyI (after condOps X)) :=
  carry_C ht (midB ht (midA (carry_cond h)))

/-- **The loop**: what it carries after every trip count up to the hundred. -/
theorem carry_at (m : (ℓ : Loc nD τ sig) → Buf (Elt Ideal) ℓ) (c : Dev nD) (h : Carry D 0 (StableHlo.entryContents preI m c)) :
    ∀ t, t ≤ 100 → Carry D t (StableHlo.atTrip condOps bodyI (StableHlo.entryContents preI m) t c)
  | 0, _ => h
  | t + 1, ht => by
    rw [StableHlo.atTrip_succ]
    exact trip (by omega) (carry_at m c h t (by omega))

end Cert.Proof.Ref

end
-- ==== Proof.RScale.lean ====
/-
  What the reference decodes from one grid: the boxes of its cells' candidates.
-/
module

public import proofs.«01_k».proof.Proof.RTrip
public import proofs.«01_k».proof.Proof.Dec

@[expose] public section

set_option maxRecDepth 16384

noncomputable section

namespace Cert.Proof.Ref

open Cert.ReferenceIdeal Cert.ReferenceIdeal.Gen
open Idealize.ShloMosaic Idealize.ShloMosaic.TcCoe Idealize.SL.Sem
open Idealize.ShloMosaic.StableHlo (after)

variable {X : Valuation τ sig (Elt Ideal)}

/-- The box of one cell's candidate: side length `g` of the grid, the cell's column and row, the anchor's width and
height as words, and the candidate's features. -/
def cell (g : EReal) (gx gy : ℕ) (aw ah : BitVec 32) (f : Fin 85 → EReal) (j : Fin 4) : EReal :=
  (![Ideal.div (f 0 + ((gx : ℝ) : EReal)) g - Ideal.exp (f 2) * Ideal.ofBits .f32 aw * HALF,
     Ideal.div (f 1 + ((gy : ℝ) : EReal)) g - Ideal.exp (f 3) * Ideal.ofBits .f32 ah * HALF,
     Ideal.div (f 0 + ((gx : ℝ) : EReal)) g + Ideal.exp (f 2) * Ideal.ofBits .f32 aw * HALF,
     Ideal.div (f 1 + ((gy : ℝ) : EReal)) g + Ideal.exp (f 3) * Ideal.ofBits .f32 ah * HALF] : Fin 4 → EReal) j

/-- A small number's word, converted to a float, is the number. -/
theorem sit (n : ℕ) (h : n < 2 ^ 31) : FloatOps.sitofp (F := Ideal) FTy.f32 (BitVec.ofNat 32 n) = ((n : ℝ) : EReal) := by
  show (((BitVec.ofNat 32 n).toInt : ℝ) : EReal) = _
  rw [toInt_ofNat_of_lt h]
  rfl

/-- A candidate's box through its cell. -/
theorem box_eq (F : Fin 6300 → Fin 85 → EReal) (n : Fin 6300) (j : Fin 4) :
    (cand F).box n j = cell ((gsN n.val : ℝ) : EReal) (gxN n.val) (gyN n.val) (awW n.val) (ahW n.val) (F n) j := by
  match j with
  | ⟨0, _⟩ => rfl
  | ⟨1, _⟩ => rfl
  | ⟨2, _⟩ => rfl
  | ⟨3, _⟩ => rfl

/-! ### The grid of side 10 -/

/-- The columns of the cells. -/
theorem gx10 (y x : Fin 10) (b : Fin 1) : (StableHlo.upto preA X 28 main_v20 : S10x10x1.Idx → BitVec 32) (ix3 y x b) = BitVec.ofNat 32 x.val := by
  after_reads_simp
  rfl

/-- The rows of the cells. -/
theorem gy10 (y x : Fin 10) (b : Fin 1) : (StableHlo.upto preA X 28 main_v21 : S10x10x1.Idx → BitVec 32) (ix3 y x b) = BitVec.ofNat 32 y.val := by
  after_reads_simp
  rfl

/-- The boxes of the grid's candidates. -/
theorem box10 (y x : Fin 10) (a : Fin 3) (j : Fin 4) :
    (after preA X main_v37 : S1x10x10x3x4.Idx → EReal) (ix5 0 y x a j)
      = cell (Ideal.ofBits .f32 0x41200000#32) x.val y.val (lit0 (S3x2.rowMajor (ix2 a (0 : Fin 2)))) (lit0 (S3x2.rowMajor (ix2 a (1 : Fin 2))))
          (fun k => (X main_arg0 : S1x10x10x3x85.Idx → EReal) (ix5 0 y x a k)) j := by
  have hx := gx10 (X := X) y x
  have hy := gy10 (X := X) y x
  have hx' := sit x.val (by have := x.isLt; omega)
  have hy' := sit y.val (by have := y.isLt; omega)
  after_reads_simp
  pointwise
  match j with
  | ⟨0, _⟩ =>
    simp only [Nat.ofNat_pos, Nat.lt_one_iff, dite_true, hx, hx', div_two]
    rfl
  | ⟨1, _⟩ =>
    simp only [show (1 : ℕ) < 2 from by decide, show ¬ (1 : ℕ) < 1 from by decide, dite_true, dite_false, hy, hy', div_two]
    rfl
  | ⟨2, _⟩ =>
    simp only [show ¬ (2 : ℕ) < 2 from by decide, show 2 - 2 < 1 from by decide, dite_true, dite_false, hx, hx', div_two]
    rfl
  | ⟨3, _⟩ =>
    simp only [show ¬ (3 : ℕ) < 2 from by decide, show ¬ 3 - 2 < 1 from by decide, dite_true, dite_false, hy, hy', div_two]
    rfl

/-- The boxes laid in rows. -/
theorem rows10 (r : Fin 300) (j : Fin 4) :
    (StableHlo.upto preB (after preA X) 45 main_v90 : S1x300x4.Idx → EReal) (ix3 0 r j)
      = (after preA X main_v37 : S1x10x10x3x4.Idx → EReal) (ix5 0 (⟨r.val / 3 / 10, by omega⟩ : Fin 10) (⟨r.val / 3 % 10, by omega⟩ : Fin 10) (⟨r.val % 3, by omega⟩ : Fin 3) j) := by
  after_reads_simp
  refine shapeCast_apply _ _ _ _ ?_
  refine (Shape.rowMajor_val_five _).trans (Eq.trans ?_ (Shape.rowMajor_val_three _).symm)
  show ((((0 * 10 + r.val / 3 / 10) * 10 + r.val / 3 % 10) * 3 + r.val % 3) * 4 + j.val) = (0 * 300 + r.val) * 4 + j.val
  omega

/-- The confidences laid in rows. -/
theorem conf10 (r : Fin 300) :
    (StableHlo.upto preB (after preA X) 49 main_v94 : S1x300x1.Idx → EReal) (ix3 0 r 0)
      = (X main_arg0 : S1x10x10x3x85.Idx → EReal) (ix5 0 (⟨r.val / 3 / 10, by omega⟩ : Fin 10) (⟨r.val / 3 % 10, by omega⟩ : Fin 10) (⟨r.val % 3, by omega⟩ : Fin 3) 4) := by
  after_reads_simp
  refine (shapeCast_apply _ _ _ (ix5 0 (⟨r.val / 3 / 10, by omega⟩ : Fin 10) (⟨r.val / 3 % 10, by omega⟩ : Fin 10) (⟨r.val % 3, by omega⟩ : Fin 3) (0 : Fin 1)) ?_).trans ?_
  · refine (Shape.rowMajor_val_five _).trans (Eq.trans ?_ (Shape.rowMajor_val_three _).symm)
    show ((((0 * 10 + r.val / 3 / 10) * 10 + r.val / 3 % 10) * 3 + r.val % 3) * 1 + 0) = (0 * 300 + r.val) * 1 + 0
    omega
  · pointwise

/-- The class probabilities laid in rows. -/
theorem prob10 (r : Fin 300) (j : Fin 80) :
    (StableHlo.upto preB (after preA X) 53 main_v98 : S1x300x80.Idx → EReal) (ix3 0 r j)
      = (X main_arg0 : S1x10x10x3x85.Idx → EReal) (ix5 0 (⟨r.val / 3 / 10, by omega⟩ : Fin 10) (⟨r.val / 3 % 10, by omega⟩ : Fin 10) (⟨r.val % 3, by omega⟩ : Fin 3) ⟨5 + j.val, by omega⟩) := by
  after_reads_simp
  refine (shapeCast_apply _ _ _ (ix5 0 (⟨r.val / 3 / 10, by omega⟩ : Fin 10) (⟨r.val / 3 % 10, by omega⟩ : Fin 10) (⟨r.val % 3, by omega⟩ : Fin 3) j) ?_).trans ?_
  · refine (Shape.rowMajor_val_five _).trans (Eq.trans ?_ (Shape.rowMajor_val_three _).symm)
    show ((((0 * 10 + r.val / 3 / 10) * 10 + r.val / 3 % 10) * 3 + r.val % 3) * 80 + j.val) = (0 * 300 + r.val) * 80 + j.val
    omega
  · pointwise

/-! ### The grid of side 20 -/

/-- The columns of the cells. -/
theorem gx20 (y x : Fin 20) (b : Fin 1) : (StableHlo.upto preA X 56 main_v46 : S20x20x1.Idx → BitVec 32) (ix3 y x b) = BitVec.ofNat 32 x.val := by
  after_reads_simp
  rfl

/-- The rows of the cells. -/
theorem gy20 (y x : Fin 20) (b : Fin 1) : (StableHlo.upto preA X 56 main_v47 : S20x20x1.Idx → BitVec 32) (ix3 y x b) = BitVec.ofNat 32 y.val := by
  after_reads_simp
  rfl

/-- The boxes of the grid's candidates. -/
theorem box20 (y x : Fin 20) (a : Fin 3) (j : Fin 4) :
    (after preB (after preA X) main_v63 : S1x20x20x3x4.Idx → EReal) (ix5 0 y x a j)
      = cell (Ideal.ofBits .f32 0x41A00000#32) x.val y.val (lit1 (S3x2.rowMajor (ix2 a (0 : Fin 2)))) (lit1 (S3x2.rowMajor (ix2 a (1 : Fin 2))))
          (fun k => (X main_arg1 : S1x20x20x3x85.Idx → EReal) (ix5 0 y x a k)) j := by
  have hx := gx20 (X := X) y x
  have hy := gy20 (X := X) y x
  have hx' := sit x.val (by have := x.isLt; omega)
  have hy' := sit y.val (by have := y.isLt; omega)
  after_reads_simp
  pointwise
  match j with
  | ⟨0, _⟩ =>
    simp only [Nat.ofNat_pos, Nat.lt_one_iff, dite_true, hx, hx', div_two]
    rfl
  | ⟨1, _⟩ =>
    simp only [show (1 : ℕ) < 2 from by decide, show ¬ (1 : ℕ) < 1 from by decide, dite_true, dite_false, hy, hy', div_two]
    rfl
  | ⟨2, _⟩ =>
    simp only [show ¬ (2 : ℕ) < 2 from by decide, show 2 - 2 < 1 from by decide, dite_true, dite_false, hx, hx', div_two]
    rfl
  | ⟨3, _⟩ =>
    simp only [show ¬ (3 : ℕ) < 2 from by decide, show ¬ 3 - 2 < 1 from by decide, dite_true, dite_false, hy, hy', div_two]
    rfl

/-- The boxes laid in rows. -/
theorem rows20 (r : Fin 1200) (j : Fin 4) :
    (StableHlo.upto preB (after preA X) 45 main_v91 : S1x1200x4.Idx → EReal) (ix3 0 r j)
      = (after preB (after preA X) main_v63 : S1x20x20x3x4.Idx → EReal) (ix5 0 (⟨r.val / 3 / 20, by omega⟩ : Fin 20) (⟨r.val / 3 % 20, by omega⟩ : Fin 20) (⟨r.val % 3, by omega⟩ : Fin 3) j) := by
  after_reads_simp
  refine shapeCast_apply _ _ _ _ ?_
  refine (Shape.rowMajor_val_five _).trans (Eq.trans ?_ (Shape.rowMajor_val_three _).symm)
  show ((((0 * 20 + r.val / 3 / 20) * 20 + r.val / 3 % 20) * 3 + r.val % 3) * 4 + j.val) = (0 * 1200 + r.val) * 4 + j.val
  omega

/-- The confidences laid in rows. -/
theorem conf20 (r : Fin 1200) :
    (StableHlo.upto preB (after preA X) 49 main_v95 : S1x1200x1.Idx → EReal) (ix3 0 r 0)
      = (X main_arg1 : S1x20x20x3x85.Idx → EReal) (ix5 0 (⟨r.val / 3 / 20, by omega⟩ : Fin 20) (⟨r.val / 3 % 20, by omega⟩ : Fin 20) (⟨r.val % 3, by omega⟩ : Fin 3) 4) := by
  after_reads_simp
  refine (shapeCast_apply _ _ _ (ix5 0 (⟨r.val / 3 / 20, by omega⟩ : Fin 20) (⟨r.val / 3 % 20, by omega⟩ : Fin 20) (⟨r.val % 3, by omega⟩ : Fin 3) (0 : Fin 1)) ?_).trans ?_
  · refine (Shape.rowMajor_val_five _).trans (Eq.trans ?_ (Shape.rowMajor_val_three _).symm)
    show ((((0 * 20 + r.val / 3 / 20) * 20 + r.val / 3 % 20) * 3 + r.val % 3) * 1 + 0) = (0 * 1200 + r.val) * 1 + 0
    omega
  · pointwise

/-- The class probabilities laid in rows. -/
theorem prob20 (r : Fin 1200) (j : Fin 80) :
    (StableHlo.upto preB (after preA X) 53 main_v99 : S1x1200x80.Idx → EReal) (ix3 0 r j)
      = (X main_arg1 : S1x20x20x3x85.Idx → EReal) (ix5 0 (⟨r.val / 3 / 20, by omega⟩ : Fin 20) (⟨r.val / 3 % 20, by omega⟩ : Fin 20) (⟨r.val % 3, by omega⟩ : Fin 3) ⟨5 + j.val, by omega⟩) := by
  after_reads_simp
  refine (shapeCast_apply _ _ _ (ix5 0 (⟨r.val / 3 / 20, by omega⟩ : Fin 20) (⟨r.val / 3 % 20, by omega⟩ : Fin 20) (⟨r.val % 3, by omega⟩ : Fin 3) j) ?_).trans ?_
  · refine (Shape.rowMajor_val_five _).trans (Eq.trans ?_ (Shape.rowMajor_val_three _).symm)
    show ((((0 * 20 + r.val / 3 / 20) * 20 + r.val / 3 % 20) * 3 + r.val % 3) * 80 + j.val) = (0 * 1200 + r.val) * 80 + j.val
    omega
  · pointwise

/-! ### The grid of side 40 -/

/-- The columns of the cells. -/
theorem gx40 (y x : Fin 40) (b : Fin 1) : (StableHlo.upto preB (after preA X) 24 main_v72 : S40x40x1.Idx → BitVec 32) (ix3 y x b) = BitVec.ofNat 32 x.val := by
  after_reads_simp
  rfl

/-- The rows of the cells. -/
theorem gy40 (y x : Fin 40) (b : Fin 1) : (StableHlo.upto preB (after preA X) 24 main_v73 : S40x40x1.Idx → BitVec 32) (ix3 y x b) = BitVec.ofNat 32 y.val := by
  after_reads_simp
  rfl

/-- The boxes of the grid's candidates. -/
theorem box40 (y x : Fin 40) (a : Fin 3) (j : Fin 4) :
    (after preB (after preA X) main_v89 : S1x40x40x3x4.Idx → EReal) (ix5 0 y x a j)
      = cell (Ideal.ofBits .f32 0x42200000#32) x.val y.val (lit2 (S3x2.rowMajor (ix2 a (0 : Fin 2)))) (lit2 (S3x2.rowMajor (ix2 a (1 : Fin 2))))
          (fun k => (X main_arg2 : S1x40x40x3x85.Idx → EReal) (ix5 0 y x a k)) j := by
  have hx := gx40 (X := X) y x
  have hy := gy40 (X := X) y x
  have hx' := sit x.val (by have := x.isLt; omega)
  have hy' := sit y.val (by have := y.isLt; omega)
  after_reads_simp
  pointwise
  match j with
  | ⟨0, _⟩ =>
    simp only [Nat.ofNat_pos, Nat.lt_one_iff, dite_true, hx, hx', div_two]
    rfl
  | ⟨1, _⟩ =>
    simp only [show (1 : ℕ) < 2 from by decide, show ¬ (1 : ℕ) < 1 from by decide, dite_true, dite_false, hy, hy', div_two]
    rfl
  | ⟨2, _⟩ =>
    simp only [show ¬ (2 : ℕ) < 2 from by decide, show 2 - 2 < 1 from by decide, dite_true, dite_false, hx, hx', div_two]
    rfl
  | ⟨3, _⟩ =>
    simp only [show ¬ (3 : ℕ) < 2 from by decide, show ¬ 3 - 2 < 1 from by decide, dite_true, dite_false, hy, hy', div_two]
    rfl

/-- The boxes laid in rows. -/
theorem rows40 (r : Fin 4800) (j : Fin 4) :
    (StableHlo.upto preB (after preA X) 45 main_v92 : S1x4800x4.Idx → EReal) (ix3 0 r j)
      = (after preB (after preA X) main_v89 : S1x40x40x3x4.Idx → EReal) (ix5 0 (⟨r.val / 3 / 40, by omega⟩ : Fin 40) (⟨r.val / 3 % 40, by omega⟩ : Fin 40) (⟨r.val % 3, by omega⟩ : Fin 3) j) := by
  after_reads_simp
  refine shapeCast_apply _ _ _ _ ?_
  refine (Shape.rowMajor_val_five _).trans (Eq.trans ?_ (Shape.rowMajor_val_three _).symm)
  show ((((0 * 40 + r.val / 3 / 40) * 40 + r.val / 3 % 40) * 3 + r.val % 3) * 4 + j.val) = (0 * 4800 + r.val) * 4 + j.val
  omega

/-- The confidences laid in rows. -/
theorem conf40 (r : Fin 4800) :
    (StableHlo.upto preB (after preA X) 49 main_v96 : S1x4800x1.Idx → EReal) (ix3 0 r 0)
      = (X main_arg2 : S1x40x40x3x85.Idx → EReal) (ix5 0 (⟨r.val / 3 / 40, by omega⟩ : Fin 40) (⟨r.val / 3 % 40, by omega⟩ : Fin 40) (⟨r.val % 3, by omega⟩ : Fin 3) 4) := by
  after_reads_simp
  refine (shapeCast_apply _ _ _ (ix5 0 (⟨r.val / 3 / 40, by omega⟩ : Fin 40) (⟨r.val / 3 % 40, by omega⟩ : Fin 40) (⟨r.val % 3, by omega⟩ : Fin 3) (0 : Fin 1)) ?_).trans ?_
  · refine (Shape.rowMajor_val_five _).trans (Eq.trans ?_ (Shape.rowMajor_val_three _).symm)
    show ((((0 * 40 + r.val / 3 / 40) * 40 + r.val / 3 % 40) * 3 + r.val % 3) * 1 + 0) = (0 * 4800 + r.val) * 1 + 0
    omega
  · pointwise

/-- The class probabilities laid in rows. -/
theorem prob40 (r : Fin 4800) (j : Fin 80) :
    (StableHlo.upto preB (after preA X) 53 main_v100 : S1x4800x80.Idx → EReal) (ix3 0 r j)
      = (X main_arg2 : S1x40x40x3x85.Idx → EReal) (ix5 0 (⟨r.val / 3 / 40, by omega⟩ : Fin 40) (⟨r.val / 3 % 40, by omega⟩ : Fin 40) (⟨r.val % 3, by omega⟩ : Fin 3) ⟨5 + j.val, by omega⟩) := by
  after_reads_simp
  refine (shapeCast_apply _ _ _ (ix5 0 (⟨r.val / 3 / 40, by omega⟩ : Fin 40) (⟨r.val / 3 % 40, by omega⟩ : Fin 40) (⟨r.val % 3, by omega⟩ : Fin 3) j) ?_).trans ?_
  · refine (Shape.rowMajor_val_five _).trans (Eq.trans ?_ (Shape.rowMajor_val_three _).symm)
    show ((((0 * 40 + r.val / 3 / 40) * 40 + r.val / 3 % 40) * 3 + r.val % 3) * 80 + j.val) = (0 * 4800 + r.val) * 80 + j.val
    omega
  · pointwise

end Cert.Proof.Ref

end
-- ==== Proof.RPre.lean ====
/-
  What the reference's loop starts from: the decoded boxes, their areas, the starting scores and the classes.
-/
module

public import proofs.«01_k».proof.Proof.RScale

@[expose] public section

set_option maxRecDepth 16384

noncomputable section

namespace Cert.Proof.Ref

open Cert.ReferenceIdeal Cert.ReferenceIdeal.Gen
open Idealize.ShloMosaic Idealize.ShloMosaic.TcCoe Idealize.SL.Sem
open Idealize.ShloMosaic.StableHlo (after)

variable {X : Valuation τ sig (Elt Ideal)}

/-- The features that the arguments hold. -/
abbrev featOf (X : Valuation τ sig (Elt Ideal)) : Fin 6300 → Fin 85 → EReal :=
  feat (X main_arg0) (X main_arg1) (X main_arg2)

/-- The anchors' words, read from the literals: first grid. -/
theorem anchor0 (n : ℕ) (h : n < 300) :
    lit0 (S3x2.rowMajor (ix2 (⟨n % 3, by omega⟩ : Fin 3) (0 : Fin 2))) = awW n
      ∧ lit0 (S3x2.rowMajor (ix2 (⟨n % 3, by omega⟩ : Fin 3) (1 : Fin 2))) = ahW n := by
  unfold awW ahW
  rw [if_pos h, if_pos h]
  rcases (show n % 3 = 0 ∨ n % 3 = 1 ∨ n % 3 = 2 by omega) with h3 | h3 | h3 <;> simp only [h3]
  · exact (show lit0 (S3x2.rowMajor (ix2 (0 : Fin 3) (0 : Fin 2))) = _ ∧ lit0 (S3x2.rowMajor (ix2 (0 : Fin 3) (1 : Fin 2))) = _ by decide +kernel)
  · exact (show lit0 (S3x2.rowMajor (ix2 (1 : Fin 3) (0 : Fin 2))) = _ ∧ lit0 (S3x2.rowMajor (ix2 (1 : Fin 3) (1 : Fin 2))) = _ by decide +kernel)
  · exact (show lit0 (S3x2.rowMajor (ix2 (2 : Fin 3) (0 : Fin 2))) = _ ∧ lit0 (S3x2.rowMajor (ix2 (2 : Fin 3) (1 : Fin 2))) = _ by decide +kernel)

/-- The anchors' words, read from the literals: second grid. -/
theorem anchor1 (n : ℕ) (h0 : ¬ n < 300) (h : n < 1500) :
    lit1 (S3x2.rowMajor (ix2 (⟨(n - 300) % 3, by omega⟩ : Fin 3) (0 : Fin 2))) = awW n
      ∧ lit1 (S3x2.rowMajor (ix2 (⟨(n - 300) % 3, by omega⟩ : Fin 3) (1 : Fin 2))) = ahW n := by
  have e : (n - 300) % 3 = n % 3 := by omega
  unfold awW ahW
  simp only [if_neg h0, if_pos h, e]
  rcases (show n % 3 = 0 ∨ n % 3 = 1 ∨ n % 3 = 2 by omega) with h3 | h3 | h3 <;> simp only [h3]
  · exact (show lit1 (S3x2.rowMajor (ix2 (0 : Fin 3) (0 : Fin 2))) = _ ∧ lit1 (S3x2.rowMajor (ix2 (0 : Fin 3) (1 : Fin 2))) = _ by decide +kernel)
  · exact (show lit1 (S3x2.rowMajor (ix2 (1 : Fin 3) (0 : Fin 2))) = _ ∧ lit1 (S3x2.rowMajor (ix2 (1 : Fin 3) (1 : Fin 2))) = _ by decide +kernel)
  · exact (show lit1 (S3x2.rowMajor (ix2 (2 : Fin 3) (0 : Fin 2))) = _ ∧ lit1 (S3x2.rowMajor (ix2 (2 : Fin 3) (1 : Fin 2))) = _ by decide +kernel)

/-- The anchors' words, read from the literals: third grid. -/
theorem anchor2 (n : ℕ) (h0 : ¬ n < 300) (h : ¬ n < 1500) :
    lit2 (S3x2.rowMajor (ix2 (⟨(n - 1500) % 3, by omega⟩ : Fin 3) (0 : Fin 2))) = awW n
      ∧ lit2 (S3x2.rowMajor (ix2 (⟨(n - 1500) % 3, by omega⟩ : Fin 3) (1 : Fin 2))) = ahW n := by
  have e : (n - 1500) % 3 = n % 3 := by omega
  unfold awW ahW
  simp only [if_neg h0, if_neg h, e]
  rcases (show n % 3 = 0 ∨ n % 3 = 1 ∨ n % 3 = 2 by omega) with h3 | h3 | h3 <;> simp only [h3]
  · exact (show lit2 (S3x2.rowMajor (ix2 (0 : Fin 3) (0 : Fin 2))) = _ ∧ lit2 (S3x2.rowMajor (ix2 (0 : Fin 3) (1 : Fin 2))) = _ by decide +kernel)
  · exact (show lit2 (S3x2.rowMajor (ix2 (1 : Fin 3) (0 : Fin 2))) = _ ∧ lit2 (S3x2.rowMajor (ix2 (1 : Fin 3) (1 : Fin 2))) = _ by decide +kernel)
  · exact (show lit2 (S3x2.rowMajor (ix2 (2 : Fin 3) (0 : Fin 2))) = _ ∧ lit2 (S3x2.rowMajor (ix2 (2 : Fin 3) (1 : Fin 2))) = _ by decide +kernel)

/-- The word of ten. -/
theorem side10 : Ideal.ofBits .f32 0x41200000#32 = (((10 : ℕ) : ℝ) : EReal) :=
  (congrArg (Ideal.ofBits .f32) (by decide +kernel)).trans (ofBits_natW 10 (by decide))
/-- The word of twenty. -/
theorem side20 : Ideal.ofBits .f32 0x41A00000#32 = (((20 : ℕ) : ℝ) : EReal) :=
  (congrArg (Ideal.ofBits .f32) (by decide +kernel)).trans (ofBits_natW 20 (by decide))
/-- The word of forty. -/
theorem side40 : Ideal.ofBits .f32 0x42200000#32 = (((40 : ℕ) : ℝ) : EReal) :=
  (congrArg (Ideal.ofBits .f32) (by decide +kernel)).trans (ofBits_natW 40 (by decide))

/-- A candidate's features, in the first grid. -/
theorem feat0 (n : Fin 6300) (h : n.val < 300) (k : Fin 85) : featOf X n k
    = (X main_arg0 : S1x10x10x3x85.Idx → EReal) (ix5 0 ⟨n.val / 3 / 10, by omega⟩ ⟨n.val / 3 % 10, by omega⟩ ⟨n.val % 3, by omega⟩ k) :=
  dif_pos h
/-- A candidate's features, in the second grid. -/
theorem feat1 (n : Fin 6300) (h0 : ¬ n.val < 300) (h : n.val < 1500) (k : Fin 85) : featOf X n k
    = (X main_arg1 : S1x20x20x3x85.Idx → EReal) (ix5 0 ⟨(n.val - 300) / 3 / 20, by omega⟩ ⟨(n.val - 300) / 3 % 20, by omega⟩ ⟨(n.val - 300) % 3, by omega⟩ k) :=
  (dif_neg h0).trans (dif_pos h)
/-- A candidate's features, in the third grid. -/
theorem feat2 (n : Fin 6300) (h0 : ¬ n.val < 300) (h : ¬ n.val < 1500) (k : Fin 85) : featOf X n k
    = (X main_arg2 : S1x40x40x3x85.Idx → EReal) (ix5 0 ⟨(n.val - 1500) / 3 / 40, by omega⟩ ⟨(n.val - 1500) / 3 % 40, by omega⟩ ⟨(n.val - 1500) % 3, by omega⟩ k) :=
  (dif_neg h0).trans (dif_neg h)

/-- The joined boxes. -/
theorem boxes_val (n : Fin 6300) (j : Fin 4) :
    (after preC (after preB (after preA X)) main_v133_0 : S6300x4.Idx → EReal) (ix2 n j) = (cand (featOf X)).box n j := by
  have h10 := rows10 (X := X)
  have h20 := rows20 (X := X)
  have h40 := rows40 (X := X)
  have hn := n.isLt
  after_reads_simp
  simp only [id_eq]
  pointwise
  rw [box_eq]
  split
  · next h =>
    refine (h10 _ _).trans ((box10 _ _ _ _).trans ?_)
    rw [funext fun k => feat0 (X := X) n h k, side10, (anchor0 n.val h).1, (anchor0 n.val h).2]
    unfold gxN gyN gsN locN
    simp only [if_pos h]
  · next h0 =>
    split
    · next h =>
      have h1 : n.val < 1500 := by omega
      refine (h20 _ _).trans ((box20 _ _ _ _).trans ?_)
      rw [funext fun k => feat1 (X := X) n h0 h1 k, side20, (anchor1 n.val h0 h1).1, (anchor1 n.val h0 h1).2]
      unfold gxN gyN gsN locN
      simp only [if_neg h0, if_pos h1]
    · next h =>
      have h1 : ¬ n.val < 1500 := by omega
      refine (h40 _ _).trans ((box40 _ _ _ _).trans ?_)
      simp only [show n.val - 300 - 1200 = n.val - 1500 by omega]
      rw [funext fun k => feat2 (X := X) n h0 h1 k, side40, (anchor2 n.val h0 h1).1, (anchor2 n.val h0 h1).2]
      unfold gxN gyN gsN locN
      simp only [if_neg h0, if_neg h1]

/-- The confidences, spread over the table of products. -/
theorem conf_val (n j : Fin 6300) :
    (after preB (after preA X) main_v106 : S1x6300x6300.Idx → EReal) (ix3 0 n j) = featOf X n 4 := by
  have h10 := conf10 (X := X)
  have h20 := conf20 (X := X)
  have h40 := conf40 (X := X)
  have hn := n.isLt
  after_reads_simp
  pointwise
  split
  · next h =>
    exact (h10 _).trans (feat0 n h 4).symm
  · next h0 =>
    split
    · next h =>
      exact (h20 _).trans (feat1 n h0 (by omega) 4).symm
    · next h =>
      refine (h40 _).trans (Eq.trans ?_ (feat2 n h0 (by omega) 4).symm)
      simp only [show n.val - 300 - 1200 = n.val - 1500 by omega]

/-- The joined probabilities, by grid, are the features from number five on. -/
theorem prob_rows (n : Fin 6300) (j : Fin 80) :
    (if h : n.val < 300 then (StableHlo.upto preB (after preA X) 53 main_v98 : S1x300x80.Idx → EReal) (ix3 0 ⟨n.val, h⟩ j)
     else if h : n.val - 300 < 1200 then (StableHlo.upto preB (after preA X) 53 main_v99 : S1x1200x80.Idx → EReal) (ix3 0 ⟨n.val - 300, h⟩ j)
     else (StableHlo.upto preB (after preA X) 53 main_v100 : S1x4800x80.Idx → EReal) (ix3 0 ⟨n.val - 300 - 1200, by have := n.isLt; omega⟩ j))
      = prob (featOf X) n j := by
  have hn := n.isLt
  unfold prob
  split
  · next h =>
    exact (prob10 _ _).trans (feat0 n h _).symm
  · next h0 =>
    split
    · next h =>
      exact (prob20 _ _).trans (feat1 n h0 (by omega) _).symm
    · next h =>
      refine (prob40 _ _).trans (Eq.trans ?_ (feat2 n h0 (by omega) _).symm)
      simp only [show n.val - 300 - 1200 = n.val - 1500 by omega]

/-- The joined class probabilities. -/
theorem prob_val (n : Fin 6300) (j : Fin 80) :
    (after preB (after preA X) main_v102 : S6300x80.Idx → EReal) (ix2 n j) = prob (featOf X) n j := by
  have h := prob_rows (X := X) n j
  after_reads_simp
  pointwise
  exact h

/-- Every candidate's largest class probability. -/
theorem pmax_val (n : Fin 6300) :
    (after preB (after preA X) main_v105 : S1x1x6300.Idx → EReal) (ix3 0 0 n) = pmax (featOf X) n := by
  have h := prob_rows (X := X) n
  after_reads_simp
  pointwise
  rw [ofBits_ninf]
  unfold pmax
  exact congrArg (fun s : Fin 80 → EReal => Finset.fold max (⊥ : EReal) s Finset.univ) (funext h)

/-- Every candidate's class. -/
theorem cls_val (n : Fin 6300) : (after preB (after preA X) main_v103 : S6300.Idx → BitVec 32) (ix1 n)
    = BitVec.ofNat 32 ((cand (featOf X)).cls n).val := by
  have h := prob_val (X := X) n
  revert h
  after_reads_simp
  intro h
  refine (argmax_rows _ _ (fun n k => rfl) _ (fun _ => ofBits_ninf) _ (fun _ => rfl) n).trans ?_
  exact congrArg (fun s : Fin 80 → EReal => BitVec.ofNat 32 (top s).val) (funext h)

variable {Y : Valuation τ sig (Elt Ideal)}

/-- Every candidate's score: the largest product of its confidence with a largest probability. -/
theorem score_val (n : Fin 6300) (c : EReal) (p : Fin 6300 → EReal)
    (hc : ∀ j : Fin 6300, (Y main_v106 : S1x6300x6300.Idx → EReal) (ix3 0 n j) = c)
    (hp : ∀ j : Fin 6300, (Y main_v105 : S1x1x6300.Idx → EReal) (ix3 0 0 j) = p j) :
    (after preC Y main_v110 : S6300.Idx → EReal) (ix1 n) = Finset.univ.fold max ⊥ (fun j => c * p j) := by
  after_reads_simp
  pointwise
  rw [ofBits_ninf]
  exact congrArg (fun s : Fin 6300 → EReal => Finset.fold max (⊥ : EReal) s Finset.univ) (funext fun j => congrArg₂ (fun a b : EReal => a * b) (hc j) (hp j))

/-- A score that is not positive is replaced by the value of a struck-out candidate. -/
theorem start_of (v : S6300.Idx → EReal) (n : Fin 6300) (s : EReal) (h : v (ix1 n) = s) :
    select (cmpf (F := Ideal) (φ := .f32) .ogt v (broadcastInDim S6300 ![] bcast_S_S6300 (constant (F := Ideal) S_ .f32 0x00000000#32))) v
      (broadcastInDim S6300 ![] bcast_S_S6300 (constant (F := Ideal) S_ .f32 0xD01502F9#32)) (ix1 n) = if 0 < s then s else NEG := by
  pointwise
  rw [h]
  rfl

/-- The starting scores. -/
theorem start_val (n : Fin 6300) (s : EReal) (h : (after preC Y main_v110 : S6300.Idx → EReal) (ix1 n) = s) :
    (after preC Y main_v133_4 : S6300.Idx → EReal) (ix1 n) = if 0 < s then s else NEG := by
  have e : (after preC Y main_v133_4 : S6300.Idx → EReal)
      = select (cmpf (F := Ideal) (φ := .f32) .ogt (after preC Y main_v110 : S6300.Idx → EReal) (broadcastInDim S6300 ![] bcast_S_S6300 (constant (F := Ideal) S_ .f32 0x00000000#32)))
          (after preC Y main_v110 : S6300.Idx → EReal) (broadcastInDim S6300 ![] bcast_S_S6300 (constant (F := Ideal) S_ .f32 0xD01502F9#32)) := by
    after_reads_simp
    simp -implicitDefEqProofs only [StableHlo.TRef.toBuf, StableHlo.TRef.ofBuf, cast_cast, cast_eq, id_eq]
  exact (congrFun e _).trans (start_of _ n s h)

/-- The boxes' areas. -/
theorem area_val (D : Cand) (n : Fin 6300)
    (h : ∀ j : Fin 4, (after preC Y main_v133_0 : S6300x4.Idx → EReal) (ix2 n j) = D.box n j) :
    (after preC Y main_v133_1 : S6300.Idx → EReal) (ix1 n) = D.area n := by
  have h0 := h 0
  have h1 := h 1
  have h2 := h 2
  have h3 := h 3
  revert h0 h1 h2 h3
  after_reads_simp
  simp only [id_eq]
  pointwise
  intro h0 h1 h2 h3
  rw [h0, h1, h2, h3]
  rfl

/-- **What the loop starts from**: the decoded candidates, no round played. -/
theorem carry_zero : Carry (cand (featOf X)) 0 (after preC (after preB (after preA X))) := by
  refine ⟨boxes_val, fun n => area_val _ n (boxes_val n), fun i => ?_, fun n => ?_, fun r h => absurd h (Nat.not_lt_zero _),
    fun r h => absurd h (Nat.not_lt_zero _), fun r h => absurd h (Nat.not_lt_zero _), fun i => ?_⟩
  · after_reads_simp
    rfl
  · exact start_val n _ (score_val n _ _ (conf_val n) pmax_val)
  · after_reads_simp
    rfl

end Cert.Proof.Ref

end
-- ==== Proof.RPost.lean ====
/-
  What the reference's results hold after its loop, and its run as a whole.
-/
module

public import proofs.«01_k».proof.Proof.RPre

@[expose] public section

set_option maxRecDepth 16384

noncomputable section

namespace Cert.Proof.Ref

open Cert.ReferenceIdeal Cert.ReferenceIdeal.Gen
open Idealize.ShloMosaic Idealize.ShloMosaic.TcCoe Idealize.SL.Sem
open Idealize.ShloMosaic.StableHlo (after)

variable {D : Cand} {X : Valuation τ sig (Elt Ideal)}

/-- One trip leaves the classes alone. -/
theorem cls_trip : (StableHlo.afterL bodyI (after condOps X) main_v103) = X main_v103 := by
  show after bodyC (after bodyB (after bodyA (after condOps X))) main_v103 = _
  after_reads_simp

/-- After every trip the classes are those of the loop's start. -/
theorem cls_at (m : (ℓ : Loc nD τ sig) → Buf (Elt Ideal) ℓ) (c : Dev nD) : ∀ t,
    StableHlo.atTrip condOps bodyI (StableHlo.entryContents preI m) t c main_v103 = StableHlo.entryContents preI m c main_v103
  | 0 => rfl
  | t + 1 => by
    rw [StableHlo.atTrip_succ, cls_trip, cls_at m c t]

/-- The operations between the loading of the classes and the loop leave them alone. -/
theorem cls_C (Y : Valuation τ sig (Elt Ideal)) : after preC Y main_v103 = Y main_v103 := by
  after_reads_simp

/-- The boxes kept. -/
theorem out_boxes (h : Carry D 100 X) :
    (after postB (after postA X) main_v146 : S1x100x4.Idx → EReal) = fun i => D.outBox (i 1).val (i 2) := by
  funext i
  obtain ⟨r, j, rfl⟩ : ∃ (r : Fin 100) (j : Fin 4), i = ix3 (0 : Fin 1) r j :=
    ⟨i 1, i 2, (eq_ix3 i).trans (by rw [Subsingleton.elim (α := Fin 1) (i 0) 0])⟩
  have e := h.ob r r.isLt j
  after_reads_simp
  pointwise
  exact e

/-- The scores kept. -/
theorem out_scores (h : Carry D 100 X) :
    (after postB (after postA X) main_v147 : S1x100.Idx → EReal) = fun i => D.outScore (i 1).val := by
  funext i
  obtain ⟨r, rfl⟩ : ∃ r : Fin 100, i = ix2 (0 : Fin 1) r :=
    ⟨i 1, (eq_ix2 i).trans (by rw [Subsingleton.elim (α := Fin 1) (i 0) 0])⟩
  have e := h.os r r.isLt
  after_reads_simp
  pointwise
  exact e

/-- How many rounds counted. -/
theorem out_nv (h : Carry D 100 X) : (after postB (after postA X) main_v149 : S1.Idx → BitVec 32) = fun _ => D.nv 100 := by
  funext i
  have e := h.nv
  after_reads_simp
  refine (shapeCast_apply _ _ _ (ix0 : S_.Idx) ?_).trans (e _)
  rw [s1_eq i]
  exact (Nat.lt_one_iff.1 (show (S_.rowMajor ix0).val < 1 from (S_.rowMajor ix0).isLt)).trans (Shape.rowMajor_val_one (ix1 (0 : Fin 1))).symm

/-- The signed maximum of a small number and zero is the number. -/
theorem maxsi_nat (n : ℕ) (hn : n < 2 ^ 31) : IntOp.maxsi (BitVec.ofNat 32 n) 0#32 = BitVec.ofNat 32 n := by
  unfold IntOp.maxsi
  split
  · rfl
  · next h =>
    have h0 : n = 0 := by
      by_contra hne
      refine h (BitVec.slt_iff_toInt_lt.mpr ?_)
      rw [toInt_ofNat_of_lt hn]
      show (0 : ℤ) < n
      omega
    rw [h0]

/-- The place looked up in the classes: the winner's, or the first where the round did not count. -/
theorem look_val (h : Carry D 100 X) (r : Fin 100) :
    (after postA X main_v142 : S100.Idx → BitVec 32) (ix1 r) = if THR < D.best r.val then BitVec.ofNat 32 (D.win r.val).val else 0#32 := by
  have e := h.oi r r.isLt
  have hw := win_lt D r.val
  after_reads_simp
  generalize (X main_v133_7 : S100.Idx → BitVec 32) = v at e ⊢
  pointwise
  rw [e]
  by_cases hh : THR < D.best r.val
  · rw [if_pos hh, if_pos hh, maxsi_nat _ hw]
    change Scalar.select (BitVec.ofBool (decide ((BitVec.ofNat 32 (D.win r.val).val).toInt < (0#32 : BitVec 32).toInt))) _ _ = _
    rw [toInt_ofNat_of_lt hw]
    have : ¬ ((D.win r.val).val : ℤ) < (0#32 : BitVec 32).toInt := by
      show ¬ ((D.win r.val).val : ℤ) < 0
      omega
    rw [decide_eq_false this]
    rfl
  · rw [if_neg hh, if_neg hh]
    rfl

/-- Whether a winner was recorded. -/
theorem seen_val (h : Carry D 100 X) (r : Fin 100) :
    (after postA X main_v135 : S100.Idx → BitVec 1) (ix1 r) = BitVec.ofBool (decide (THR < D.best r.val)) := by
  have e := h.oi r r.isLt
  have hw := win_lt D r.val
  after_reads_simp
  generalize (X main_v133_7 : S100.Idx → BitVec 32) = v at e ⊢
  pointwise
  rw [e]
  by_cases hh : THR < D.best r.val
  · rw [if_pos hh]
    change BitVec.ofBool (decide ((0#32 : BitVec 32).toInt ≤ (BitVec.ofNat 32 (D.win r.val).val).toInt)) = _
    rw [toInt_ofNat_of_lt hw]
    have : (0#32 : BitVec 32).toInt ≤ ((D.win r.val).val : ℤ) := by
      show (0 : ℤ) ≤ ((D.win r.val).val : ℤ)
      omega
    rw [decide_eq_true this, decide_eq_true hh]
  · rw [if_neg hh, decide_eq_false hh]
    rfl

/-- The lookup: a recorded winner's class, zero where none was recorded. -/
theorem lookup (p : S100.Idx → BitVec 1) (w : S100.Idx → BitVec 32) (x : S6300.Idx → BitVec 32) (r : Fin 100)
    (hp : p (ix1 r) = BitVec.ofBool (decide (THR < D.best r.val)))
    (hw : w (ix1 r) = if THR < D.best r.val then BitVec.ofNat 32 (D.win r.val).val else 0#32)
    (hx : ∀ n : Fin 6300, x (ix1 n) = BitVec.ofNat 32 (D.cls n).val) :
    broadcastInDim S1x100 ![1] bcast_S100_S1x100_1
      (select p (Host.gather gather_S6300_S100x1_S100_n_0_n_n_0_1_1 x (broadcastInDim S100x1 ![0] bcast_S100_S100x1_0 w))
        (broadcastInDim S100 ![] bcast_S_S100 (constantI S_ 32 0#32))) (ix2 (0 : Fin 1) r) = D.outCls r.val := by
  pointwise
  rw [hp]
  unfold Cand.outCls
  by_cases hh : THR < D.best r.val
  · rw [if_pos hh, decide_eq_true hh]
    refine (Routing.gather_take1 (N := 6300) (n := 100) _ rfl rfl rfl rfl x _ r (D.win r.val) ?_ (by norm_num)).trans (hx _)
    rw [if_pos hh] at hw
    exact (congrArg w (funext fun a => by match a with | ⟨0, _⟩ => rfl)).trans hw
  · rw [if_neg hh, decide_eq_false hh]
    rfl

/-- The classes kept. -/
theorem out_cls (h : Carry D 100 X)
    (hc : ∀ n : Fin 6300, (X main_v103 : S6300.Idx → BitVec 32) (ix1 n) = BitVec.ofNat 32 (D.cls n).val) :
    (after postB (after postA X) main_v148 : S1x100.Idx → BitVec 32) = fun i => D.outCls (i 1).val := by
  funext i
  obtain ⟨r, rfl⟩ : ∃ r : Fin 100, i = ix2 (0 : Fin 1) r :=
    ⟨i 1, (eq_ix2 i).trans (by rw [Subsingleton.elim (α := Fin 1) (i 0) 0])⟩
  have e1 := look_val h r
  have e2 := seen_val h r
  revert e1 e2
  after_reads_simp
  intro e1 e2
  simp -implicitDefEqProofs only [StableHlo.TRef.toBuf, StableHlo.TRef.ofBuf, cast_cast, cast_eq, id_eq]
  exact lookup _ _ _ r e2 e1 hc

/-- **The reference's run**: its results are those of the candidates decoded from its arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      let D := cand (feat (m ((c.tc : Thread nD τ).loc main_arg0)) (m ((c.tc : Thread nD τ).loc main_arg1)) (m ((c.tc : Thread nD τ).loc main_arg2)))
      r.2.mem ((c.tc : Thread nD τ).loc main_v146) = (fun i => D.outBox (i 1).val (i 2))
      ∧ r.2.mem ((c.tc : Thread nD τ).loc main_v147) = (fun i => D.outScore (i 1).val)
      ∧ r.2.mem ((c.tc : Thread nD τ).loc main_v148) = (fun i => D.outCls (i 1).val)
      ∧ r.2.mem ((c.tc : Thread nD τ).loc main_v149) = (fun _ => D.nv 100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h => ?_) (run m ρ)
  intro c
  have h' := args_final m c
  have hk := carry_cond (carry_at (D := cand (featOf (StableHlo.launchContents m c))) m c carry_zero 100 le_rfl)
  have hcls : ∀ n : Fin 6300, (after condOps (StableHlo.atTrip condOps bodyI (StableHlo.entryContents preI m) 100 c) main_v103 : S6300.Idx → BitVec 32) (ix1 n)
      = BitVec.ofNat 32 ((cand (featOf (StableHlo.launchContents m c))).cls n).val := by
    intro n
    have e1 : after condOps (StableHlo.atTrip condOps bodyI (StableHlo.entryContents preI m) 100 c) main_v103
        = StableHlo.atTrip condOps bodyI (StableHlo.entryContents preI m) 100 c main_v103 := by after_reads_simp
    have e2 := (cls_at m c 100).trans (cls_C (after preB (after preA (StableHlo.launchContents m c))))
    exact (congrFun (e1.trans e2) (ix1 n)).trans (cls_val n)
  exact ⟨(h c main_v146 rfl).trans (out_boxes hk), (h c main_v147 rfl).trans (out_scores hk),
    (h c main_v148 rfl).trans (out_cls hk hcls), (h c main_v149 rfl).trans (out_nv hk),
    (h c main_arg0 rfl).trans h'.1, (h c main_arg1 rfl).trans h'.2.1, (h c main_arg2 rfl).trans h'.2.2⟩

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KRun
public import proofs.«01_k».proof.Proof.RPost
public import Idealize.ShloMosaic.Adequacy
public import Idealize.ShloMosaic.Init

@[expose] public section

noncomputable section

namespace Cert.Proof

open Idealize.ShloMosaic Idealize.SL.Sem Cert.Kernel

/-- From the same arguments the kernel and the reference leave the same four results, equal as extended reals: both
play the same hundred rounds over the same decoded candidates. -/
theorem values : Cert.algebraic_KernelIdeal_ReferenceIdeal := by
  intro m g m' g' _ hm
  refine ⟨fun c => (fun i => (kcand m c).outBox (i 1).val (i 2)), fun c => (fun i => (kcand m c).outScore (i 1).val),
    fun c => (fun i => (kcand m c).outCls (i 1).val), fun c => (fun _ => (kcand m c).nv 100), kernel_run m g, ?_⟩
  refine (θ_run _ _ _).mono (fun r h => ?_) (Ref.ref_run m' g')
  intro c
  have e : cand (feat (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))) = kcand m c := by
    rw [(hm c).1, (hm c).2.1, (hm c).2.2]
  have h' := h c
  simp only [e] at h'
  exact h'

/-- The programs run to their end, leave their arguments and count nothing; no operation is rewritten for the exact reading;
and the kernel's results are the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Ref.frame m ρ,
  trivial, values⟩

end Cert.Proof

end
